-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨4, ![1, 1024, 16, 128]⟩ ⟨4, ![1, 4096, 16, 128]⟩ (Layout.meshBlock [2, 4, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .f32) (main_arg1 : FVec F S1x1024x16x128 .f32) (main_arg2 : FVec F S1x1024x16x128 .f32) : IVec S_ 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_c : IVec S_ 1 := constantI S_ 1 1#1
  let main_v3 : IVec S_ 1 := (fun x v => Host.reduce IntOp.andi x v reducesTo_S1x1024x16x128_S_d0_1_2_3 h_S_) main_v2 main_c
  let main_v4 : FVec F S1x1024x16x128 .f32 := Host.absf main_arg1
  let main_cst_0 : FVec F S_ .f32 := constant S_ .f32 0x7F800000#32
  let main_v5 : FVec F S1x1024x16x128 .f32 := broadcastInDim S1x1024x16x128 ![] bcast_S_S1x1024x16x128 main_cst_0
  let main_v6 : IVec S1x1024x16x128 1 := cmpf .olt main_v4 main_v5
  let main_c_1 : IVec S_ 1 := constantI S_ 1 1#1
  let main_v7 : IVec S_ 1 := (fun x v => Host.reduce IntOp.andi x v reducesTo_S1x1024x16x128_S_d0_1_2_3 h_S_) main_v6 main_c_1
  let main_v8 : IVec S_ 1 := andi main_v3 main_v7
  main_v8
-- ==== Pre_finite_ReferenceIdeal.lean ====
abbrev S1x4096x16x128 : Shape := ⟨4, ![1, 4096, 16, 128]⟩
abbrev S_ : Shape := ⟨0, ![]⟩

class Facts : Prop where
  bcast_S_S1x4096x16x128 : S_.BroadcastsInDim S1x4096x16x128 (![] : Fin 0 → Fin S1x4096x16x128.rank)
  reducesTo_S1x4096x16x128_S_d0_1_2_3 : S1x4096x16x128.ReducesTo [0, 1, 2, 3] S_
  h_S_ : 0 < S_.numel

variable [Facts]

def fn {F : FTy → Type} [FloatOps F] (main_arg0 : FVec F S1x4096x16x128 .f32) (main_arg1 : FVec F S1x4096x16x128 .f32) (main_arg2 : FVec F S1x4096x16x128 .f32) : IVec S_ 1 :=
  let main_v0 : FVec F S1x4096x16x128 .f32 := Host.absf main_arg0
  let main_cst : FVec F S_ .f32 := constant S_ .f32 0x7F800000#32
  let main_v1 : FVec F S1x4096x16x128 .f32 := broadcastInDim S1x4096x16x128 ![] bcast_S_S1x4096x16x128 main_cst
  let main_v2 : IVec S1x4096x16x128 1 := cmpf .olt main_v0 main_v1
  let main_c : IVec S_ 1 := constantI S_ 1 1#1
  let main_v3 : IVec S_ 1 := (fun x v => Host.reduce IntOp.andi x v reducesTo_S1x4096x16x128_S_d0_1_2_3 h_S_) main_v2 main_c
  let main_v4 : FVec F S1x4096x16x128 .f32 := Host.absf main_arg1
  let main_cst_0 : FVec F S_ .f32 := constant S_ .f32 0x7F800000#32
  let main_v5 : FVec F S1x4096x16x128 .f32 := broadcastInDim S1x4096x16x128 ![] bcast_S_S1x4096x16x128 main_cst_0
  let main_v6 : IVec S1x4096x16x128 1 := cmpf .olt main_v4 main_v5
  let main_c_1 : IVec S_ 1 := constantI S_ 1 1#1
  let main_v7 : IVec S_ 1 := (fun x v => Host.reduce IntOp.andi x v reducesTo_S1x4096x16x128_S_d0_1_2_3 h_S_) main_v6 main_c_1
  let main_v8 : IVec S_ 1 := andi main_v3 main_v7
  main_v8
-- ==== Kernel.lean ====
abbrev S1x1024x16x128 : Shape := ⟨4, ![1, 1024, 16, 128]⟩
abbrev S1024x16x128 : Shape := ⟨3, ![1024, 16, 128]⟩
abbrev S16x1024x128 : Shape := ⟨3, ![16, 1024, 128]⟩
abbrev S2x4x2x2x1024x128 : Shape := ⟨6, ![2, 4, 2, 2, 1024, 128]⟩
abbrev S16x1024x1 : Shape := ⟨3, ![16, 1024, 1]⟩
abbrev S16 : Shape := ⟨1, ![16]⟩
abbrev S2 : Shape := ⟨1, ![2]⟩
abbrev S4 : Shape := ⟨1, ![4]⟩
abbrev S_ : Shape := ⟨0, ![]⟩
abbrev S1 : Shape := ⟨1, ![1]⟩
abbrev S1x1x1x2x1024x128 : Shape := ⟨6, ![1, 1, 1, 2, 1024, 128]⟩
abbrev S2x1024x128 : Shape := ⟨3, ![2, 1024, 128]⟩
abbrev S1x4x2x2x1024x128 : Shape := ⟨6, ![1, 4, 2, 2, 1024, 128]⟩
abbrev S4x2x2x1024x128 : Shape := ⟨5, ![4, 2, 2, 1024, 128]⟩
abbrev S1x1024x128 : Shape := ⟨3, ![1, 1024, 128]⟩
abbrev S1024x128 : Shape := ⟨2, ![1024, 128]⟩
abbrev S1x1x1x1x1024x128 : Shape := ⟨6, ![1, 1, 1, 1, 1024, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1x1x2x2x1024x128 : Shape := ⟨6, ![1, 1, 2, 2, 1024, 128]⟩
abbrev S2x2x1024x128 : Shape := ⟨4, ![2, 2, 1024, 128]⟩

abbrev nBuf : Space → Nat
  | .hbm => 14
  | .vmem => 5
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1024x16x128, .f32⟩
  | .hbm, ⟨4, _⟩ => ⟨S16x1024x128, .f32⟩
  | .hbm, ⟨5, _⟩ => ⟨S1024x16x128, .f32⟩
  | .hbm, ⟨6, _⟩ => ⟨S16x1024x128, .f32⟩
  | .hbm, ⟨7, _⟩ => ⟨S16x1024x128, .bf16⟩
  | .hbm, ⟨8, _⟩ => ⟨S1024x16x128, .f32⟩
  | .hbm, ⟨9, _⟩ => ⟨S16x1024x128, .f32⟩
  | .hbm, ⟨10, _⟩ => ⟨S16x1024x128, .bf16⟩
  | .hbm, ⟨11, _⟩ => ⟨S16x1024x128, .f32⟩
  | .hbm, ⟨12, _⟩ => ⟨S1024x16x128, .f32⟩
  | .hbm, ⟨13, _⟩ => ⟨S1x1024x16x128, .f32⟩
  | .local _ .vmem, ⟨0, _⟩ => ⟨S16x1024x128, .f32⟩
  | .local _ .vmem, ⟨1, _⟩ => ⟨S16x1024x128, .f32⟩
  | .local _ .vmem, ⟨2, _⟩ => ⟨S2x4x2x2x1024x128, .bf16⟩
  | .local _ .vmem, ⟨3, _⟩ => ⟨S2x4x2x2x1024x128, .bf16⟩
  | .local _ .vmem, ⟨4, _⟩ => ⟨S16x1024x1, .f32⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 3 42 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_155 : BitVec 32 := 16#32
  let v95 : BitVec 32 := Scalar.muli v2 c16_i32_155
  let v96 : BitVec 32 := Scalar.addi c0_i32_156 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v97 : BitVec 32 := Scalar.muli v5 c4_i32_157
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_158 : BitVec 32 := 1#32
  let v99 : BitVec 32 := Scalar.muli v13 c1_i32_158
  let v100 : BitVec 32 := Scalar.addi v98 v99
  v100.toNat
def k0_dev2 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v101 : BitVec 32 := Scalar.muli v2 c16_i32_160
  let v102 : BitVec 32 := Scalar.addi c0_i32_161 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v103 : BitVec 32 := Scalar.muli v5 c4_i32_162
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_163 : BitVec 32 := 1#32
  let v105 : BitVec 32 := Scalar.muli v10 c1_i32_163
  let v106 : BitVec 32 := Scalar.addi v104 v105
  v106.toNat
def k0_dev3 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v187 : BitVec 32 := Scalar.muli v2 c16_i32_329
  let v188 : BitVec 32 := Scalar.addi c0_i32_330 v187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v189 : BitVec 32 := Scalar.muli v5 c4_i32_331
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_332 : BitVec 32 := 1#32
  let v191 : BitVec 32 := Scalar.muli v10 c1_i32_332
  let v192 : BitVec 32 := Scalar.addi v190 v191
  v192.toNat
def k0_dev4 (d0 : Dev nD) : Nat :=
  let c0_i32_348 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_347 : BitVec 32 := 16#32
  let v201 : BitVec 32 := Scalar.muli v2 c16_i32_347
  let v202 : BitVec 32 := Scalar.addi c0_i32_348 v201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_349 : BitVec 32 := 4#32
  let v203 : BitVec 32 := Scalar.muli v5 c4_i32_349
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_350 : BitVec 32 := 1#32
  let v205 : BitVec 32 := Scalar.muli v13 c1_i32_350
  let v206 : BitVec 32 := Scalar.addi v204 v205
  v206.toNat
@[reducible] def k0_t1_loop : Scf.Loop 32 :=
  let c0_i32_361 : BitVec 32 := 0#32
  let c2_i32_362 : BitVec 32 := 2#32
  let v215 : BitVec 32 := Scalar.addi c0_i32_361 c2_i32_362
  let c1_i32_363 : BitVec 32 := 1#32
  ⟨c0_i32_361, v215, c1_i32_363⟩
def k0_off1 (k0_t1 : Fin k0_t1_loop.trips) : Fin 3 → Nat :=
  let c0_i32_1097 : BitVec 32 := 0#32
  let c0_i32_361 : BitVec 32 := 0#32
  let c1_i32_363 : BitVec 32 := 1#32
  let arg18 : BitVec 32 := Scf.iv c0_i32_361 c1_i32_363 k0_t1
  let v628 : BitVec 32 := Scalar.addi c0_i32_1097 arg18
  let v629 : Index := Scalar.indexCast v628
  let c0 : Index := 0#32
  let c0_1098 : Index := 0#32
  ![v629.toNat, 0, 0]
def k0_off2 (k0_t1 : Fin k0_t1_loop.trips) : Fin 6 → Nat :=
  let c0_1099 : Index := 0#32
  let c0_1100 : Index := 0#32
  let c0_1101 : Index := 0#32
  let c0_i32_361 : BitVec 32 := 0#32
  let c1_i32_363 : BitVec 32 := 1#32
  let arg18 : BitVec 32 := Scf.iv c0_i32_361 c1_i32_363 k0_t1
  let v635 : Index := Scalar.indexCast arg18
  let c0_1102 : Index := 0#32
  let c0_1103 : Index := 0#32
  ![0, 0, 0, v635.toNat, 0, 0]
def k0_off3 (k0_t1 : Fin k0_t1_loop.trips) : Fin 6 → Nat :=
  let c0_1104 : Index := 0#32
  let c0_1105 : Index := 0#32
  let c1 : Index := 1#32
  let c0_i32_361 : BitVec 32 := 0#32
  let c1_i32_363 : BitVec 32 := 1#32
  let arg18 : BitVec 32 := Scf.iv c0_i32_361 c1_i32_363 k0_t1
  let v638 : Index := Scalar.indexCast arg18
  let c0_1106 : Index := 0#32
  let c0_1107 : Index := 0#32
  ![0, 0, 1, v638.toNat, 0, 0]
def k0_off4 (k0_t1 : Fin k0_t1_loop.trips) : Fin 3 → Nat :=
  let c0_i32_1097 : BitVec 32 := 0#32
  let c0_i32_361 : BitVec 32 := 0#32
  let c1_i32_363 : BitVec 32 := 1#32
  let arg18 : BitVec 32 := Scf.iv c0_i32_361 c1_i32_363 k0_t1
  let v628 : BitVec 32 := Scalar.addi c0_i32_1097 arg18
  let v651 : Index := Scalar.indexCast v628
  let c0_1113 : Index := 0#32
  let c0_1114 : Index := 0#32
  ![v651.toNat, 0, 0]
@[reducible] def k0_t2_loop : Scf.Loop 32 :=
  let c0_i32_365 : BitVec 32 := 0#32
  let c2_i32_366 : BitVec 32 := 2#32
  let v216 : BitVec 32 := Scalar.addi c0_i32_365 c2_i32_366
  let c1_i32_367 : BitVec 32 := 1#32
  ⟨c0_i32_365, v216, c1_i32_367⟩
def k0_off5 (k0_t2 : Fin k0_t2_loop.trips) : Fin 3 → Nat :=
  let c2_i32_1097 : BitVec 32 := 2#32
  let c0_i32_365 : BitVec 32 := 0#32
  let c1_i32_367 : BitVec 32 := 1#32
  let arg18 : BitVec 32 := Scf.iv c0_i32_365 c1_i32_367 k0_t2
  let v628 : BitVec 32 := Scalar.addi c2_i32_1097 arg18
  let v629 : Index := Scalar.indexCast v628
  let c0 : Index := 0#32
  let c0_1098 : Index := 0#32
  ![v629.toNat, 0, 0]
def k0_off6 (k0_t2 : Fin k0_t2_loop.trips) : Fin 6 → Nat :=
  let c0_1099 : Index := 0#32
  let c1 : Index := 1#32
  let c0_1100 : Index := 0#32
  let c0_i32_365 : BitVec 32 := 0#32
  let c1_i32_367 : BitVec 32 := 1#32
  let arg18 : BitVec 32 := Scf.iv c0_i32_365 c1_i32_367 k0_t2
  let v635 : Index := Scalar.indexCast arg18
  let c0_1101 : Index := 0#32
  let c0_1102 : Index := 0#32
  ![0, 1, 0, v635.toNat, 0, 0]
def k0_off7 (k0_t2 : Fin k0_t2_loop.trips) : Fin 6 → Nat :=
  let c0_1103 : Index := 0#32
  let c1_1104 : Index := 1#32
  let c1_1105 : Index := 1#32
  let c0_i32_365 : BitVec 32 := 0#32
  let c1_i32_367 : BitVec 32 := 1#32
  let arg18 : BitVec 32 := Scf.iv c0_i32_365 c1_i32_367 k0_t2
  let v638 : Index := Scalar.indexCast arg18
  let c0_1106 : Index := 0#32
  let c0_1107 : Index := 0#32
  ![0, 1, 1, v638.toNat, 0, 0]
def k0_off8 (k0_t2 : Fin k0_t2_loop.trips) : Fin 3 → Nat :=
  let c2_i32_1097 : BitVec 32 := 2#32
  let c0_i32_365 : BitVec 32 := 0#32
  let c1_i32_367 : BitVec 32 := 1#32
  let arg18 : BitVec 32 := Scf.iv c0_i32_365 c1_i32_367 k0_t2
  let v628 : BitVec 32 := Scalar.addi c2_i32_1097 arg18
  let v651 : Index := Scalar.indexCast v628
  let c0_1113 : Index := 0#32
  let c0_1114 : Index := 0#32
  ![v651.toNat, 0, 0]
@[reducible] def k0_t3_loop : Scf.Loop 32 :=
  let c0_i32_369 : BitVec 32 := 0#32
  let c2_i32_370 : BitVec 32 := 2#32
  let v217 : BitVec 32 := Scalar.addi c0_i32_369 c2_i32_370
  let c1_i32_371 : BitVec 32 := 1#32
  ⟨c0_i32_369, v217, c1_i32_371⟩
def k0_off9 (k0_t3 : Fin k0_t3_loop.trips) : Fin 3 → Nat :=
  let c4_i32_1097 : BitVec 32 := 4#32
  let c0_i32_369 : BitVec 32 := 0#32
  let c1_i32_371 : BitVec 32 := 1#32
  let arg18 : BitVec 32 := Scf.iv c0_i32_369 c1_i32_371 k0_t3
  let v628 : BitVec 32 := Scalar.addi c4_i32_1097 arg18
  let v629 : Index := Scalar.indexCast v628
  let c0 : Index := 0#32
  let c0_1098 : Index := 0#32
  ![v629.toNat, 0, 0]
def k0_off10 (k0_t3 : Fin k0_t3_loop.trips) : Fin 6 → Nat :=
  let c0_1099 : Index := 0#32
  let c2 : Index := 2#32
  let c0_1100 : Index := 0#32
  let c0_i32_369 : BitVec 32 := 0#32
  let c1_i32_371 : BitVec 32 := 1#32
  let arg18 : BitVec 32 := Scf.iv c0_i32_369 c1_i32_371 k0_t3
  let v635 : Index := Scalar.indexCast arg18
  let c0_1101 : Index := 0#32
  let c0_1102 : Index := 0#32
  ![0, 2, 0, v635.toNat, 0, 0]
def k0_off11 (k0_t3 : Fin k0_t3_loop.trips) : Fin 6 → Nat :=
  let c0_1103 : Index := 0#32
  let c2_1104 : Index := 2#32
  let c1 : Index := 1#32
  let c0_i32_369 : BitVec 32 := 0#32
  let c1_i32_371 : BitVec 32 := 1#32
  let arg18 : BitVec 32 := Scf.iv c0_i32_369 c1_i32_371 k0_t3
  let v638 : Index := Scalar.indexCast arg18
  let c0_1105 : Index := 0#32
  let c0_1106 : Index := 0#32
  ![0, 2, 1, v638.toNat, 0, 0]
def k0_off12 (k0_t3 : Fin k0_t3_loop.trips) : Fin 3 → Nat :=
  let c4_i32_1097 : BitVec 32 := 4#32
  let c0_i32_369 : BitVec 32 := 0#32
  let c1_i32_371 : BitVec 32 := 1#32
  let arg18 : BitVec 32 := Scf.iv c0_i32_369 c1_i32_371 k0_t3
  let v628 : BitVec 32 := Scalar.addi c4_i32_1097 arg18
  let v651 : Index := Scalar.indexCast v628
  let c0_1112 : Index := 0#32
  let c0_1113 : Index := 0#32
  ![v651.toNat, 0, 0]
@[reducible] def k0_t4_loop : Scf.Loop 32 :=
  let c0_i32_373 : BitVec 32 := 0#32
  let c2_i32_374 : BitVec 32 := 2#32
  let v218 : BitVec 32 := Scalar.addi c0_i32_373 c2_i32_374
  let c1_i32_375 : BitVec 32 := 1#32
  ⟨c0_i32_373, v218, c1_i32_375⟩
def k0_off13 (k0_t4 : Fin k0_t4_loop.trips) : Fin 3 → Nat :=
  let c6_i32_1097 : BitVec 32 := 6#32
  let c0_i32_373 : BitVec 32 := 0#32
  let c1_i32_375 : BitVec 32 := 1#32
  let arg18 : BitVec 32 := Scf.iv c0_i32_373 c1_i32_375 k0_t4
  let v628 : BitVec 32 := Scalar.addi c6_i32_1097 arg18
  let v629 : Index := Scalar.indexCast v628
  let c0 : Index := 0#32
  let c0_1098 : Index := 0#32
  ![v629.toNat, 0, 0]
def k0_off14 (k0_t4 : Fin k0_t4_loop.trips) : Fin 6 → Nat :=
  let c0_1099 : Index := 0#32
  let c3 : Index := 3#32
  let c0_1100 : Index := 0#32
  let c0_i32_373 : BitVec 32 := 0#32
  let c1_i32_375 : BitVec 32 := 1#32
  let arg18 : BitVec 32 := Scf.iv c0_i32_373 c1_i32_375 k0_t4
  let v635 : Index := Scalar.indexCast arg18
  let c0_1101 : Index := 0#32
  let c0_1102 : Index := 0#32
  ![0, 3, 0, v635.toNat, 0, 0]
def k0_off15 (k0_t4 : Fin k0_t4_loop.trips) : Fin 6 → Nat :=
  let c0_1103 : Index := 0#32
  let c3_1104 : Index := 3#32
  let c1 : Index := 1#32
  let c0_i32_373 : BitVec 32 := 0#32
  let c1_i32_375 : BitVec 32 := 1#32
  let arg18 : BitVec 32 := Scf.iv c0_i32_373 c1_i32_375 k0_t4
  let v638 : Index := Scalar.indexCast arg18
  let c0_1105 : Index := 0#32
  let c0_1106 : Index := 0#32
  ![0, 3, 1, v638.toNat, 0, 0]
def k0_off16 (k0_t4 : Fin k0_t4_loop.trips) : Fin 3 → Nat :=
  let c6_i32_1097 : BitVec 32 := 6#32
  let c0_i32_373 : BitVec 32 := 0#32
  let c1_i32_375 : BitVec 32 := 1#32
  let arg18 : BitVec 32 := Scf.iv c0_i32_373 c1_i32_375 k0_t4
  let v628 : BitVec 32 := Scalar.addi c6_i32_1097 arg18
  let v651 : Index := Scalar.indexCast v628
  let c0_1112 : Index := 0#32
  let c0_1113 : Index := 0#32
  ![v651.toNat, 0, 0]
@[reducible] def k0_t5_loop : Scf.Loop 32 :=
  let c0_i32_377 : BitVec 32 := 0#32
  let c2_i32_378 : BitVec 32 := 2#32
  let v219 : BitVec 32 := Scalar.addi c0_i32_377 c2_i32_378
  let c1_i32_379 : BitVec 32 := 1#32
  ⟨c0_i32_377, v219, c1_i32_379⟩
def k0_off17 (k0_t5 : Fin k0_t5_loop.trips) : Fin 3 → Nat :=
  let c8_i32_1097 : BitVec 32 := 8#32
  let c0_i32_377 : BitVec 32 := 0#32
  let c1_i32_379 : BitVec 32 := 1#32
  let arg18 : BitVec 32 := Scf.iv c0_i32_377 c1_i32_379 k0_t5
  let v628 : BitVec 32 := Scalar.addi c8_i32_1097 arg18
  let v629 : Index := Scalar.indexCast v628
  let c0 : Index := 0#32
  let c0_1098 : Index := 0#32
  ![v629.toNat, 0, 0]
def k0_off18 (k0_t5 : Fin k0_t5_loop.trips) : Fin 6 → Nat :=
  let c0_1099 : Index := 0#32
  let c0_1100 : Index := 0#32
  let c0_1101 : Index := 0#32
  let c0_i32_377 : BitVec 32 := 0#32
  let c1_i32_379 : BitVec 32 := 1#32
  let arg18 : BitVec 32 := Scf.iv c0_i32_377 c1_i32_379 k0_t5
  let v635 : Index := Scalar.indexCast arg18
  let c0_1102 : Index := 0#32
  let c0_1103 : Index := 0#32
  ![0, 0, 0, v635.toNat, 0, 0]
def k0_off19 (k0_t5 : Fin k0_t5_loop.trips) : Fin 6 → Nat :=
  let c0_1104 : Index := 0#32
  let c0_1105 : Index := 0#32
  let c1 : Index := 1#32
  let c0_i32_377 : BitVec 32 := 0#32
  let c1_i32_379 : BitVec 32 := 1#32
  let arg18 : BitVec 32 := Scf.iv c0_i32_377 c1_i32_379 k0_t5
  let v638 : Index := Scalar.indexCast arg18
  let c0_1106 : Index := 0#32
  let c0_1107 : Index := 0#32
  ![0, 0, 1, v638.toNat, 0, 0]
def k0_off20 (k0_t5 : Fin k0_t5_loop.trips) : Fin 3 → Nat :=
  let c8_i32_1097 : BitVec 32 := 8#32
  let c0_i32_377 : BitVec 32 := 0#32
  let c1_i32_379 : BitVec 32 := 1#32
  let arg18 : BitVec 32 := Scf.iv c0_i32_377 c1_i32_379 k0_t5
  let v628 : BitVec 32 := Scalar.addi c8_i32_1097 arg18
  let v651 : Index := Scalar.indexCast v628
  let c0_1113 : Index := 0#32
  let c0_1114 : Index := 0#32
  ![v651.toNat, 0, 0]
@[reducible] def k0_t6_loop : Scf.Loop 32 :=
  let c0_i32_381 : BitVec 32 := 0#32
  let c2_i32_382 : BitVec 32 := 2#32
  let v220 : BitVec 32 := Scalar.addi c0_i32_381 c2_i32_382
  let c1_i32_383 : BitVec 32 := 1#32
  ⟨c0_i32_381, v220, c1_i32_383⟩
def k0_off21 (k0_t6 : Fin k0_t6_loop.trips) : Fin 3 → Nat :=
  let c10_i32_1097 : BitVec 32 := 10#32
  let c0_i32_381 : BitVec 32 := 0#32
  let c1_i32_383 : BitVec 32 := 1#32
  let arg18 : BitVec 32 := Scf.iv c0_i32_381 c1_i32_383 k0_t6
  let v628 : BitVec 32 := Scalar.addi c10_i32_1097 arg18
  let v629 : Index := Scalar.indexCast v628
  let c0 : Index := 0#32
  let c0_1098 : Index := 0#32
  ![v629.toNat, 0, 0]
def k0_off22 (k0_t6 : Fin k0_t6_loop.trips) : Fin 6 → Nat :=
  let c0_1099 : Index := 0#32
  let c1 : Index := 1#32
  let c0_1100 : Index := 0#32
  let c0_i32_381 : BitVec 32 := 0#32
  let c1_i32_383 : BitVec 32 := 1#32
  let arg18 : BitVec 32 := Scf.iv c0_i32_381 c1_i32_383 k0_t6
  let v635 : Index := Scalar.indexCast arg18
  let c0_1101 : Index := 0#32
  let c0_1102 : Index := 0#32
  ![0, 1, 0, v635.toNat, 0, 0]
def k0_off23 (k0_t6 : Fin k0_t6_loop.trips) : Fin 6 → Nat :=
  let c0_1103 : Index := 0#32
  let c1_1104 : Index := 1#32
  let c1_1105 : Index := 1#32
  let c0_i32_381 : BitVec 32 := 0#32
  let c1_i32_383 : BitVec 32 := 1#32
  let arg18 : BitVec 32 := Scf.iv c0_i32_381 c1_i32_383 k0_t6
  let v638 : Index := Scalar.indexCast arg18
  let c0_1106 : Index := 0#32
  let c0_1107 : Index := 0#32
  ![0, 1, 1, v638.toNat, 0, 0]
def k0_off24 (k0_t6 : Fin k0_t6_loop.trips) : Fin 3 → Nat :=
  let c10_i32_1097 : BitVec 32 := 10#32
  let c0_i32_381 : BitVec 32 := 0#32
  let c1_i32_383 : BitVec 32 := 1#32
  let arg18 : BitVec 32 := Scf.iv c0_i32_381 c1_i32_383 k0_t6
  let v628 : BitVec 32 := Scalar.addi c10_i32_1097 arg18
  let v651 : Index := Scalar.indexCast v628
  let c0_1113 : Index := 0#32
  let c0_1114 : Index := 0#32
  ![v651.toNat, 0, 0]
@[reducible] def k0_t7_loop : Scf.Loop 32 :=
  let c0_i32_385 : BitVec 32 := 0#32
  let c2_i32_386 : BitVec 32 := 2#32
  let v221 : BitVec 32 := Scalar.addi c0_i32_385 c2_i32_386
  let c1_i32_387 : BitVec 32 := 1#32
  ⟨c0_i32_385, v221, c1_i32_387⟩
def k0_off25 (k0_t7 : Fin k0_t7_loop.trips) : Fin 3 → Nat :=
  let c12_i32_1097 : BitVec 32 := 12#32
  let c0_i32_385 : BitVec 32 := 0#32
  let c1_i32_387 : BitVec 32 := 1#32
  let arg18 : BitVec 32 := Scf.iv c0_i32_385 c1_i32_387 k0_t7
  let v628 : BitVec 32 := Scalar.addi c12_i32_1097 arg18
  let v629 : Index := Scalar.indexCast v628
  let c0 : Index := 0#32
  let c0_1098 : Index := 0#32
  ![v629.toNat, 0, 0]
def k0_off26 (k0_t7 : Fin k0_t7_loop.trips) : Fin 6 → Nat :=
  let c0_1099 : Index := 0#32
  let c2 : Index := 2#32
  let c0_1100 : Index := 0#32
  let c0_i32_385 : BitVec 32 := 0#32
  let c1_i32_387 : BitVec 32 := 1#32
  let arg18 : BitVec 32 := Scf.iv c0_i32_385 c1_i32_387 k0_t7
  let v635 : Index := Scalar.indexCast arg18
  let c0_1101 : Index := 0#32
  let c0_1102 : Index := 0#32
  ![0, 2, 0, v635.toNat, 0, 0]
def k0_off27 (k0_t7 : Fin k0_t7_loop.trips) : Fin 6 → Nat :=
  let c0_1103 : Index := 0#32
  let c2_1104 : Index := 2#32
  let c1 : Index := 1#32
  let c0_i32_385 : BitVec 32 := 0#32
  let c1_i32_387 : BitVec 32 := 1#32
  let arg18 : BitVec 32 := Scf.iv c0_i32_385 c1_i32_387 k0_t7
  let v638 : Index := Scalar.indexCast arg18
  let c0_1105 : Index := 0#32
  let c0_1106 : Index := 0#32
  ![0, 2, 1, v638.toNat, 0, 0]
def k0_off28 (k0_t7 : Fin k0_t7_loop.trips) : Fin 3 → Nat :=
  let c12_i32_1097 : BitVec 32 := 12#32
  let c0_i32_385 : BitVec 32 := 0#32
  let c1_i32_387 : BitVec 32 := 1#32
  let arg18 : BitVec 32 := Scf.iv c0_i32_385 c1_i32_387 k0_t7
  let v628 : BitVec 32 := Scalar.addi c12_i32_1097 arg18
  let v651 : Index := Scalar.indexCast v628
  let c0_1112 : Index := 0#32
  let c0_1113 : Index := 0#32
  ![v651.toNat, 0, 0]
@[reducible] def k0_t8_loop : Scf.Loop 32 :=
  let c0_i32_389 : BitVec 32 := 0#32
  let c2_i32_390 : BitVec 32 := 2#32
  let v222 : BitVec 32 := Scalar.addi c0_i32_389 c2_i32_390
  let c1_i32_391 : BitVec 32 := 1#32
  ⟨c0_i32_389, v222, c1_i32_391⟩
def k0_off29 (k0_t8 : Fin k0_t8_loop.trips) : Fin 3 → Nat :=
  let c14_i32_1097 : BitVec 32 := 14#32
  let c0_i32_389 : BitVec 32 := 0#32
  let c1_i32_391 : BitVec 32 := 1#32
  let arg18 : BitVec 32 := Scf.iv c0_i32_389 c1_i32_391 k0_t8
  let v628 : BitVec 32 := Scalar.addi c14_i32_1097 arg18
  let v629 : Index := Scalar.indexCast v628
  let c0 : Index := 0#32
  let c0_1098 : Index := 0#32
  ![v629.toNat, 0, 0]
def k0_off30 (k0_t8 : Fin k0_t8_loop.trips) : Fin 6 → Nat :=
  let c0_1099 : Index := 0#32
  let c3 : Index := 3#32
  let c0_1100 : Index := 0#32
  let c0_i32_389 : BitVec 32 := 0#32
  let c1_i32_391 : BitVec 32 := 1#32
  let arg18 : BitVec 32 := Scf.iv c0_i32_389 c1_i32_391 k0_t8
  let v635 : Index := Scalar.indexCast arg18
  let c0_1101 : Index := 0#32
  let c0_1102 : Index := 0#32
  ![0, 3, 0, v635.toNat, 0, 0]
def k0_off31 (k0_t8 : Fin k0_t8_loop.trips) : Fin 6 → Nat :=
  let c0_1103 : Index := 0#32
  let c3_1104 : Index := 3#32
  let c1 : Index := 1#32
  let c0_i32_389 : BitVec 32 := 0#32
  let c1_i32_391 : BitVec 32 := 1#32
  let arg18 : BitVec 32 := Scf.iv c0_i32_389 c1_i32_391 k0_t8
  let v638 : Index := Scalar.indexCast arg18
  let c0_1105 : Index := 0#32
  let c0_1106 : Index := 0#32
  ![0, 3, 1, v638.toNat, 0, 0]
def k0_off32 (k0_t8 : Fin k0_t8_loop.trips) : Fin 3 → Nat :=
  let c14_i32_1097 : BitVec 32 := 14#32
  let c0_i32_389 : BitVec 32 := 0#32
  let c1_i32_391 : BitVec 32 := 1#32
  let arg18 : BitVec 32 := Scf.iv c0_i32_389 c1_i32_391 k0_t8
  let v628 : BitVec 32 := Scalar.addi c14_i32_1097 arg18
  let v651 : Index := Scalar.indexCast v628
  let c0_1112 : Index := 0#32
  let c0_1113 : Index := 0#32
  ![v651.toNat, 0, 0]
def k0_dev5 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v235 : BitVec 32 := Scalar.muli v2 c16_i32_424
  let v236 : BitVec 32 := Scalar.addi c0_i32_425 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_426 : BitVec 32 := 4#32
  let v237 : BitVec 32 := Scalar.muli v5 c4_i32_426
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_427 : BitVec 32 := 1#32
  let v239 : BitVec 32 := Scalar.muli v13 c1_i32_427
  let v240 : BitVec 32 := Scalar.addi v238 v239
  v240.toNat
def k0_dev6 (d0 : Dev nD) : Nat :=
  let c0_i32_430 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_429 : BitVec 32 := 16#32
  let v241 : BitVec 32 := Scalar.muli v2 c16_i32_429
  let v242 : BitVec 32 := Scalar.addi c0_i32_430 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_431 : BitVec 32 := 4#32
  let v243 : BitVec 32 := Scalar.muli v5 c4_i32_431
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_432 : BitVec 32 := 1#32
  let v245 : BitVec 32 := Scalar.muli v10 c1_i32_432
  let v246 : BitVec 32 := Scalar.addi v244 v245
  v246.toNat
def k0_dev7 (d0 : Dev nD) : Nat :=
  let c0_i32_478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_477 : BitVec 32 := 16#32
  let v271 : BitVec 32 := Scalar.muli v2 c16_i32_477
  let v272 : BitVec 32 := Scalar.addi c0_i32_478 v271
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v273 : BitVec 32 := Scalar.muli v5 c4_i32_479
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_480 : BitVec 32 := 1#32
  let v275 : BitVec 32 := Scalar.muli v10 c1_i32_480
  let v276 : BitVec 32 := Scalar.addi v274 v275
  v276.toNat
def k0_dev8 (d0 : Dev nD) : Nat :=
  let c0_i32_496 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_495 : BitVec 32 := 16#32
  let v285 : BitVec 32 := Scalar.muli v2 c16_i32_495
  let v286 : BitVec 32 := Scalar.addi c0_i32_496 v285
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_497 : BitVec 32 := 4#32
  let v287 : BitVec 32 := Scalar.muli v5 c4_i32_497
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_498 : BitVec 32 := 1#32
  let v289 : BitVec 32 := Scalar.muli v13 c1_i32_498
  let v290 : BitVec 32 := Scalar.addi v288 v289
  v290.toNat
@[reducible] def k0_t9_loop : Scf.Loop 32 :=
  let c0_i32_509 : BitVec 32 := 0#32
  let c2_i32_510 : BitVec 32 := 2#32
  let v299 : BitVec 32 := Scalar.addi c0_i32_509 c2_i32_510
  let c1_i32_511 : BitVec 32 := 1#32
  ⟨c0_i32_509, v299, c1_i32_511⟩
def k0_off33 (k0_t9 : Fin k0_t9_loop.trips) : Fin 3 → Nat :=
  let c0_i32_1097 : BitVec 32 := 0#32
  let c0_i32_509 : BitVec 32 := 0#32
  let c1_i32_511 : BitVec 32 := 1#32
  let arg18 : BitVec 32 := Scf.iv c0_i32_509 c1_i32_511 k0_t9
  let v628 : BitVec 32 := Scalar.addi c0_i32_1097 arg18
  let v629 : Index := Scalar.indexCast v628
  let c0 : Index := 0#32
  let c0_1098 : Index := 0#32
  ![v629.toNat, 0, 0]
def k0_off34 (k0_t9 : Fin k0_t9_loop.trips) : Fin 6 → Nat :=
  let c1 : Index := 1#32
  let c0_1099 : Index := 0#32
  let c0_1100 : Index := 0#32
  let c0_i32_509 : BitVec 32 := 0#32
  let c1_i32_511 : BitVec 32 := 1#32
  let arg18 : BitVec 32 := Scf.iv c0_i32_509 c1_i32_511 k0_t9
  let v635 : Index := Scalar.indexCast arg18
  let c0_1101 : Index := 0#32
  let c0_1102 : Index := 0#32
  ![1, 0, 0, v635.toNat, 0, 0]
def k0_off35 (k0_t9 : Fin k0_t9_loop.trips) : Fin 6 → Nat :=
  let c1_1103 : Index := 1#32
  let c0_1104 : Index := 0#32
  let c1_1105 : Index := 1#32
  let c0_i32_509 : BitVec 32 := 0#32
  let c1_i32_511 : BitVec 32 := 1#32
  let arg18 : BitVec 32 := Scf.iv c0_i32_509 c1_i32_511 k0_t9
  let v638 : Index := Scalar.indexCast arg18
  let c0_1106 : Index := 0#32
  let c0_1107 : Index := 0#32
  ![1, 0, 1, v638.toNat, 0, 0]
def k0_off36 (k0_t9 : Fin k0_t9_loop.trips) : Fin 3 → Nat :=
  let c0_i32_1097 : BitVec 32 := 0#32
  let c0_i32_509 : BitVec 32 := 0#32
  let c1_i32_511 : BitVec 32 := 1#32
  let arg18 : BitVec 32 := Scf.iv c0_i32_509 c1_i32_511 k0_t9
  let v628 : BitVec 32 := Scalar.addi c0_i32_1097 arg18
  let v655 : Index := Scalar.indexCast v628
  let c0_1115 : Index := 0#32
  let c0_1116 : Index := 0#32
  ![v655.toNat, 0, 0]
@[reducible] def k0_t10_loop : Scf.Loop 32 :=
  let c0_i32_513 : BitVec 32 := 0#32
  let c2_i32_514 : BitVec 32 := 2#32
  let v300 : BitVec 32 := Scalar.addi c0_i32_513 c2_i32_514
  let c1_i32_515 : BitVec 32 := 1#32
  ⟨c0_i32_513, v300, c1_i32_515⟩
def k0_off37 (k0_t10 : Fin k0_t10_loop.trips) : Fin 3 → Nat :=
  let c2_i32_1097 : BitVec 32 := 2#32
  let c0_i32_513 : BitVec 32 := 0#32
  let c1_i32_515 : BitVec 32 := 1#32
  let arg18 : BitVec 32 := Scf.iv c0_i32_513 c1_i32_515 k0_t10
  let v628 : BitVec 32 := Scalar.addi c2_i32_1097 arg18
  let v629 : Index := Scalar.indexCast v628
  let c0 : Index := 0#32
  let c0_1098 : Index := 0#32
  ![v629.toNat, 0, 0]
def k0_off38 (k0_t10 : Fin k0_t10_loop.trips) : Fin 6 → Nat :=
  let c1 : Index := 1#32
  let c1_1099 : Index := 1#32
  let c0_1100 : Index := 0#32
  let c0_i32_513 : BitVec 32 := 0#32
  let c1_i32_515 : BitVec 32 := 1#32
  let arg18 : BitVec 32 := Scf.iv c0_i32_513 c1_i32_515 k0_t10
  let v635 : Index := Scalar.indexCast arg18
  let c0_1101 : Index := 0#32
  let c0_1102 : Index := 0#32
  ![1, 1, 0, v635.toNat, 0, 0]
def k0_off39 (k0_t10 : Fin k0_t10_loop.trips) : Fin 6 → Nat :=
  let c1_1103 : Index := 1#32
  let c1_1104 : Index := 1#32
  let c1_1105 : Index := 1#32
  let c0_i32_513 : BitVec 32 := 0#32
  let c1_i32_515 : BitVec 32 := 1#32
  let arg18 : BitVec 32 := Scf.iv c0_i32_513 c1_i32_515 k0_t10
  let v638 : Index := Scalar.indexCast arg18
  let c0_1106 : Index := 0#32
  let c0_1107 : Index := 0#32
  ![1, 1, 1, v638.toNat, 0, 0]
def k0_off40 (k0_t10 : Fin k0_t10_loop.trips) : Fin 3 → Nat :=
  let c2_i32_1097 : BitVec 32 := 2#32
  let c0_i32_513 : BitVec 32 := 0#32
  let c1_i32_515 : BitVec 32 := 1#32
  let arg18 : BitVec 32 := Scf.iv c0_i32_513 c1_i32_515 k0_t10
  let v628 : BitVec 32 := Scalar.addi c2_i32_1097 arg18
  let v655 : Index := Scalar.indexCast v628
  let c0_1115 : Index := 0#32
  let c0_1116 : Index := 0#32
  ![v655.toNat, 0, 0]
@[reducible] def k0_t11_loop : Scf.Loop 32 :=
  let c0_i32_517 : BitVec 32 := 0#32
  let c2_i32_518 : BitVec 32 := 2#32
  let v301 : BitVec 32 := Scalar.addi c0_i32_517 c2_i32_518
  let c1_i32_519 : BitVec 32 := 1#32
  ⟨c0_i32_517, v301, c1_i32_519⟩
def k0_off41 (k0_t11 : Fin k0_t11_loop.trips) : Fin 3 → Nat :=
  let c4_i32_1097 : BitVec 32 := 4#32
  let c0_i32_517 : BitVec 32 := 0#32
  let c1_i32_519 : BitVec 32 := 1#32
  let arg18 : BitVec 32 := Scf.iv c0_i32_517 c1_i32_519 k0_t11
  let v628 : BitVec 32 := Scalar.addi c4_i32_1097 arg18
  let v629 : Index := Scalar.indexCast v628
  let c0 : Index := 0#32
  let c0_1098 : Index := 0#32
  ![v629.toNat, 0, 0]
def k0_off42 (k0_t11 : Fin k0_t11_loop.trips) : Fin 6 → Nat :=
  let c1 : Index := 1#32
  let c2 : Index := 2#32
  let c0_1099 : Index := 0#32
  let c0_i32_517 : BitVec 32 := 0#32
  let c1_i32_519 : BitVec 32 := 1#32
  let arg18 : BitVec 32 := Scf.iv c0_i32_517 c1_i32_519 k0_t11
  let v635 : Index := Scalar.indexCast arg18
  let c0_1100 : Index := 0#32
  let c0_1101 : Index := 0#32
  ![1, 2, 0, v635.toNat, 0, 0]
def k0_off43 (k0_t11 : Fin k0_t11_loop.trips) : Fin 6 → Nat :=
  let c1_1102 : Index := 1#32
  let c2_1103 : Index := 2#32
  let c1_1104 : Index := 1#32
  let c0_i32_517 : BitVec 32 := 0#32
  let c1_i32_519 : BitVec 32 := 1#32
  let arg18 : BitVec 32 := Scf.iv c0_i32_517 c1_i32_519 k0_t11
  let v638 : Index := Scalar.indexCast arg18
  let c0_1105 : Index := 0#32
  let c0_1106 : Index := 0#32
  ![1, 2, 1, v638.toNat, 0, 0]
def k0_off44 (k0_t11 : Fin k0_t11_loop.trips) : Fin 3 → Nat :=
  let c4_i32_1097 : BitVec 32 := 4#32
  let c0_i32_517 : BitVec 32 := 0#32
  let c1_i32_519 : BitVec 32 := 1#32
  let arg18 : BitVec 32 := Scf.iv c0_i32_517 c1_i32_519 k0_t11
  let v628 : BitVec 32 := Scalar.addi c4_i32_1097 arg18
  let v655 : Index := Scalar.indexCast v628
  let c0_1114 : Index := 0#32
  let c0_1115 : Index := 0#32
  ![v655.toNat, 0, 0]
@[reducible] def k0_t12_loop : Scf.Loop 32 :=
  let c0_i32_521 : BitVec 32 := 0#32
  let c2_i32_522 : BitVec 32 := 2#32
  let v302 : BitVec 32 := Scalar.addi c0_i32_521 c2_i32_522
  let c1_i32_523 : BitVec 32 := 1#32
  ⟨c0_i32_521, v302, c1_i32_523⟩
def k0_off45 (k0_t12 : Fin k0_t12_loop.trips) : Fin 3 → Nat :=
  let c6_i32_1097 : BitVec 32 := 6#32
  let c0_i32_521 : BitVec 32 := 0#32
  let c1_i32_523 : BitVec 32 := 1#32
  let arg18 : BitVec 32 := Scf.iv c0_i32_521 c1_i32_523 k0_t12
  let v628 : BitVec 32 := Scalar.addi c6_i32_1097 arg18
  let v629 : Index := Scalar.indexCast v628
  let c0 : Index := 0#32
  let c0_1098 : Index := 0#32
  ![v629.toNat, 0, 0]
def k0_off46 (k0_t12 : Fin k0_t12_loop.trips) : Fin 6 → Nat :=
  let c1 : Index := 1#32
  let c3 : Index := 3#32
  let c0_1099 : Index := 0#32
  let c0_i32_521 : BitVec 32 := 0#32
  let c1_i32_523 : BitVec 32 := 1#32
  let arg18 : BitVec 32 := Scf.iv c0_i32_521 c1_i32_523 k0_t12
  let v635 : Index := Scalar.indexCast arg18
  let c0_1100 : Index := 0#32
  let c0_1101 : Index := 0#32
  ![1, 3, 0, v635.toNat, 0, 0]
def k0_off47 (k0_t12 : Fin k0_t12_loop.trips) : Fin 6 → Nat :=
  let c1_1102 : Index := 1#32
  let c3_1103 : Index := 3#32
  let c1_1104 : Index := 1#32
  let c0_i32_521 : BitVec 32 := 0#32
  let c1_i32_523 : BitVec 32 := 1#32
  let arg18 : BitVec 32 := Scf.iv c0_i32_521 c1_i32_523 k0_t12
  let v638 : Index := Scalar.indexCast arg18
  let c0_1105 : Index := 0#32
  let c0_1106 : Index := 0#32
  ![1, 3, 1, v638.toNat, 0, 0]
def k0_off48 (k0_t12 : Fin k0_t12_loop.trips) : Fin 3 → Nat :=
  let c6_i32_1097 : BitVec 32 := 6#32
  let c0_i32_521 : BitVec 32 := 0#32
  let c1_i32_523 : BitVec 32 := 1#32
  let arg18 : BitVec 32 := Scf.iv c0_i32_521 c1_i32_523 k0_t12
  let v628 : BitVec 32 := Scalar.addi c6_i32_1097 arg18
  let v655 : Index := Scalar.indexCast v628
  let c0_1114 : Index := 0#32
  let c0_1115 : Index := 0#32
  ![v655.toNat, 0, 0]
@[reducible] def k0_t13_loop : Scf.Loop 32 :=
  let c0_i32_525 : BitVec 32 := 0#32
  let c2_i32_526 : BitVec 32 := 2#32
  let v303 : BitVec 32 := Scalar.addi c0_i32_525 c2_i32_526
  let c1_i32_527 : BitVec 32 := 1#32
  ⟨c0_i32_525, v303, c1_i32_527⟩
def k0_off49 (k0_t13 : Fin k0_t13_loop.trips) : Fin 3 → Nat :=
  let c8_i32_1097 : BitVec 32 := 8#32
  let c0_i32_525 : BitVec 32 := 0#32
  let c1_i32_527 : BitVec 32 := 1#32
  let arg18 : BitVec 32 := Scf.iv c0_i32_525 c1_i32_527 k0_t13
  let v628 : BitVec 32 := Scalar.addi c8_i32_1097 arg18
  let v629 : Index := Scalar.indexCast v628
  let c0 : Index := 0#32
  let c0_1098 : Index := 0#32
  ![v629.toNat, 0, 0]
def k0_off50 (k0_t13 : Fin k0_t13_loop.trips) : Fin 6 → Nat :=
  let c1 : Index := 1#32
  let c0_1099 : Index := 0#32
  let c0_1100 : Index := 0#32
  let c0_i32_525 : BitVec 32 := 0#32
  let c1_i32_527 : BitVec 32 := 1#32
  let arg18 : BitVec 32 := Scf.iv c0_i32_525 c1_i32_527 k0_t13
  let v635 : Index := Scalar.indexCast arg18
  let c0_1101 : Index := 0#32
  let c0_1102 : Index := 0#32
  ![1, 0, 0, v635.toNat, 0, 0]
def k0_off51 (k0_t13 : Fin k0_t13_loop.trips) : Fin 6 → Nat :=
  let c1_1103 : Index := 1#32
  let c0_1104 : Index := 0#32
  let c1_1105 : Index := 1#32
  let c0_i32_525 : BitVec 32 := 0#32
  let c1_i32_527 : BitVec 32 := 1#32
  let arg18 : BitVec 32 := Scf.iv c0_i32_525 c1_i32_527 k0_t13
  let v638 : Index := Scalar.indexCast arg18
  let c0_1106 : Index := 0#32
  let c0_1107 : Index := 0#32
  ![1, 0, 1, v638.toNat, 0, 0]
def k0_off52 (k0_t13 : Fin k0_t13_loop.trips) : Fin 3 → Nat :=
  let c8_i32_1097 : BitVec 32 := 8#32
  let c0_i32_525 : BitVec 32 := 0#32
  let c1_i32_527 : BitVec 32 := 1#32
  let arg18 : BitVec 32 := Scf.iv c0_i32_525 c1_i32_527 k0_t13
  let v628 : BitVec 32 := Scalar.addi c8_i32_1097 arg18
  let v655 : Index := Scalar.indexCast v628
  let c0_1115 : Index := 0#32
  let c0_1116 : Index := 0#32
  ![v655.toNat, 0, 0]
@[reducible] def k0_t14_loop : Scf.Loop 32 :=
  let c0_i32_529 : BitVec 32 := 0#32
  let c2_i32_530 : BitVec 32 := 2#32
  let v304 : BitVec 32 := Scalar.addi c0_i32_529 c2_i32_530
  let c1_i32_531 : BitVec 32 := 1#32
  ⟨c0_i32_529, v304, c1_i32_531⟩
def k0_off53 (k0_t14 : Fin k0_t14_loop.trips) : Fin 3 → Nat :=
  let c10_i32_1097 : BitVec 32 := 10#32
  let c0_i32_529 : BitVec 32 := 0#32
  let c1_i32_531 : BitVec 32 := 1#32
  let arg18 : BitVec 32 := Scf.iv c0_i32_529 c1_i32_531 k0_t14
  let v628 : BitVec 32 := Scalar.addi c10_i32_1097 arg18
  let v629 : Index := Scalar.indexCast v628
  let c0 : Index := 0#32
  let c0_1098 : Index := 0#32
  ![v629.toNat, 0, 0]
def k0_off54 (k0_t14 : Fin k0_t14_loop.trips) : Fin 6 → Nat :=
  let c1 : Index := 1#32
  let c1_1099 : Index := 1#32
  let c0_1100 : Index := 0#32
  let c0_i32_529 : BitVec 32 := 0#32
  let c1_i32_531 : BitVec 32 := 1#32
  let arg18 : BitVec 32 := Scf.iv c0_i32_529 c1_i32_531 k0_t14
  let v635 : Index := Scalar.indexCast arg18
  let c0_1101 : Index := 0#32
  let c0_1102 : Index := 0#32
  ![1, 1, 0, v635.toNat, 0, 0]
def k0_off55 (k0_t14 : Fin k0_t14_loop.trips) : Fin 6 → Nat :=
  let c1_1103 : Index := 1#32
  let c1_1104 : Index := 1#32
  let c1_1105 : Index := 1#32
  let c0_i32_529 : BitVec 32 := 0#32
  let c1_i32_531 : BitVec 32 := 1#32
  let arg18 : BitVec 32 := Scf.iv c0_i32_529 c1_i32_531 k0_t14
  let v638 : Index := Scalar.indexCast arg18
  let c0_1106 : Index := 0#32
  let c0_1107 : Index := 0#32
  ![1, 1, 1, v638.toNat, 0, 0]
def k0_off56 (k0_t14 : Fin k0_t14_loop.trips) : Fin 3 → Nat :=
  let c10_i32_1097 : BitVec 32 := 10#32
  let c0_i32_529 : BitVec 32 := 0#32
  let c1_i32_531 : BitVec 32 := 1#32
  let arg18 : BitVec 32 := Scf.iv c0_i32_529 c1_i32_531 k0_t14
  let v628 : BitVec 32 := Scalar.addi c10_i32_1097 arg18
  let v655 : Index := Scalar.indexCast v628
  let c0_1115 : Index := 0#32
  let c0_1116 : Index := 0#32
  ![v655.toNat, 0, 0]
@[reducible] def k0_t15_loop : Scf.Loop 32 :=
  let c0_i32_533 : BitVec 32 := 0#32
  let c2_i32_534 : BitVec 32 := 2#32
  let v305 : BitVec 32 := Scalar.addi c0_i32_533 c2_i32_534
  let c1_i32_535 : BitVec 32 := 1#32
  ⟨c0_i32_533, v305, c1_i32_535⟩
def k0_off57 (k0_t15 : Fin k0_t15_loop.trips) : Fin 3 → Nat :=
  let c12_i32_1097 : BitVec 32 := 12#32
  let c0_i32_533 : BitVec 32 := 0#32
  let c1_i32_535 : BitVec 32 := 1#32
  let arg18 : BitVec 32 := Scf.iv c0_i32_533 c1_i32_535 k0_t15
  let v628 : BitVec 32 := Scalar.addi c12_i32_1097 arg18
  let v629 : Index := Scalar.indexCast v628
  let c0 : Index := 0#32
  let c0_1098 : Index := 0#32
  ![v629.toNat, 0, 0]
def k0_off58 (k0_t15 : Fin k0_t15_loop.trips) : Fin 6 → Nat :=
  let c1 : Index := 1#32
  let c2 : Index := 2#32
  let c0_1099 : Index := 0#32
  let c0_i32_533 : BitVec 32 := 0#32
  let c1_i32_535 : BitVec 32 := 1#32
  let arg18 : BitVec 32 := Scf.iv c0_i32_533 c1_i32_535 k0_t15
  let v635 : Index := Scalar.indexCast arg18
  let c0_1100 : Index := 0#32
  let c0_1101 : Index := 0#32
  ![1, 2, 0, v635.toNat, 0, 0]
def k0_off59 (k0_t15 : Fin k0_t15_loop.trips) : Fin 6 → Nat :=
  let c1_1102 : Index := 1#32
  let c2_1103 : Index := 2#32
  let c1_1104 : Index := 1#32
  let c0_i32_533 : BitVec 32 := 0#32
  let c1_i32_535 : BitVec 32 := 1#32
  let arg18 : BitVec 32 := Scf.iv c0_i32_533 c1_i32_535 k0_t15
  let v638 : Index := Scalar.indexCast arg18
  let c0_1105 : Index := 0#32
  let c0_1106 : Index := 0#32
  ![1, 2, 1, v638.toNat, 0, 0]
def k0_off60 (k0_t15 : Fin k0_t15_loop.trips) : Fin 3 → Nat :=
  let c12_i32_1097 : BitVec 32 := 12#32
  let c0_i32_533 : BitVec 32 := 0#32
  let c1_i32_535 : BitVec 32 := 1#32
  let arg18 : BitVec 32 := Scf.iv c0_i32_533 c1_i32_535 k0_t15
  let v628 : BitVec 32 := Scalar.addi c12_i32_1097 arg18
  let v655 : Index := Scalar.indexCast v628
  let c0_1114 : Index := 0#32
  let c0_1115 : Index := 0#32
  ![v655.toNat, 0, 0]
@[reducible] def k0_t16_loop : Scf.Loop 32 :=
  let c0_i32_537 : BitVec 32 := 0#32
  let c2_i32_538 : BitVec 32 := 2#32
  let v306 : BitVec 32 := Scalar.addi c0_i32_537 c2_i32_538
  let c1_i32_539 : BitVec 32 := 1#32
  ⟨c0_i32_537, v306, c1_i32_539⟩
def k0_off61 (k0_t16 : Fin k0_t16_loop.trips) : Fin 3 → Nat :=
  let c14_i32_1097 : BitVec 32 := 14#32
  let c0_i32_537 : BitVec 32 := 0#32
  let c1_i32_539 : BitVec 32 := 1#32
  let arg18 : BitVec 32 := Scf.iv c0_i32_537 c1_i32_539 k0_t16
  let v628 : BitVec 32 := Scalar.addi c14_i32_1097 arg18
  let v629 : Index := Scalar.indexCast v628
  let c0 : Index := 0#32
  let c0_1098 : Index := 0#32
  ![v629.toNat, 0, 0]
def k0_off62 (k0_t16 : Fin k0_t16_loop.trips) : Fin 6 → Nat :=
  let c1 : Index := 1#32
  let c3 : Index := 3#32
  let c0_1099 : Index := 0#32
  let c0_i32_537 : BitVec 32 := 0#32
  let c1_i32_539 : BitVec 32 := 1#32
  let arg18 : BitVec 32 := Scf.iv c0_i32_537 c1_i32_539 k0_t16
  let v635 : Index := Scalar.indexCast arg18
  let c0_1100 : Index := 0#32
  let c0_1101 : Index := 0#32
  ![1, 3, 0, v635.toNat, 0, 0]
def k0_off63 (k0_t16 : Fin k0_t16_loop.trips) : Fin 6 → Nat :=
  let c1_1102 : Index := 1#32
  let c3_1103 : Index := 3#32
  let c1_1104 : Index := 1#32
  let c0_i32_537 : BitVec 32 := 0#32
  let c1_i32_539 : BitVec 32 := 1#32
  let arg18 : BitVec 32 := Scf.iv c0_i32_537 c1_i32_539 k0_t16
  let v638 : Index := Scalar.indexCast arg18
  let c0_1105 : Index := 0#32
  let c0_1106 : Index := 0#32
  ![1, 3, 1, v638.toNat, 0, 0]
def k0_off64 (k0_t16 : Fin k0_t16_loop.trips) : Fin 3 → Nat :=
  let c14_i32_1097 : BitVec 32 := 14#32
  let c0_i32_537 : BitVec 32 := 0#32
  let c1_i32_539 : BitVec 32 := 1#32
  let arg18 : BitVec 32 := Scf.iv c0_i32_537 c1_i32_539 k0_t16
  let v628 : BitVec 32 := Scalar.addi c14_i32_1097 arg18
  let v655 : Index := Scalar.indexCast v628
  let c0_1114 : Index := 0#32
  let c0_1115 : Index := 0#32
  ![v655.toNat, 0, 0]
def k0_dev9 (d0 : Dev nD) : Nat :=
  let c0_i32_573 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_572 : BitVec 32 := 16#32
  let v319 : BitVec 32 := Scalar.muli v2 c16_i32_572
  let v320 : BitVec 32 := Scalar.addi c0_i32_573 v319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_574 : BitVec 32 := 4#32
  let v321 : BitVec 32 := Scalar.muli v5 c4_i32_574
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_575 : BitVec 32 := 1#32
  let v323 : BitVec 32 := Scalar.muli v13 c1_i32_575
  let v324 : BitVec 32 := Scalar.addi v322 v323
  v324.toNat
def k0_dev10 (d0 : Dev nD) : Nat :=
  let c0_i32_578 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_577 : BitVec 32 := 16#32
  let v325 : BitVec 32 := Scalar.muli v2 c16_i32_577
  let v326 : BitVec 32 := Scalar.addi c0_i32_578 v325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_579 : BitVec 32 := 4#32
  let v327 : BitVec 32 := Scalar.muli v5 c4_i32_579
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_580 : BitVec 32 := 1#32
  let v329 : BitVec 32 := Scalar.muli v10 c1_i32_580
  let v330 : BitVec 32 := Scalar.addi v328 v329
  v330.toNat
def k0_dev11 (d0 : Dev nD) : Nat :=
  let c0_i32_628 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_627 : BitVec 32 := 16#32
  let v355 : BitVec 32 := Scalar.muli v2 c16_i32_627
  let v356 : BitVec 32 := Scalar.addi c0_i32_628 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_629 : BitVec 32 := 4#32
  let v357 : BitVec 32 := Scalar.muli v5 c4_i32_629
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_630 : BitVec 32 := 1#32
  let v359 : BitVec 32 := Scalar.muli v10 c1_i32_630
  let v360 : BitVec 32 := Scalar.addi v358 v359
  v360.toNat
def k0_dev12 (d0 : Dev nD) : Nat :=
  let c0_i32_646 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_645 : BitVec 32 := 16#32
  let v369 : BitVec 32 := Scalar.muli v2 c16_i32_645
  let v370 : BitVec 32 := Scalar.addi c0_i32_646 v369
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_647 : BitVec 32 := 4#32
  let v371 : BitVec 32 := Scalar.muli v5 c4_i32_647
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_648 : BitVec 32 := 1#32
  let v373 : BitVec 32 := Scalar.muli v13 c1_i32_648
  let v374 : BitVec 32 := Scalar.addi v372 v373
  v374.toNat
def k0_dev13 (d0 : Dev nD) : Nat :=
  let c0_i32_664 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_663 : BitVec 32 := 16#32
  let v383 : BitVec 32 := Scalar.muli v2 c16_i32_663
  let v384 : BitVec 32 := Scalar.addi c0_i32_664 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_665 : BitVec 32 := 4#32
  let v385 : BitVec 32 := Scalar.muli v5 c4_i32_665
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_666 : BitVec 32 := 1#32
  let v387 : BitVec 32 := Scalar.muli v10 c1_i32_666
  let v388 : BitVec 32 := Scalar.addi v386 v387
  v388.toNat
def k0_dev14 (d0 : Dev nD) : Nat :=
  let c0_i32_682 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_681 : BitVec 32 := 16#32
  let v397 : BitVec 32 := Scalar.muli v2 c16_i32_681
  let v398 : BitVec 32 := Scalar.addi c0_i32_682 v397
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_683 : BitVec 32 := 4#32
  let v399 : BitVec 32 := Scalar.muli v5 c4_i32_683
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_684 : BitVec 32 := 1#32
  let v401 : BitVec 32 := Scalar.muli v13 c1_i32_684
  let v402 : BitVec 32 := Scalar.addi v400 v401
  v402.toNat
def k0_dev15 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_699 : BitVec 32 := 16#32
  let v411 : BitVec 32 := Scalar.muli v2 c16_i32_699
  let v412 : BitVec 32 := Scalar.addi c0_i32_700 v411
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_701 : BitVec 32 := 4#32
  let v413 : BitVec 32 := Scalar.muli v5 c4_i32_701
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_702 : BitVec 32 := 1#32
  let v415 : BitVec 32 := Scalar.muli v10 c1_i32_702
  let v416 : BitVec 32 := Scalar.addi v414 v415
  v416.toNat
def k0_dev16 (d0 : Dev nD) : Nat :=
  let c0_i32_718 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_717 : BitVec 32 := 16#32
  let v425 : BitVec 32 := Scalar.muli v2 c16_i32_717
  let v426 : BitVec 32 := Scalar.addi c0_i32_718 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_719 : BitVec 32 := 4#32
  let v427 : BitVec 32 := Scalar.muli v5 c4_i32_719
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_720 : BitVec 32 := 1#32
  let v429 : BitVec 32 := Scalar.muli v13 c1_i32_720
  let v430 : BitVec 32 := Scalar.addi v428 v429
  v430.toNat
def k0_dev17 (d0 : Dev nD) : Nat :=
  let c0_i32_736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_735 : BitVec 32 := 16#32
  let v439 : BitVec 32 := Scalar.muli v2 c16_i32_735
  let v440 : BitVec 32 := Scalar.addi c0_i32_736 v439
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v441 : BitVec 32 := Scalar.muli v5 c4_i32_737
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_738 : BitVec 32 := 1#32
  let v443 : BitVec 32 := Scalar.muli v10 c1_i32_738
  let v444 : BitVec 32 := Scalar.addi v442 v443
  v444.toNat
def k0_dev18 (d0 : Dev nD) : Nat :=
  let c0_i32_754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_753 : BitVec 32 := 16#32
  let v453 : BitVec 32 := Scalar.muli v2 c16_i32_753
  let v454 : BitVec 32 := Scalar.addi c0_i32_754 v453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_755 : BitVec 32 := 4#32
  let v455 : BitVec 32 := Scalar.muli v5 c4_i32_755
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_756 : BitVec 32 := 1#32
  let v457 : BitVec 32 := Scalar.muli v13 c1_i32_756
  let v458 : BitVec 32 := Scalar.addi v456 v457
  v458.toNat
@[reducible] def k0_t17_loop : Scf.Loop 32 :=
  let c0_i32_765 : BitVec 32 := 0#32
  let c2_i32_766 : BitVec 32 := 2#32
  let v467 : BitVec 32 := Scalar.addi c0_i32_765 c2_i32_766
  let c1_i32_767 : BitVec 32 := 1#32
  ⟨c0_i32_765, v467, c1_i32_767⟩
def k0_off65 (k0_t17 : Fin k0_t17_loop.trips) : Fin 3 → Nat :=
  let c0_i32_1097 : BitVec 32 := 0#32
  let c0_i32_765 : BitVec 32 := 0#32
  let c1_i32_767 : BitVec 32 := 1#32
  let arg18 : BitVec 32 := Scf.iv c0_i32_765 c1_i32_767 k0_t17
  let v628 : BitVec 32 := Scalar.addi c0_i32_1097 arg18
  let v629 : Index := Scalar.indexCast v628
  let c0 : Index := 0#32
  let c0_1098 : Index := 0#32
  ![v629.toNat, 0, 0]
def k0_off66 (k0_t17 : Fin k0_t17_loop.trips) : Fin 6 → Nat :=
  let c0_1099 : Index := 0#32
  let c0_1100 : Index := 0#32
  let c0_1101 : Index := 0#32
  let c0_i32_765 : BitVec 32 := 0#32
  let c1_i32_767 : BitVec 32 := 1#32
  let arg18 : BitVec 32 := Scf.iv c0_i32_765 c1_i32_767 k0_t17
  let v635 : Index := Scalar.indexCast arg18
  let c0_1102 : Index := 0#32
  let c0_1103 : Index := 0#32
  ![0, 0, 0, v635.toNat, 0, 0]
def k0_off67 (k0_t17 : Fin k0_t17_loop.trips) : Fin 6 → Nat :=
  let c0_1104 : Index := 0#32
  let c0_1105 : Index := 0#32
  let c1 : Index := 1#32
  let c0_i32_765 : BitVec 32 := 0#32
  let c1_i32_767 : BitVec 32 := 1#32
  let arg18 : BitVec 32 := Scf.iv c0_i32_765 c1_i32_767 k0_t17
  let v638 : Index := Scalar.indexCast arg18
  let c0_1106 : Index := 0#32
  let c0_1107 : Index := 0#32
  ![0, 0, 1, v638.toNat, 0, 0]
def k0_off68 (k0_t17 : Fin k0_t17_loop.trips) : Fin 3 → Nat :=
  let c0_i32_1097 : BitVec 32 := 0#32
  let c0_i32_765 : BitVec 32 := 0#32
  let c1_i32_767 : BitVec 32 := 1#32
  let arg18 : BitVec 32 := Scf.iv c0_i32_765 c1_i32_767 k0_t17
  let v628 : BitVec 32 := Scalar.addi c0_i32_1097 arg18
  let v655 : Index := Scalar.indexCast v628
  let c0_1115 : Index := 0#32
  let c0_1116 : Index := 0#32
  ![v655.toNat, 0, 0]
@[reducible] def k0_t18_loop : Scf.Loop 32 :=
  let c0_i32_769 : BitVec 32 := 0#32
  let c2_i32_770 : BitVec 32 := 2#32
  let v468 : BitVec 32 := Scalar.addi c0_i32_769 c2_i32_770
  let c1_i32_771 : BitVec 32 := 1#32
  ⟨c0_i32_769, v468, c1_i32_771⟩
def k0_off69 (k0_t18 : Fin k0_t18_loop.trips) : Fin 3 → Nat :=
  let c2_i32_1097 : BitVec 32 := 2#32
  let c0_i32_769 : BitVec 32 := 0#32
  let c1_i32_771 : BitVec 32 := 1#32
  let arg18 : BitVec 32 := Scf.iv c0_i32_769 c1_i32_771 k0_t18
  let v628 : BitVec 32 := Scalar.addi c2_i32_1097 arg18
  let v629 : Index := Scalar.indexCast v628
  let c0 : Index := 0#32
  let c0_1098 : Index := 0#32
  ![v629.toNat, 0, 0]
def k0_off70 (k0_t18 : Fin k0_t18_loop.trips) : Fin 6 → Nat :=
  let c0_1099 : Index := 0#32
  let c1 : Index := 1#32
  let c0_1100 : Index := 0#32
  let c0_i32_769 : BitVec 32 := 0#32
  let c1_i32_771 : BitVec 32 := 1#32
  let arg18 : BitVec 32 := Scf.iv c0_i32_769 c1_i32_771 k0_t18
  let v635 : Index := Scalar.indexCast arg18
  let c0_1101 : Index := 0#32
  let c0_1102 : Index := 0#32
  ![0, 1, 0, v635.toNat, 0, 0]
def k0_off71 (k0_t18 : Fin k0_t18_loop.trips) : Fin 6 → Nat :=
  let c0_1103 : Index := 0#32
  let c1_1104 : Index := 1#32
  let c1_1105 : Index := 1#32
  let c0_i32_769 : BitVec 32 := 0#32
  let c1_i32_771 : BitVec 32 := 1#32
  let arg18 : BitVec 32 := Scf.iv c0_i32_769 c1_i32_771 k0_t18
  let v638 : Index := Scalar.indexCast arg18
  let c0_1106 : Index := 0#32
  let c0_1107 : Index := 0#32
  ![0, 1, 1, v638.toNat, 0, 0]
def k0_off72 (k0_t18 : Fin k0_t18_loop.trips) : Fin 3 → Nat :=
  let c2_i32_1097 : BitVec 32 := 2#32
  let c0_i32_769 : BitVec 32 := 0#32
  let c1_i32_771 : BitVec 32 := 1#32
  let arg18 : BitVec 32 := Scf.iv c0_i32_769 c1_i32_771 k0_t18
  let v628 : BitVec 32 := Scalar.addi c2_i32_1097 arg18
  let v655 : Index := Scalar.indexCast v628
  let c0_1115 : Index := 0#32
  let c0_1116 : Index := 0#32
  ![v655.toNat, 0, 0]
@[reducible] def k0_t19_loop : Scf.Loop 32 :=
  let c0_i32_773 : BitVec 32 := 0#32
  let c2_i32_774 : BitVec 32 := 2#32
  let v469 : BitVec 32 := Scalar.addi c0_i32_773 c2_i32_774
  let c1_i32_775 : BitVec 32 := 1#32
  ⟨c0_i32_773, v469, c1_i32_775⟩
def k0_off73 (k0_t19 : Fin k0_t19_loop.trips) : Fin 3 → Nat :=
  let c4_i32_1097 : BitVec 32 := 4#32
  let c0_i32_773 : BitVec 32 := 0#32
  let c1_i32_775 : BitVec 32 := 1#32
  let arg18 : BitVec 32 := Scf.iv c0_i32_773 c1_i32_775 k0_t19
  let v628 : BitVec 32 := Scalar.addi c4_i32_1097 arg18
  let v629 : Index := Scalar.indexCast v628
  let c0 : Index := 0#32
  let c0_1098 : Index := 0#32
  ![v629.toNat, 0, 0]
def k0_off74 (k0_t19 : Fin k0_t19_loop.trips) : Fin 6 → Nat :=
  let c0_1099 : Index := 0#32
  let c2 : Index := 2#32
  let c0_1100 : Index := 0#32
  let c0_i32_773 : BitVec 32 := 0#32
  let c1_i32_775 : BitVec 32 := 1#32
  let arg18 : BitVec 32 := Scf.iv c0_i32_773 c1_i32_775 k0_t19
  let v635 : Index := Scalar.indexCast arg18
  let c0_1101 : Index := 0#32
  let c0_1102 : Index := 0#32
  ![0, 2, 0, v635.toNat, 0, 0]
def k0_off75 (k0_t19 : Fin k0_t19_loop.trips) : Fin 6 → Nat :=
  let c0_1103 : Index := 0#32
  let c2_1104 : Index := 2#32
  let c1 : Index := 1#32
  let c0_i32_773 : BitVec 32 := 0#32
  let c1_i32_775 : BitVec 32 := 1#32
  let arg18 : BitVec 32 := Scf.iv c0_i32_773 c1_i32_775 k0_t19
  let v638 : Index := Scalar.indexCast arg18
  let c0_1105 : Index := 0#32
  let c0_1106 : Index := 0#32
  ![0, 2, 1, v638.toNat, 0, 0]
def k0_off76 (k0_t19 : Fin k0_t19_loop.trips) : Fin 3 → Nat :=
  let c4_i32_1097 : BitVec 32 := 4#32
  let c0_i32_773 : BitVec 32 := 0#32
  let c1_i32_775 : BitVec 32 := 1#32
  let arg18 : BitVec 32 := Scf.iv c0_i32_773 c1_i32_775 k0_t19
  let v628 : BitVec 32 := Scalar.addi c4_i32_1097 arg18
  let v655 : Index := Scalar.indexCast v628
  let c0_1114 : Index := 0#32
  let c0_1115 : Index := 0#32
  ![v655.toNat, 0, 0]
@[reducible] def k0_t20_loop : Scf.Loop 32 :=
  let c0_i32_777 : BitVec 32 := 0#32
  let c2_i32_778 : BitVec 32 := 2#32
  let v470 : BitVec 32 := Scalar.addi c0_i32_777 c2_i32_778
  let c1_i32_779 : BitVec 32 := 1#32
  ⟨c0_i32_777, v470, c1_i32_779⟩
def k0_off77 (k0_t20 : Fin k0_t20_loop.trips) : Fin 3 → Nat :=
  let c6_i32_1097 : BitVec 32 := 6#32
  let c0_i32_777 : BitVec 32 := 0#32
  let c1_i32_779 : BitVec 32 := 1#32
  let arg18 : BitVec 32 := Scf.iv c0_i32_777 c1_i32_779 k0_t20
  let v628 : BitVec 32 := Scalar.addi c6_i32_1097 arg18
  let v629 : Index := Scalar.indexCast v628
  let c0 : Index := 0#32
  let c0_1098 : Index := 0#32
  ![v629.toNat, 0, 0]
def k0_off78 (k0_t20 : Fin k0_t20_loop.trips) : Fin 6 → Nat :=
  let c0_1099 : Index := 0#32
  let c3 : Index := 3#32
  let c0_1100 : Index := 0#32
  let c0_i32_777 : BitVec 32 := 0#32
  let c1_i32_779 : BitVec 32 := 1#32
  let arg18 : BitVec 32 := Scf.iv c0_i32_777 c1_i32_779 k0_t20
  let v635 : Index := Scalar.indexCast arg18
  let c0_1101 : Index := 0#32
  let c0_1102 : Index := 0#32
  ![0, 3, 0, v635.toNat, 0, 0]
def k0_off79 (k0_t20 : Fin k0_t20_loop.trips) : Fin 6 → Nat :=
  let c0_1103 : Index := 0#32
  let c3_1104 : Index := 3#32
  let c1 : Index := 1#32
  let c0_i32_777 : BitVec 32 := 0#32
  let c1_i32_779 : BitVec 32 := 1#32
  let arg18 : BitVec 32 := Scf.iv c0_i32_777 c1_i32_779 k0_t20
  let v638 : Index := Scalar.indexCast arg18
  let c0_1105 : Index := 0#32
  let c0_1106 : Index := 0#32
  ![0, 3, 1, v638.toNat, 0, 0]
def k0_off80 (k0_t20 : Fin k0_t20_loop.trips) : Fin 3 → Nat :=
  let c6_i32_1097 : BitVec 32 := 6#32
  let c0_i32_777 : BitVec 32 := 0#32
  let c1_i32_779 : BitVec 32 := 1#32
  let arg18 : BitVec 32 := Scf.iv c0_i32_777 c1_i32_779 k0_t20
  let v628 : BitVec 32 := Scalar.addi c6_i32_1097 arg18
  let v655 : Index := Scalar.indexCast v628
  let c0_1114 : Index := 0#32
  let c0_1115 : Index := 0#32
  ![v655.toNat, 0, 0]
@[reducible] def k0_t21_loop : Scf.Loop 32 :=
  let c0_i32_781 : BitVec 32 := 0#32
  let c2_i32_782 : BitVec 32 := 2#32
  let v471 : BitVec 32 := Scalar.addi c0_i32_781 c2_i32_782
  let c1_i32_783 : BitVec 32 := 1#32
  ⟨c0_i32_781, v471, c1_i32_783⟩
def k0_off81 (k0_t21 : Fin k0_t21_loop.trips) : Fin 3 → Nat :=
  let c8_i32_1097 : BitVec 32 := 8#32
  let c0_i32_781 : BitVec 32 := 0#32
  let c1_i32_783 : BitVec 32 := 1#32
  let arg18 : BitVec 32 := Scf.iv c0_i32_781 c1_i32_783 k0_t21
  let v628 : BitVec 32 := Scalar.addi c8_i32_1097 arg18
  let v629 : Index := Scalar.indexCast v628
  let c0 : Index := 0#32
  let c0_1098 : Index := 0#32
  ![v629.toNat, 0, 0]
def k0_off82 (k0_t21 : Fin k0_t21_loop.trips) : Fin 6 → Nat :=
  let c0_1099 : Index := 0#32
  let c0_1100 : Index := 0#32
  let c0_1101 : Index := 0#32
  let c0_i32_781 : BitVec 32 := 0#32
  let c1_i32_783 : BitVec 32 := 1#32
  let arg18 : BitVec 32 := Scf.iv c0_i32_781 c1_i32_783 k0_t21
  let v635 : Index := Scalar.indexCast arg18
  let c0_1102 : Index := 0#32
  let c0_1103 : Index := 0#32
  ![0, 0, 0, v635.toNat, 0, 0]
def k0_off83 (k0_t21 : Fin k0_t21_loop.trips) : Fin 6 → Nat :=
  let c0_1104 : Index := 0#32
  let c0_1105 : Index := 0#32
  let c1 : Index := 1#32
  let c0_i32_781 : BitVec 32 := 0#32
  let c1_i32_783 : BitVec 32 := 1#32
  let arg18 : BitVec 32 := Scf.iv c0_i32_781 c1_i32_783 k0_t21
  let v638 : Index := Scalar.indexCast arg18
  let c0_1106 : Index := 0#32
  let c0_1107 : Index := 0#32
  ![0, 0, 1, v638.toNat, 0, 0]
def k0_off84 (k0_t21 : Fin k0_t21_loop.trips) : Fin 3 → Nat :=
  let c8_i32_1097 : BitVec 32 := 8#32
  let c0_i32_781 : BitVec 32 := 0#32
  let c1_i32_783 : BitVec 32 := 1#32
  let arg18 : BitVec 32 := Scf.iv c0_i32_781 c1_i32_783 k0_t21
  let v628 : BitVec 32 := Scalar.addi c8_i32_1097 arg18
  let v655 : Index := Scalar.indexCast v628
  let c0_1115 : Index := 0#32
  let c0_1116 : Index := 0#32
  ![v655.toNat, 0, 0]
@[reducible] def k0_t22_loop : Scf.Loop 32 :=
  let c0_i32_785 : BitVec 32 := 0#32
  let c2_i32_786 : BitVec 32 := 2#32
  let v472 : BitVec 32 := Scalar.addi c0_i32_785 c2_i32_786
  let c1_i32_787 : BitVec 32 := 1#32
  ⟨c0_i32_785, v472, c1_i32_787⟩
def k0_off85 (k0_t22 : Fin k0_t22_loop.trips) : Fin 3 → Nat :=
  let c10_i32_1097 : BitVec 32 := 10#32
  let c0_i32_785 : BitVec 32 := 0#32
  let c1_i32_787 : BitVec 32 := 1#32
  let arg18 : BitVec 32 := Scf.iv c0_i32_785 c1_i32_787 k0_t22
  let v628 : BitVec 32 := Scalar.addi c10_i32_1097 arg18
  let v629 : Index := Scalar.indexCast v628
  let c0 : Index := 0#32
  let c0_1098 : Index := 0#32
  ![v629.toNat, 0, 0]
def k0_off86 (k0_t22 : Fin k0_t22_loop.trips) : Fin 6 → Nat :=
  let c0_1099 : Index := 0#32
  let c1 : Index := 1#32
  let c0_1100 : Index := 0#32
  let c0_i32_785 : BitVec 32 := 0#32
  let c1_i32_787 : BitVec 32 := 1#32
  let arg18 : BitVec 32 := Scf.iv c0_i32_785 c1_i32_787 k0_t22
  let v635 : Index := Scalar.indexCast arg18
  let c0_1101 : Index := 0#32
  let c0_1102 : Index := 0#32
  ![0, 1, 0, v635.toNat, 0, 0]
def k0_off87 (k0_t22 : Fin k0_t22_loop.trips) : Fin 6 → Nat :=
  let c0_1103 : Index := 0#32
  let c1_1104 : Index := 1#32
  let c1_1105 : Index := 1#32
  let c0_i32_785 : BitVec 32 := 0#32
  let c1_i32_787 : BitVec 32 := 1#32
  let arg18 : BitVec 32 := Scf.iv c0_i32_785 c1_i32_787 k0_t22
  let v638 : Index := Scalar.indexCast arg18
  let c0_1106 : Index := 0#32
  let c0_1107 : Index := 0#32
  ![0, 1, 1, v638.toNat, 0, 0]
def k0_off88 (k0_t22 : Fin k0_t22_loop.trips) : Fin 3 → Nat :=
  let c10_i32_1097 : BitVec 32 := 10#32
  let c0_i32_785 : BitVec 32 := 0#32
  let c1_i32_787 : BitVec 32 := 1#32
  let arg18 : BitVec 32 := Scf.iv c0_i32_785 c1_i32_787 k0_t22
  let v628 : BitVec 32 := Scalar.addi c10_i32_1097 arg18
  let v655 : Index := Scalar.indexCast v628
  let c0_1115 : Index := 0#32
  let c0_1116 : Index := 0#32
  ![v655.toNat, 0, 0]
@[reducible] def k0_t23_loop : Scf.Loop 32 :=
  let c0_i32_789 : BitVec 32 := 0#32
  let c2_i32_790 : BitVec 32 := 2#32
  let v473 : BitVec 32 := Scalar.addi c0_i32_789 c2_i32_790
  let c1_i32_791 : BitVec 32 := 1#32
  ⟨c0_i32_789, v473, c1_i32_791⟩
def k0_off89 (k0_t23 : Fin k0_t23_loop.trips) : Fin 3 → Nat :=
  let c12_i32_1097 : BitVec 32 := 12#32
  let c0_i32_789 : BitVec 32 := 0#32
  let c1_i32_791 : BitVec 32 := 1#32
  let arg18 : BitVec 32 := Scf.iv c0_i32_789 c1_i32_791 k0_t23
  let v628 : BitVec 32 := Scalar.addi c12_i32_1097 arg18
  let v629 : Index := Scalar.indexCast v628
  let c0 : Index := 0#32
  let c0_1098 : Index := 0#32
  ![v629.toNat, 0, 0]
def k0_off90 (k0_t23 : Fin k0_t23_loop.trips) : Fin 6 → Nat :=
  let c0_1099 : Index := 0#32
  let c2 : Index := 2#32
  let c0_1100 : Index := 0#32
  let c0_i32_789 : BitVec 32 := 0#32
  let c1_i32_791 : BitVec 32 := 1#32
  let arg18 : BitVec 32 := Scf.iv c0_i32_789 c1_i32_791 k0_t23
  let v635 : Index := Scalar.indexCast arg18
  let c0_1101 : Index := 0#32
  let c0_1102 : Index := 0#32
  ![0, 2, 0, v635.toNat, 0, 0]
def k0_off91 (k0_t23 : Fin k0_t23_loop.trips) : Fin 6 → Nat :=
  let c0_1103 : Index := 0#32
  let c2_1104 : Index := 2#32
  let c1 : Index := 1#32
  let c0_i32_789 : BitVec 32 := 0#32
  let c1_i32_791 : BitVec 32 := 1#32
  let arg18 : BitVec 32 := Scf.iv c0_i32_789 c1_i32_791 k0_t23
  let v638 : Index := Scalar.indexCast arg18
  let c0_1105 : Index := 0#32
  let c0_1106 : Index := 0#32
  ![0, 2, 1, v638.toNat, 0, 0]
def k0_off92 (k0_t23 : Fin k0_t23_loop.trips) : Fin 3 → Nat :=
  let c12_i32_1097 : BitVec 32 := 12#32
  let c0_i32_789 : BitVec 32 := 0#32
  let c1_i32_791 : BitVec 32 := 1#32
  let arg18 : BitVec 32 := Scf.iv c0_i32_789 c1_i32_791 k0_t23
  let v628 : BitVec 32 := Scalar.addi c12_i32_1097 arg18
  let v655 : Index := Scalar.indexCast v628
  let c0_1114 : Index := 0#32
  let c0_1115 : Index := 0#32
  ![v655.toNat, 0, 0]
@[reducible] def k0_t24_loop : Scf.Loop 32 :=
  let c0_i32_793 : BitVec 32 := 0#32
  let c2_i32_794 : BitVec 32 := 2#32
  let v474 : BitVec 32 := Scalar.addi c0_i32_793 c2_i32_794
  let c1_i32_795 : BitVec 32 := 1#32
  ⟨c0_i32_793, v474, c1_i32_795⟩
def k0_off93 (k0_t24 : Fin k0_t24_loop.trips) : Fin 3 → Nat :=
  let c14_i32_1097 : BitVec 32 := 14#32
  let c0_i32_793 : BitVec 32 := 0#32
  let c1_i32_795 : BitVec 32 := 1#32
  let arg18 : BitVec 32 := Scf.iv c0_i32_793 c1_i32_795 k0_t24
  let v628 : BitVec 32 := Scalar.addi c14_i32_1097 arg18
  let v629 : Index := Scalar.indexCast v628
  let c0 : Index := 0#32
  let c0_1098 : Index := 0#32
  ![v629.toNat, 0, 0]
def k0_off94 (k0_t24 : Fin k0_t24_loop.trips) : Fin 6 → Nat :=
  let c0_1099 : Index := 0#32
  let c3 : Index := 3#32
  let c0_1100 : Index := 0#32
  let c0_i32_793 : BitVec 32 := 0#32
  let c1_i32_795 : BitVec 32 := 1#32
  let arg18 : BitVec 32 := Scf.iv c0_i32_793 c1_i32_795 k0_t24
  let v635 : Index := Scalar.indexCast arg18
  let c0_1101 : Index := 0#32
  let c0_1102 : Index := 0#32
  ![0, 3, 0, v635.toNat, 0, 0]
def k0_off95 (k0_t24 : Fin k0_t24_loop.trips) : Fin 6 → Nat :=
  let c0_1103 : Index := 0#32
  let c3_1104 : Index := 3#32
  let c1 : Index := 1#32
  let c0_i32_793 : BitVec 32 := 0#32
  let c1_i32_795 : BitVec 32 := 1#32
  let arg18 : BitVec 32 := Scf.iv c0_i32_793 c1_i32_795 k0_t24
  let v638 : Index := Scalar.indexCast arg18
  let c0_1105 : Index := 0#32
  let c0_1106 : Index := 0#32
  ![0, 3, 1, v638.toNat, 0, 0]
def k0_off96 (k0_t24 : Fin k0_t24_loop.trips) : Fin 3 → Nat :=
  let c14_i32_1097 : BitVec 32 := 14#32
  let c0_i32_793 : BitVec 32 := 0#32
  let c1_i32_795 : BitVec 32 := 1#32
  let arg18 : BitVec 32 := Scf.iv c0_i32_793 c1_i32_795 k0_t24
  let v628 : BitVec 32 := Scalar.addi c14_i32_1097 arg18
  let v655 : Index := Scalar.indexCast v628
  let c0_1114 : Index := 0#32
  let c0_1115 : Index := 0#32
  ![v655.toNat, 0, 0]
@[reducible] def k0_t25_loop : Scf.Loop 32 :=
  let c0_i32_815 : BitVec 32 := 0#32
  let c2_i32_816 : BitVec 32 := 2#32
  let v487 : BitVec 32 := Scalar.addi c0_i32_815 c2_i32_816
  let c1_i32_817 : BitVec 32 := 1#32
  ⟨c0_i32_815, v487, c1_i32_817⟩
def k0_off97 (k0_t25 : Fin k0_t25_loop.trips) : Fin 3 → Nat :=
  let c0_i32_1097 : BitVec 32 := 0#32
  let c0_i32_815 : BitVec 32 := 0#32
  let c1_i32_817 : BitVec 32 := 1#32
  let arg18 : BitVec 32 := Scf.iv c0_i32_815 c1_i32_817 k0_t25
  let v628 : BitVec 32 := Scalar.addi c0_i32_1097 arg18
  let v629 : Index := Scalar.indexCast v628
  let c0 : Index := 0#32
  let c0_1098 : Index := 0#32
  ![v629.toNat, 0, 0]
def k0_off98 (k0_t25 : Fin k0_t25_loop.trips) : Fin 6 → Nat :=
  let c1 : Index := 1#32
  let c0_1099 : Index := 0#32
  let c0_1100 : Index := 0#32
  let c0_i32_815 : BitVec 32 := 0#32
  let c1_i32_817 : BitVec 32 := 1#32
  let arg18 : BitVec 32 := Scf.iv c0_i32_815 c1_i32_817 k0_t25
  let v635 : Index := Scalar.indexCast arg18
  let c0_1101 : Index := 0#32
  let c0_1102 : Index := 0#32
  ![1, 0, 0, v635.toNat, 0, 0]
def k0_off99 (k0_t25 : Fin k0_t25_loop.trips) : Fin 6 → Nat :=
  let c1_1103 : Index := 1#32
  let c0_1104 : Index := 0#32
  let c1_1105 : Index := 1#32
  let c0_i32_815 : BitVec 32 := 0#32
  let c1_i32_817 : BitVec 32 := 1#32
  let arg18 : BitVec 32 := Scf.iv c0_i32_815 c1_i32_817 k0_t25
  let v638 : Index := Scalar.indexCast arg18
  let c0_1106 : Index := 0#32
  let c0_1107 : Index := 0#32
  ![1, 0, 1, v638.toNat, 0, 0]
def k0_off100 (k0_t25 : Fin k0_t25_loop.trips) : Fin 3 → Nat :=
  let c0_i32_1097 : BitVec 32 := 0#32
  let c0_i32_815 : BitVec 32 := 0#32
  let c1_i32_817 : BitVec 32 := 1#32
  let arg18 : BitVec 32 := Scf.iv c0_i32_815 c1_i32_817 k0_t25
  let v628 : BitVec 32 := Scalar.addi c0_i32_1097 arg18
  let v655 : Index := Scalar.indexCast v628
  let c0_1115 : Index := 0#32
  let c0_1116 : Index := 0#32
  ![v655.toNat, 0, 0]
@[reducible] def k0_t26_loop : Scf.Loop 32 :=
  let c0_i32_837 : BitVec 32 := 0#32
  let c2_i32_838 : BitVec 32 := 2#32
  let v500 : BitVec 32 := Scalar.addi c0_i32_837 c2_i32_838
  let c1_i32_839 : BitVec 32 := 1#32
  ⟨c0_i32_837, v500, c1_i32_839⟩
def k0_off101 (k0_t26 : Fin k0_t26_loop.trips) : Fin 3 → Nat :=
  let c8_i32_1097 : BitVec 32 := 8#32
  let c0_i32_837 : BitVec 32 := 0#32
  let c1_i32_839 : BitVec 32 := 1#32
  let arg18 : BitVec 32 := Scf.iv c0_i32_837 c1_i32_839 k0_t26
  let v628 : BitVec 32 := Scalar.addi c8_i32_1097 arg18
  let v629 : Index := Scalar.indexCast v628
  let c0 : Index := 0#32
  let c0_1098 : Index := 0#32
  ![v629.toNat, 0, 0]
def k0_off102 (k0_t26 : Fin k0_t26_loop.trips) : Fin 6 → Nat :=
  let c1 : Index := 1#32
  let c0_1099 : Index := 0#32
  let c0_1100 : Index := 0#32
  let c0_i32_837 : BitVec 32 := 0#32
  let c1_i32_839 : BitVec 32 := 1#32
  let arg18 : BitVec 32 := Scf.iv c0_i32_837 c1_i32_839 k0_t26
  let v635 : Index := Scalar.indexCast arg18
  let c0_1101 : Index := 0#32
  let c0_1102 : Index := 0#32
  ![1, 0, 0, v635.toNat, 0, 0]
def k0_off103 (k0_t26 : Fin k0_t26_loop.trips) : Fin 6 → Nat :=
  let c1_1103 : Index := 1#32
  let c0_1104 : Index := 0#32
  let c1_1105 : Index := 1#32
  let c0_i32_837 : BitVec 32 := 0#32
  let c1_i32_839 : BitVec 32 := 1#32
  let arg18 : BitVec 32 := Scf.iv c0_i32_837 c1_i32_839 k0_t26
  let v638 : Index := Scalar.indexCast arg18
  let c0_1106 : Index := 0#32
  let c0_1107 : Index := 0#32
  ![1, 0, 1, v638.toNat, 0, 0]
def k0_off104 (k0_t26 : Fin k0_t26_loop.trips) : Fin 3 → Nat :=
  let c8_i32_1097 : BitVec 32 := 8#32
  let c0_i32_837 : BitVec 32 := 0#32
  let c1_i32_839 : BitVec 32 := 1#32
  let arg18 : BitVec 32 := Scf.iv c0_i32_837 c1_i32_839 k0_t26
  let v628 : BitVec 32 := Scalar.addi c8_i32_1097 arg18
  let v655 : Index := Scalar.indexCast v628
  let c0_1115 : Index := 0#32
  let c0_1116 : Index := 0#32
  ![v655.toNat, 0, 0]
@[reducible] def k0_t27_loop : Scf.Loop 32 :=
  let c0_i32_859 : BitVec 32 := 0#32
  let c2_i32_860 : BitVec 32 := 2#32
  let v513 : BitVec 32 := Scalar.addi c0_i32_859 c2_i32_860
  let c1_i32_861 : BitVec 32 := 1#32
  ⟨c0_i32_859, v513, c1_i32_861⟩
def k0_off105 (k0_t27 : Fin k0_t27_loop.trips) : Fin 3 → Nat :=
  let c2_i32_1097 : BitVec 32 := 2#32
  let c0_i32_859 : BitVec 32 := 0#32
  let c1_i32_861 : BitVec 32 := 1#32
  let arg18 : BitVec 32 := Scf.iv c0_i32_859 c1_i32_861 k0_t27
  let v628 : BitVec 32 := Scalar.addi c2_i32_1097 arg18
  let v629 : Index := Scalar.indexCast v628
  let c0 : Index := 0#32
  let c0_1098 : Index := 0#32
  ![v629.toNat, 0, 0]
def k0_off106 (k0_t27 : Fin k0_t27_loop.trips) : Fin 6 → Nat :=
  let c1 : Index := 1#32
  let c1_1099 : Index := 1#32
  let c0_1100 : Index := 0#32
  let c0_i32_859 : BitVec 32 := 0#32
  let c1_i32_861 : BitVec 32 := 1#32
  let arg18 : BitVec 32 := Scf.iv c0_i32_859 c1_i32_861 k0_t27
  let v635 : Index := Scalar.indexCast arg18
  let c0_1101 : Index := 0#32
  let c0_1102 : Index := 0#32
  ![1, 1, 0, v635.toNat, 0, 0]
def k0_off107 (k0_t27 : Fin k0_t27_loop.trips) : Fin 6 → Nat :=
  let c1_1103 : Index := 1#32
  let c1_1104 : Index := 1#32
  let c1_1105 : Index := 1#32
  let c0_i32_859 : BitVec 32 := 0#32
  let c1_i32_861 : BitVec 32 := 1#32
  let arg18 : BitVec 32 := Scf.iv c0_i32_859 c1_i32_861 k0_t27
  let v638 : Index := Scalar.indexCast arg18
  let c0_1106 : Index := 0#32
  let c0_1107 : Index := 0#32
  ![1, 1, 1, v638.toNat, 0, 0]
def k0_off108 (k0_t27 : Fin k0_t27_loop.trips) : Fin 3 → Nat :=
  let c2_i32_1097 : BitVec 32 := 2#32
  let c0_i32_859 : BitVec 32 := 0#32
  let c1_i32_861 : BitVec 32 := 1#32
  let arg18 : BitVec 32 := Scf.iv c0_i32_859 c1_i32_861 k0_t27
  let v628 : BitVec 32 := Scalar.addi c2_i32_1097 arg18
  let v655 : Index := Scalar.indexCast v628
  let c0_1115 : Index := 0#32
  let c0_1116 : Index := 0#32
  ![v655.toNat, 0, 0]
@[reducible] def k0_t28_loop : Scf.Loop 32 :=
  let c0_i32_881 : BitVec 32 := 0#32
  let c2_i32_882 : BitVec 32 := 2#32
  let v526 : BitVec 32 := Scalar.addi c0_i32_881 c2_i32_882
  let c1_i32_883 : BitVec 32 := 1#32
  ⟨c0_i32_881, v526, c1_i32_883⟩
def k0_off109 (k0_t28 : Fin k0_t28_loop.trips) : Fin 3 → Nat :=
  let c10_i32_1097 : BitVec 32 := 10#32
  let c0_i32_881 : BitVec 32 := 0#32
  let c1_i32_883 : BitVec 32 := 1#32
  let arg18 : BitVec 32 := Scf.iv c0_i32_881 c1_i32_883 k0_t28
  let v628 : BitVec 32 := Scalar.addi c10_i32_1097 arg18
  let v629 : Index := Scalar.indexCast v628
  let c0 : Index := 0#32
  let c0_1098 : Index := 0#32
  ![v629.toNat, 0, 0]
def k0_off110 (k0_t28 : Fin k0_t28_loop.trips) : Fin 6 → Nat :=
  let c1 : Index := 1#32
  let c1_1099 : Index := 1#32
  let c0_1100 : Index := 0#32
  let c0_i32_881 : BitVec 32 := 0#32
  let c1_i32_883 : BitVec 32 := 1#32
  let arg18 : BitVec 32 := Scf.iv c0_i32_881 c1_i32_883 k0_t28
  let v635 : Index := Scalar.indexCast arg18
  let c0_1101 : Index := 0#32
  let c0_1102 : Index := 0#32
  ![1, 1, 0, v635.toNat, 0, 0]
def k0_off111 (k0_t28 : Fin k0_t28_loop.trips) : Fin 6 → Nat :=
  let c1_1103 : Index := 1#32
  let c1_1104 : Index := 1#32
  let c1_1105 : Index := 1#32
  let c0_i32_881 : BitVec 32 := 0#32
  let c1_i32_883 : BitVec 32 := 1#32
  let arg18 : BitVec 32 := Scf.iv c0_i32_881 c1_i32_883 k0_t28
  let v638 : Index := Scalar.indexCast arg18
  let c0_1106 : Index := 0#32
  let c0_1107 : Index := 0#32
  ![1, 1, 1, v638.toNat, 0, 0]
def k0_off112 (k0_t28 : Fin k0_t28_loop.trips) : Fin 3 → Nat :=
  let c10_i32_1097 : BitVec 32 := 10#32
  let c0_i32_881 : BitVec 32 := 0#32
  let c1_i32_883 : BitVec 32 := 1#32
  let arg18 : BitVec 32 := Scf.iv c0_i32_881 c1_i32_883 k0_t28
  let v628 : BitVec 32 := Scalar.addi c10_i32_1097 arg18
  let v655 : Index := Scalar.indexCast v628
  let c0_1115 : Index := 0#32
  let c0_1116 : Index := 0#32
  ![v655.toNat, 0, 0]
@[reducible] def k0_t29_loop : Scf.Loop 32 :=
  let c0_i32_903 : BitVec 32 := 0#32
  let c2_i32_904 : BitVec 32 := 2#32
  let v539 : BitVec 32 := Scalar.addi c0_i32_903 c2_i32_904
  let c1_i32_905 : BitVec 32 := 1#32
  ⟨c0_i32_903, v539, c1_i32_905⟩
def k0_off113 (k0_t29 : Fin k0_t29_loop.trips) : Fin 3 → Nat :=
  let c4_i32_1097 : BitVec 32 := 4#32
  let c0_i32_903 : BitVec 32 := 0#32
  let c1_i32_905 : BitVec 32 := 1#32
  let arg18 : BitVec 32 := Scf.iv c0_i32_903 c1_i32_905 k0_t29
  let v628 : BitVec 32 := Scalar.addi c4_i32_1097 arg18
  let v629 : Index := Scalar.indexCast v628
  let c0 : Index := 0#32
  let c0_1098 : Index := 0#32
  ![v629.toNat, 0, 0]
def k0_off114 (k0_t29 : Fin k0_t29_loop.trips) : Fin 6 → Nat :=
  let c1 : Index := 1#32
  let c2 : Index := 2#32
  let c0_1099 : Index := 0#32
  let c0_i32_903 : BitVec 32 := 0#32
  let c1_i32_905 : BitVec 32 := 1#32
  let arg18 : BitVec 32 := Scf.iv c0_i32_903 c1_i32_905 k0_t29
  let v635 : Index := Scalar.indexCast arg18
  let c0_1100 : Index := 0#32
  let c0_1101 : Index := 0#32
  ![1, 2, 0, v635.toNat, 0, 0]
def k0_off115 (k0_t29 : Fin k0_t29_loop.trips) : Fin 6 → Nat :=
  let c1_1102 : Index := 1#32
  let c2_1103 : Index := 2#32
  let c1_1104 : Index := 1#32
  let c0_i32_903 : BitVec 32 := 0#32
  let c1_i32_905 : BitVec 32 := 1#32
  let arg18 : BitVec 32 := Scf.iv c0_i32_903 c1_i32_905 k0_t29
  let v638 : Index := Scalar.indexCast arg18
  let c0_1105 : Index := 0#32
  let c0_1106 : Index := 0#32
  ![1, 2, 1, v638.toNat, 0, 0]
def k0_off116 (k0_t29 : Fin k0_t29_loop.trips) : Fin 3 → Nat :=
  let c4_i32_1097 : BitVec 32 := 4#32
  let c0_i32_903 : BitVec 32 := 0#32
  let c1_i32_905 : BitVec 32 := 1#32
  let arg18 : BitVec 32 := Scf.iv c0_i32_903 c1_i32_905 k0_t29
  let v628 : BitVec 32 := Scalar.addi c4_i32_1097 arg18
  let v655 : Index := Scalar.indexCast v628
  let c0_1114 : Index := 0#32
  let c0_1115 : Index := 0#32
  ![v655.toNat, 0, 0]
@[reducible] def k0_t30_loop : Scf.Loop 32 :=
  let c0_i32_925 : BitVec 32 := 0#32
  let c2_i32_926 : BitVec 32 := 2#32
  let v552 : BitVec 32 := Scalar.addi c0_i32_925 c2_i32_926
  let c1_i32_927 : BitVec 32 := 1#32
  ⟨c0_i32_925, v552, c1_i32_927⟩
def k0_off117 (k0_t30 : Fin k0_t30_loop.trips) : Fin 3 → Nat :=
  let c12_i32_1097 : BitVec 32 := 12#32
  let c0_i32_925 : BitVec 32 := 0#32
  let c1_i32_927 : BitVec 32 := 1#32
  let arg18 : BitVec 32 := Scf.iv c0_i32_925 c1_i32_927 k0_t30
  let v628 : BitVec 32 := Scalar.addi c12_i32_1097 arg18
  let v629 : Index := Scalar.indexCast v628
  let c0 : Index := 0#32
  let c0_1098 : Index := 0#32
  ![v629.toNat, 0, 0]
def k0_off118 (k0_t30 : Fin k0_t30_loop.trips) : Fin 6 → Nat :=
  let c1 : Index := 1#32
  let c2 : Index := 2#32
  let c0_1099 : Index := 0#32
  let c0_i32_925 : BitVec 32 := 0#32
  let c1_i32_927 : BitVec 32 := 1#32
  let arg18 : BitVec 32 := Scf.iv c0_i32_925 c1_i32_927 k0_t30
  let v635 : Index := Scalar.indexCast arg18
  let c0_1100 : Index := 0#32
  let c0_1101 : Index := 0#32
  ![1, 2, 0, v635.toNat, 0, 0]
def k0_off119 (k0_t30 : Fin k0_t30_loop.trips) : Fin 6 → Nat :=
  let c1_1102 : Index := 1#32
  let c2_1103 : Index := 2#32
  let c1_1104 : Index := 1#32
  let c0_i32_925 : BitVec 32 := 0#32
  let c1_i32_927 : BitVec 32 := 1#32
  let arg18 : BitVec 32 := Scf.iv c0_i32_925 c1_i32_927 k0_t30
  let v638 : Index := Scalar.indexCast arg18
  let c0_1105 : Index := 0#32
  let c0_1106 : Index := 0#32
  ![1, 2, 1, v638.toNat, 0, 0]
def k0_off120 (k0_t30 : Fin k0_t30_loop.trips) : Fin 3 → Nat :=
  let c12_i32_1097 : BitVec 32 := 12#32
  let c0_i32_925 : BitVec 32 := 0#32
  let c1_i32_927 : BitVec 32 := 1#32
  let arg18 : BitVec 32 := Scf.iv c0_i32_925 c1_i32_927 k0_t30
  let v628 : BitVec 32 := Scalar.addi c12_i32_1097 arg18
  let v655 : Index := Scalar.indexCast v628
  let c0_1114 : Index := 0#32
  let c0_1115 : Index := 0#32
  ![v655.toNat, 0, 0]
@[reducible] def k0_t31_loop : Scf.Loop 32 :=
  let c0_i32_947 : BitVec 32 := 0#32
  let c2_i32_948 : BitVec 32 := 2#32
  let v565 : BitVec 32 := Scalar.addi c0_i32_947 c2_i32_948
  let c1_i32_949 : BitVec 32 := 1#32
  ⟨c0_i32_947, v565, c1_i32_949⟩
def k0_off121 (k0_t31 : Fin k0_t31_loop.trips) : Fin 3 → Nat :=
  let c6_i32_1097 : BitVec 32 := 6#32
  let c0_i32_947 : BitVec 32 := 0#32
  let c1_i32_949 : BitVec 32 := 1#32
  let arg18 : BitVec 32 := Scf.iv c0_i32_947 c1_i32_949 k0_t31
  let v628 : BitVec 32 := Scalar.addi c6_i32_1097 arg18
  let v629 : Index := Scalar.indexCast v628
  let c0 : Index := 0#32
  let c0_1098 : Index := 0#32
  ![v629.toNat, 0, 0]
def k0_off122 (k0_t31 : Fin k0_t31_loop.trips) : Fin 6 → Nat :=
  let c1 : Index := 1#32
  let c3 : Index := 3#32
  let c0_1099 : Index := 0#32
  let c0_i32_947 : BitVec 32 := 0#32
  let c1_i32_949 : BitVec 32 := 1#32
  let arg18 : BitVec 32 := Scf.iv c0_i32_947 c1_i32_949 k0_t31
  let v635 : Index := Scalar.indexCast arg18
  let c0_1100 : Index := 0#32
  let c0_1101 : Index := 0#32
  ![1, 3, 0, v635.toNat, 0, 0]
def k0_off123 (k0_t31 : Fin k0_t31_loop.trips) : Fin 6 → Nat :=
  let c1_1102 : Index := 1#32
  let c3_1103 : Index := 3#32
  let c1_1104 : Index := 1#32
  let c0_i32_947 : BitVec 32 := 0#32
  let c1_i32_949 : BitVec 32 := 1#32
  let arg18 : BitVec 32 := Scf.iv c0_i32_947 c1_i32_949 k0_t31
  let v638 : Index := Scalar.indexCast arg18
  let c0_1105 : Index := 0#32
  let c0_1106 : Index := 0#32
  ![1, 3, 1, v638.toNat, 0, 0]
def k0_off124 (k0_t31 : Fin k0_t31_loop.trips) : Fin 3 → Nat :=
  let c6_i32_1097 : BitVec 32 := 6#32
  let c0_i32_947 : BitVec 32 := 0#32
  let c1_i32_949 : BitVec 32 := 1#32
  let arg18 : BitVec 32 := Scf.iv c0_i32_947 c1_i32_949 k0_t31
  let v628 : BitVec 32 := Scalar.addi c6_i32_1097 arg18
  let v655 : Index := Scalar.indexCast v628
  let c0_1114 : Index := 0#32
  let c0_1115 : Index := 0#32
  ![v655.toNat, 0, 0]
@[reducible] def k0_t32_loop : Scf.Loop 32 :=
  let c0_i32_969 : BitVec 32 := 0#32
  let c2_i32_970 : BitVec 32 := 2#32
  let v578 : BitVec 32 := Scalar.addi c0_i32_969 c2_i32_970
  let c1_i32_971 : BitVec 32 := 1#32
  ⟨c0_i32_969, v578, c1_i32_971⟩
def k0_off125 (k0_t32 : Fin k0_t32_loop.trips) : Fin 3 → Nat :=
  let c14_i32_1097 : BitVec 32 := 14#32
  let c0_i32_969 : BitVec 32 := 0#32
  let c1_i32_971 : BitVec 32 := 1#32
  let arg18 : BitVec 32 := Scf.iv c0_i32_969 c1_i32_971 k0_t32
  let v628 : BitVec 32 := Scalar.addi c14_i32_1097 arg18
  let v629 : Index := Scalar.indexCast v628
  let c0 : Index := 0#32
  let c0_1098 : Index := 0#32
  ![v629.toNat, 0, 0]
def k0_off126 (k0_t32 : Fin k0_t32_loop.trips) : Fin 6 → Nat :=
  let c1 : Index := 1#32
  let c3 : Index := 3#32
  let c0_1099 : Index := 0#32
  let c0_i32_969 : BitVec 32 := 0#32
  let c1_i32_971 : BitVec 32 := 1#32
  let arg18 : BitVec 32 := Scf.iv c0_i32_969 c1_i32_971 k0_t32
  let v635 : Index := Scalar.indexCast arg18
  let c0_1100 : Index := 0#32
  let c0_1101 : Index := 0#32
  ![1, 3, 0, v635.toNat, 0, 0]
def k0_off127 (k0_t32 : Fin k0_t32_loop.trips) : Fin 6 → Nat :=
  let c1_1102 : Index := 1#32
  let c3_1103 : Index := 3#32
  let c1_1104 : Index := 1#32
  let c0_i32_969 : BitVec 32 := 0#32
  let c1_i32_971 : BitVec 32 := 1#32
  let arg18 : BitVec 32 := Scf.iv c0_i32_969 c1_i32_971 k0_t32
  let v638 : Index := Scalar.indexCast arg18
  let c0_1105 : Index := 0#32
  let c0_1106 : Index := 0#32
  ![1, 3, 1, v638.toNat, 0, 0]
def k0_off128 (k0_t32 : Fin k0_t32_loop.trips) : Fin 3 → Nat :=
  let c14_i32_1097 : BitVec 32 := 14#32
  let c0_i32_969 : BitVec 32 := 0#32
  let c1_i32_971 : BitVec 32 := 1#32
  let arg18 : BitVec 32 := Scf.iv c0_i32_969 c1_i32_971 k0_t32
  let v628 : BitVec 32 := Scalar.addi c14_i32_1097 arg18
  let v655 : Index := Scalar.indexCast v628
  let c0_1114 : Index := 0#32
  let c0_1115 : Index := 0#32
  ![v655.toNat, 0, 0]
@[reducible] def k0_t33_loop : Scf.Loop 32 :=
  let c0_i32_1093 : BitVec 32 := 0#32
  let c16_i32_1094 : BitVec 32 := 16#32
  let v627 : BitVec 32 := Scalar.addi c0_i32_1093 c16_i32_1094
  let c1_i32_1095 : BitVec 32 := 1#32
  ⟨c0_i32_1093, v627, c1_i32_1095⟩
def k0_off129 (k0_t33 : Fin k0_t33_loop.trips) : Fin 3 → Nat :=
  let c0_i32_1093 : BitVec 32 := 0#32
  let c1_i32_1095 : BitVec 32 := 1#32
  let arg18 : BitVec 32 := Scf.iv c0_i32_1093 c1_i32_1095 k0_t33
  let v628 : Index := Scalar.indexCast arg18
  let c0 : Index := 0#32
  let c0_1097 : Index := 0#32
  ![v628.toNat, 0, 0]
def k0_off130 (k0_t33 : Fin k0_t33_loop.trips) : Fin 3 → Nat :=
  let c0_i32_1093 : BitVec 32 := 0#32
  let c1_i32_1095 : BitVec 32 := 1#32
  let arg18 : BitVec 32 := Scf.iv c0_i32_1093 c1_i32_1095 k0_t33
  let v631 : Index := Scalar.indexCast arg18
  let c0_1098 : Index := 0#32
  let c0_1099 : Index := 0#32
  ![v631.toNat, 0, 0]
abbrev stage0_0 : Fin 1 → Memref sig .tc .vmem S16x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x4096x16x128 : Shape := ⟨4, ![1, 4096, 16, 128]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩
abbrev S1x16x128x4096 : Shape := ⟨4, ![1, 16, 128, 4096]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x16x128, .f32⟩
  | .hbm, ⟨1, _⟩ => ⟨S1x4096x16x128, .f32⟩
  | .hbm, ⟨2, _⟩ => ⟨S1x4096x16x128, .f32⟩
  | .hbm, ⟨3, _⟩ => ⟨S1x16x4096x4096, .f32⟩
  | .hbm, ⟨4, _⟩ => ⟨S_, .f32⟩
  | .hbm, ⟨5, _⟩ => ⟨S1x16x4096x4096, .f32⟩
  | .hbm, ⟨6, _⟩ => ⟨S1x16x4096x4096, .f32⟩
  | .hbm, ⟨7, _⟩ => ⟨S_, .f32⟩
  | .hbm, ⟨8, _⟩ => ⟨S1x16x4096, .f32⟩
  | .hbm, ⟨9, _⟩ => ⟨S1x16x4096x1, .f32⟩
  | .hbm, ⟨10, _⟩ => ⟨S1x16x4096x4096, .f32⟩
  | .hbm, ⟨11, _⟩ => ⟨S1x16x4096x4096, .f32⟩
  | .hbm, ⟨12, _⟩ => ⟨S1x16x4096x4096, .f32⟩
  | .hbm, ⟨13, _⟩ => ⟨S_, .f32⟩
  | .hbm, ⟨14, _⟩ => ⟨S1x16x4096, .f32⟩
  | .hbm, ⟨15, _⟩ => ⟨S1x16x4096x1, .f32⟩
  | .hbm, ⟨16, _⟩ => ⟨S1x16x4096x4096, .f32⟩
  | .hbm, ⟨17, _⟩ => ⟨S1x16x4096x4096, .f32⟩
  | .hbm, ⟨18, _⟩ => ⟨S1x16x128x4096, .f32⟩
  | .hbm, ⟨19, _⟩ => ⟨S1x4096x16x128, .f32⟩
  | _, _ => ⟨S1x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ops.lean ====
/-
  The kernel's body as a list of steps: the copies in, the barrier, the ring's copies and their waits, the
  attention steps of two heads each, and the final division. The printed body is this list, part by part.
-/
module

public import proofs.«01_k».proof.Proof.Gen.KernelIdeal.Skeleton
public import proofs.«01_k».proof.Proof.Gen.KernelIdeal.Points

@[expose] public section

noncomputable section

namespace Cert.KernelIdeal.Att

open Idealize.ShloMosaic Idealize.SL.Sem
open Cert.KernelIdeal.Gen

variable {F : FTy → Type} [FloatOps F]

/-- The two directions blocks travel in around the ring. -/
inductive Dir | cw | ccw
  deriving DecidableEq
noncomputable instance : Fintype Dir := ⟨{.cw, .ccw}, fun x => by cases x <;> decide⟩

/-- The direction's number. -/
def Dir.n : Dir → ℕ | .cw => 0 | .ccw => 1
/-- The other direction. -/
def Dir.op : Dir → Dir | .cw => .ccw | .ccw => .cw
/-- The first head the direction carries. -/
def hb : Dir → ℕ | .cw => 0 | .ccw => 8

/-- The device a direction's blocks go to, and the device they come from. -/
def nx : Dir → Dev nD → Dev nD
  | .cw, c => ⟨16 * (c.val / 16) + 4 * ((c.val / 4) % 4) + (((c.val % 4) + 1) % 4), by have : c.val < 32 := c.isLt; show _ < 32; omega⟩
  | .ccw, c => ⟨16 * (c.val / 16) + 4 * ((c.val / 4) % 4) + (((c.val % 4) + 3) % 4), by have : c.val < 32 := c.isLt; show _ < 32; omega⟩
abbrev pv (d : Dir) (c : Dev nD) : Dev nD := nx d.op c
theorem nx_pv (d : Dir) (c : Dev nD) : nx d (pv d c) = c := by revert d c; decide +kernel
theorem pv_nx (d : Dir) (c : Dev nD) : pv d (nx d c) = c := by revert d c; decide +kernel

/-- The semaphores of a device: the barrier, one for each of the copies in, two for each whole-slot copy, two
    for each quarter-slot copy, and the credits. -/
inductive Role
  | bar | load (d : Dir) (u : Fin 4) (kv : Fin 2) | send (d : Dir) (h : Fin 2) | recv (d : Dir) (h : Fin 2)
  | send2 (d : Dir) (u : Fin 4) | recv2 (d : Dir) (u : Fin 4) | credit (d : Dir)
  deriving DecidableEq

/-- The number of the transfer semaphore of a copy in. -/
def ldS (d : Dir) (u : Fin 4) (kv : Fin 2) : DmaSem sig := ⟨2 + (4 * u.val + 2 * d.n + kv.val), by
  have := u.isLt; have := kv.isLt; show _ < 42; cases d <;> (simp only [Dir.n]; omega)⟩
/-- Of a whole-slot copy's leaving. -/
def sdS (d : Dir) (h : Fin 2) : DmaSem sig := ⟨18 + 4 * d.n + h.val, by
  have := h.isLt; show _ < 42; cases d <;> (simp only [Dir.n]; omega)⟩
/-- Of a whole-slot copy's arrival. -/
def rvS (d : Dir) (h : Fin 2) : DmaSem sig := ⟨20 + 4 * d.n + h.val, by
  have := h.isLt; show _ < 42; cases d <;> (simp only [Dir.n]; omega)⟩
/-- Of a quarter-slot copy's leaving. -/
def sd2S (d : Dir) (u : Fin 4) : DmaSem sig := ⟨26 + 8 * d.n + u.val, by
  have := u.isLt; show _ < 42; cases d <;> (simp only [Dir.n]; omega)⟩
/-- Of a quarter-slot copy's arrival. -/
def rv2S (d : Dir) (u : Fin 4) : DmaSem sig := ⟨30 + 8 * d.n + u.val, by
  have := u.isLt; show _ < 42; cases d <;> (simp only [Dir.n]; omega)⟩
/-- The credit semaphore. -/
def crS (d : Dir) : Sem sig := ⟨d.n, by show _ < 3; cases d <;> (simp only [Dir.n]; omega)⟩

/-! ## The buffers' parts -/

/-- The direction's two-slot buffer. -/
def bufM : Dir → Memref sig .tc .vmem S2x4x2x2x1024x128 .bf16
  | .cw => Memref.whole cc0_scratch0
  | .ccw => Memref.whole cc0_scratch1
theorem bufM_whole (d : Dir) : (bufM d).IsWhole := by cases d <;> exact Memref.isWhole_whole _

/-- The keys' array and the values'. -/
def srcM (kv : Fin 2) : Memref sig .tc .hbm S16x1024x128 .bf16 :=
  match kv with | 0 => Memref.whole main_v5 | 1 => Memref.whole main_v8
theorem srcM_whole (kv : Fin 2) : (srcM kv).IsWhole := by fin_cases kv <;> exact Memref.isWhole_whole _

/-- Two heads of an array. -/
def ldRect (d : Dir) (u : Fin 4) : Rect S16x1024x128 :=
  Rect.unit (s := S16x1024x128) ![hb d + 2 * u.val, 0, 0] S2x1024x128.size (by
    intro a; have := u.isLt; cases d <;> fin_cases a <;> simp [hb] <;> omega)
/-- Where they go in slot 0. -/
def inRect (u : Fin 4) (kv : Fin 2) : Rect S2x4x2x2x1024x128 :=
  Rect.unit (s := S2x4x2x2x1024x128) ![0, u.val, kv.val, 0, 0, 0] S1x1x1x2x1024x128.size (by
    intro a; have := u.isLt; have := kv.isLt; fin_cases a <;> simp <;> omega)
/-- A slot. -/
def slotRect (s : Fin 2) : Rect S2x4x2x2x1024x128 :=
  Rect.unit (s := S2x4x2x2x1024x128) ![s.val, 0, 0, 0, 0, 0] S1x4x2x2x1024x128.size (by
    intro a; have := s.isLt; fin_cases a <;> simp <;> omega)
/-- A quarter of a slot. -/
def subRect (s : Fin 2) (u : Fin 4) : Rect S2x4x2x2x1024x128 :=
  Rect.unit (s := S2x4x2x2x1024x128) ![s.val, u.val, 0, 0, 0, 0] S1x1x2x2x1024x128.size (by
    intro a; have := s.isLt; have := u.isLt; fin_cases a <;> simp <;> omega)

def ldSrc (d : Dir) (u : Fin 4) (kv : Fin 2) : Memref sig .tc .hbm S2x1024x128 .bf16 :=
  (srcM kv).slice (ldRect d u) (fun _ => rfl)
def ldDst (d : Dir) (u : Fin 4) (kv : Fin 2) : Memref sig .tc .vmem S2x1024x128 .bf16 :=
  ((bufM d).slice (inRect u kv) (fun _ => rfl)).squeeze S2x1024x128 squeezes_S1x1x1x2x1024x128_S2x1024x128
def slotM (d : Dir) (s : Fin 2) : Memref sig .tc .vmem S4x2x2x1024x128 .bf16 :=
  ((bufM d).slice (slotRect s) (fun _ => rfl)).squeeze S4x2x2x1024x128 squeezes_S1x4x2x2x1024x128_S4x2x2x1024x128
def subM (d : Dir) (s : Fin 2) (u : Fin 4) : Memref sig .tc .vmem S2x2x1024x128 .bf16 :=
  ((bufM d).slice (subRect s u) (fun _ => rfl)).squeeze S2x2x1024x128 squeezes_S1x1x2x2x1024x128_S2x2x1024x128

theorem we_ldSrc (d : Dir) (u : Fin 4) (kv : Fin 2) : (ldSrc d u kv).view.WordExact :=
  (srcM_whole kv).wordExact_slice rfl (ldRect d u) (by
    cases d <;> fin_cases u
    · exact wordsbf16_S16x1024x128_S2x1024x128_0_0_0
    · exact wordsbf16_S16x1024x128_S2x1024x128_2_0_0
    · exact wordsbf16_S16x1024x128_S2x1024x128_4_0_0
    · exact wordsbf16_S16x1024x128_S2x1024x128_6_0_0
    · exact wordsbf16_S16x1024x128_S2x1024x128_8_0_0
    · exact wordsbf16_S16x1024x128_S2x1024x128_10_0_0
    · exact wordsbf16_S16x1024x128_S2x1024x128_12_0_0
    · exact wordsbf16_S16x1024x128_S2x1024x128_14_0_0)
theorem we_ldDst (d : Dir) (u : Fin 4) (kv : Fin 2) : (ldDst d u kv).view.WordExact :=
  ((bufM_whole d).wordExact_slice rfl (inRect u kv) (by
    fin_cases u <;> fin_cases kv
    · exact wordsbf16_S2x4x2x2x1024x128_S1x1x1x2x1024x128_0_0_0_0_0_0
    · exact wordsbf16_S2x4x2x2x1024x128_S1x1x1x2x1024x128_0_0_1_0_0_0
    · exact wordsbf16_S2x4x2x2x1024x128_S1x1x1x2x1024x128_0_1_0_0_0_0
    · exact wordsbf16_S2x4x2x2x1024x128_S1x1x1x2x1024x128_0_1_1_0_0_0
    · exact wordsbf16_S2x4x2x2x1024x128_S1x1x1x2x1024x128_0_2_0_0_0_0
    · exact wordsbf16_S2x4x2x2x1024x128_S1x1x1x2x1024x128_0_2_1_0_0_0
    · exact wordsbf16_S2x4x2x2x1024x128_S1x1x1x2x1024x128_0_3_0_0_0_0
    · exact wordsbf16_S2x4x2x2x1024x128_S1x1x1x2x1024x128_0_3_1_0_0_0)).reshape _ _
theorem we_slot (d : Dir) (s : Fin 2) : (slotM d s).view.WordExact :=
  ((bufM_whole d).wordExact_slice rfl (slotRect s) (by
    fin_cases s
    · exact wordsbf16_S2x4x2x2x1024x128_S1x4x2x2x1024x128_0_0_0_0_0_0
    · exact wordsbf16_S2x4x2x2x1024x128_S1x4x2x2x1024x128_1_0_0_0_0_0)).reshape _ _
theorem we_sub (d : Dir) (s : Fin 2) (u : Fin 4) : (subM d s u).view.WordExact :=
  ((bufM_whole d).wordExact_slice rfl (subRect s u) (by
    fin_cases s <;> fin_cases u
    · exact wordsbf16_S2x4x2x2x1024x128_S1x1x2x2x1024x128_0_0_0_0_0_0
    · exact wordsbf16_S2x4x2x2x1024x128_S1x1x2x2x1024x128_0_1_0_0_0_0
    · exact wordsbf16_S2x4x2x2x1024x128_S1x1x2x2x1024x128_0_2_0_0_0_0
    · exact wordsbf16_S2x4x2x2x1024x128_S1x1x2x2x1024x128_0_3_0_0_0_0
    · exact wordsbf16_S2x4x2x2x1024x128_S1x1x2x2x1024x128_1_0_0_0_0_0
    · exact wordsbf16_S2x4x2x2x1024x128_S1x1x2x2x1024x128_1_1_0_0_0_0
    · exact wordsbf16_S2x4x2x2x1024x128_S1x1x2x2x1024x128_1_2_0_0_0_0
    · exact wordsbf16_S2x4x2x2x1024x128_S1x1x2x2x1024x128_1_3_0_0_0_0)).reshape _ _

/-! ## The steps -/

/-- A step of the kernel's body. -/
abbrev Pg (F : FTy → Type) : Type 1 := Prog (TpuEff nD τ sig (Elt F) Λ₀ .tc) PUnit

def ldStart (d : Dir) (u : Fin 4) (kv : Fin 2) : Pg F :=
  Prog.lift (.enqueueDma (ldSrc d u kv) (.here (ldDst d u kv)) (.dma (ldS d u kv)) (we_ldSrc d u kv) (we_ldDst d u kv) ⟨Or.inl rfl, trivial⟩)
def ldWait (d : Dir) (u : Fin 4) (kv : Fin 2) : Pg F :=
  Prog.lift (.waitDma2 (ldS d u kv) (ldSrc d u kv) (ldDst d u kv) (we_ldSrc d u kv) (we_ldDst d u kv))
/-- The slot a block is not in. -/
def oth : Fin 2 → Fin 2 | 0 => 1 | 1 => 0
def send (d : Dir) (h : Fin 2) (p : Dev nD) : Pg F :=
  Prog.lift (.enqueueDma (slotM d h) (.remote (Dev.tc p) (slotM d (oth h)) (.dma (sdS d h))) (.dma (rvS d h)) (we_slot d h) (we_slot d (oth h))
    ⟨⟨rfl, Or.inl rfl⟩, trivial⟩)
def sendWait (d : Dir) (h : Fin 2) : Pg F :=
  Prog.lift (.waitDma2 (sdS d h) (slotM d (oth h)) (slotM d h) (we_slot d (oth h)) (we_slot d h))
def recvWait (d : Dir) (h : Fin 2) : Pg F :=
  Prog.lift (.waitDma2 (rvS d h) (slotM d h) (slotM d (oth h)) (we_slot d h) (we_slot d (oth h)))
def send2 (d : Dir) (u : Fin 4) (p : Dev nD) : Pg F :=
  Prog.lift (.enqueueDma (subM d 0 u) (.remote (Dev.tc p) (subM d 1 u) (.dma (sd2S d u))) (.dma (rv2S d u)) (we_sub d 0 u) (we_sub d 1 u)
    ⟨⟨rfl, Or.inl rfl⟩, trivial⟩)
def send2Wait (d : Dir) (u : Fin 4) : Pg F :=
  Prog.lift (.waitDma2 (sd2S d u) (subM d 1 u) (subM d 0 u) (we_sub d 1 u) (we_sub d 0 u))
def recv2Wait (d : Dir) (u : Fin 4) : Pg F :=
  Prog.lift (.waitDma2 (rv2S d u) (subM d 0 u) (subM d 1 u) (we_sub d 0 u) (we_sub d 1 u))
def barSig (p : Dev nD) : Pg F := semSignalWord p barrier0 1#32
def barWait : Pg F := semWaitWord barrier0 2#32
def credSig (d : Dir) (p : Dev nD) : Pg F := semSignalWord p (crS d) 1#32
def credWait (d : Dir) : Pg F := semWaitWord (crS d) 1#32

/-! ## Two heads' attention over one block -/

/-- The head a step of the loop works on, as an offset of the head-major arrays. -/
def oq (d : Dir) (u : Fin 4) (t : Fin k0_t1_loop.trips) : Fin 3 → ℕ :=
  ![(Scalar.indexCast (Scalar.addi (BitVec.ofNat 32 (hb d + 2 * u.val)) (Scf.iv 0#32 1#32 t)) : Index).toNat, 0, 0]
/-- Where its keys or values are in the two-slot buffer. -/
def ob (s : Fin 2) (u : Fin 4) (kv : Fin 2) (t : Fin k0_t1_loop.trips) : Fin 6 → ℕ :=
  ![s.val, u.val, kv.val, (Scalar.indexCast (Scf.iv 0#32 1#32 t) : Index).toNat, 0, 0]

theorem trips_eq : k0_t1_loop.trips = 2 := by decide

theorem oq_eq (d : Dir) (u : Fin 4) (t : Fin k0_t1_loop.trips) : oq d u t = ![hb d + 2 * u.val + t.val, 0, 0] := by
  revert d u t; decide
theorem ob_eq (s : Fin 2) (u : Fin 4) (kv : Fin 2) (t : Fin k0_t1_loop.trips) : ob s u kv t = ![s.val, u.val, kv.val, t.val, 0, 0] := by
  revert s u kv t; decide

theorem trip_lt (t : Fin k0_t1_loop.trips) : t.val < 2 := t.isLt.trans_eq trips_eq

theorem oq_inb (d : Dir) (u : Fin 4) (t : Fin k0_t1_loop.trips) : ∀ a, oq d u t a + S1x1024x128.size a ≤ S16x1024x128.size a := by
  rw [oq_eq]; intro a; have := u.isLt; have := trip_lt t; cases d <;> fin_cases a <;> simp [hb] <;> omega
theorem ol_inb (d : Dir) (u : Fin 4) (t : Fin k0_t1_loop.trips) : ∀ a, oq d u t a + S1x1024x1.size a ≤ S16x1024x1.size a := by
  rw [oq_eq]; intro a; have := u.isLt; have := trip_lt t; cases d <;> fin_cases a <;> simp [hb] <;> omega
theorem ob_inb (s : Fin 2) (u : Fin 4) (kv : Fin 2) (t : Fin k0_t1_loop.trips) :
    ∀ a, ob s u kv t a + S1x1x1x1x1024x128.size a ≤ S2x4x2x2x1024x128.size a := by
  rw [ob_eq]; intro a; have := s.isLt; have := u.isLt; have := kv.isLt; have := trip_lt t; fin_cases a <;> simp <;> omega

abbrev qM : Memref sig .tc .vmem S16x1024x128 .f32 := Memref.whole cc0_stg0_0
abbrev oM : Memref sig .tc .vmem S16x1024x128 .f32 := Memref.whole cc0_stg1_0
abbrev lM : Memref sig .tc .vmem S16x1024x1 .f32 := Memref.whole cc0_scratch2

def ldQ (m : Memref sig .tc .vmem S16x1024x128 .f32) (d : Dir) (u : Fin 4) (t : Fin k0_t1_loop.trips) :
    Prog (TpuEff nD τ sig (Elt F) Λ₀ .tc) (Vec F S1x1024x128 .f32) :=
  Prog.lift (.load m (Rect.unit (s := S16x1024x128) (oq d u t) S1x1024x128.size (oq_inb d u t)).toLoadRect (View.loadsAt_vmem h_S1x1024x128))
def ldL (d : Dir) (u : Fin 4) (t : Fin k0_t1_loop.trips) :
    Prog (TpuEff nD τ sig (Elt F) Λ₀ .tc) (Vec F S1x1024x1 .f32) :=
  Prog.lift (.load lM (Rect.unit (s := S16x1024x1) (oq d u t) S1x1024x1.size (ol_inb d u t)).toLoadRect (View.loadsAt_vmem h_S1x1024x1))
def ldB (d : Dir) (s : Fin 2) (u : Fin 4) (kv : Fin 2) (t : Fin k0_t1_loop.trips) :
    Prog (TpuEff nD τ sig (Elt F) Λ₀ .tc) (Vec F S1x1x1x1x1024x128 .bf16) :=
  Prog.lift (.load (bufM d) (Rect.unit (s := S2x4x2x2x1024x128) (ob s u kv t) S1x1x1x1x1024x128.size (ob_inb s u kv t)).toLoadRect
    (View.loadsAt_vmem h_S1x1x1x1x1024x128))
def stO (d : Dir) (u : Fin 4) (t : Fin k0_t1_loop.trips) (w : Vec F S1x1024x128 .f32) : Pg F :=
  Prog.lift (.store oM (Rect.unit (s := S16x1024x128) (oq d u t) S1x1024x128.size (oq_inb d u t)) w Finset.univ
    (View.stores_vmem_bits_univ h_S1x1024x128 rfl) (.inl rfl))
def stL (d : Dir) (u : Fin 4) (t : Fin k0_t1_loop.trips) (w : Vec F S1x1024x1 .f32) : Pg F :=
  Prog.lift (.store lM (Rect.unit (s := S16x1024x1) (oq d u t) S1x1024x1.size (ol_inb d u t)) w Finset.univ
    (View.stores_vmem_bits_univ h_S1x1024x1 rfl) (.inl rfl))

/-- The first block's step: what it computes is stored. -/
def headF (d : Dir) (s : Fin 2) (u : Fin 4) (t : Fin k0_t1_loop.trips) : Pg F :=
  ldQ qM d u t >>= fun q => ldB d s u 0 t >>= fun k => ldB d s u 1 t >>= fun v => ldQ oM d u t >>= fun _ =>
  stO d u t (k0_pay75 q k v) >>= fun _ => ldL d u t >>= fun _ => stL d u t (k0_pay76 q k) >>= fun _ => pure ⟨⟩
/-- A later block's: what it computes is added. -/
def headA (d : Dir) (s : Fin 2) (u : Fin 4) (t : Fin k0_t1_loop.trips) : Pg F :=
  ldQ qM d u t >>= fun q => ldB d s u 0 t >>= fun k => ldB d s u 1 t >>= fun v => ldQ oM d u t >>= fun o => ldQ oM d u t >>= fun _ =>
  stO d u t (k0_pay3 q k v o) >>= fun _ => ldL d u t >>= fun l => ldL d u t >>= fun _ => stL d u t (k0_pay98 (k0_pay4 q k l)) >>= fun _ => pure ⟨⟩
def compF (d : Dir) (s : Fin 2) (u : Fin 4) : Pg F := Scf.Loop.for k0_t1_loop k0_t1_ok ⟨⟩ fun t _ => headF d s u t
def compA (d : Dir) (s : Fin 2) (u : Fin 4) : Pg F := Scf.Loop.for k0_t1_loop k0_t1_ok ⟨⟩ fun t _ => headA d s u t

/-! ## Sequences -/

/-- Steps in order, then the rest. -/
def seqs {α : Type} : List (Pg F) → Prog (TpuEff nD τ sig (Elt F) Λ₀ .tc) α → Prog (TpuEff nD τ sig (Elt F) Λ₀ .tc) α
  | [], k => k
  | p :: ps, k => p >>= fun _ => seqs ps k

theorem seqs_bind {α β : Type} (l : List (Pg F)) (k : Prog (TpuEff nD τ sig (Elt F) Λ₀ .tc) α)
    (k' : α → Prog (TpuEff nD τ sig (Elt F) Λ₀ .tc) β) : seqs l k >>= k' = seqs l (k >>= k') := by
  induction l with
  | nil => rfl
  | cons p ps ih => simp only [seqs, bind_assoc, ih]

theorem seqs_seqs {α : Type} (l l' : List (Pg F)) (k : Prog (TpuEff nD τ sig (Elt F) Λ₀ .tc) α) : seqs l (seqs l' k) = seqs (l ++ l') k := by
  induction l with
  | nil => rfl
  | cons p ps ih => simp only [seqs, List.cons_append, ih]

end Cert.KernelIdeal.Att

end
-- ==== Proof.Parts.lean ====
/-
  Shares of the two-slot buffers and of the arrays they are filled from, and what the slots hold.
-/
module

public import proofs.«01_k».proof.Proof.Ops
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Release
public import Idealize.ShloMosaic.Lib.ValueLayout
public import Idealize.ShloMosaic.Lib.Pipeline.RegionTalk

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.ValueIdx (ix3)

variable {F : FTy → Type} [FloatOps F]

/-- The slots whose hand-back is counted: a device, a direction, a slot. -/
abbrev Key : Type := Dev nD × Dir × Fin 2
/-- The protocol's own ghost state: the rounds of its cells, and the counts of hand-backs. -/
abbrev UT : Type := URounds (GSem nD τ sig) (Fin 2) × Release.USlots Key
/-- Beside the pipeline's. -/
abbrev UU : Type := UR sig nD τ × UT

local notation "𝕄" => MT nD τ sig (Fin 2) (Elt F) ℕ UU ℕ

abbrev EP : Emb (UR sig nD τ) (MT nD τ sig (Fin 2) (Elt F) ℕ UU ℕ) := embL
abbrev ER : Emb (URounds (GSem nD τ sig) (Fin 2)) (MT nD τ sig (Fin 2) (Elt F) ℕ UU ℕ) := Emb.inl.trans embR
abbrev ES : Emb (Release.USlots Key) (MT nD τ sig (Fin 2) (Elt F) ℕ UU ℕ) := Emb.inr.trans embR

abbrev S6 : Shape := S2x4x2x2x1024x128

/-- Its coordinates. -/
def c0 (x : S6.Idx) : Fin 2 := x 0
def c1 (x : S6.Idx) : Fin 4 := x 1
def c2 (x : S6.Idx) : Fin 2 := x 2
def c3 (x : S6.Idx) : Fin 2 := x 3

/-! ## What a block is, and where it lies -/

/-- The head of a direction's quarter. -/
def hd (d : Dir) (u : Fin 4) (i : Fin 2) : Fin 16 :=
  ⟨hb d + 2 * u.val + i.val, by have := u.isLt; have := i.isLt; cases d <;> simp only [hb] <;> omega⟩

/-- A device's block: its keys and its values, head by head. -/
abbrev Blk (F : FTy → Type) : Type := Fin 2 → S16x1024x128.Idx → Elt F .bf16

/-- A slot filled with the direction's half of a block. -/
def filled (d : Dir) (b : Blk F) : S6.Idx → Elt F .bf16 := fun x => b (c2 x) (ix3 (hd d (c1 x) (c3 x)) (x 4) (x 5))

def slotS (s : Fin 2) : Finset S6.Idx := Finset.univ.filter fun x => c0 x = s
def subS (s : Fin 2) (u : Fin 4) : Finset S6.Idx := Finset.univ.filter fun x => c0 x = s ∧ c1 x = u
def inS (u : Fin 4) (kv : Fin 2) : Finset S6.Idx := Finset.univ.filter fun x => c0 x = 0 ∧ c1 x = u ∧ c2 x = kv

theorem rect6 (off size : Fin 6 → ℕ) (inb : ∀ a, off a + size a ≤ S6.size a) (x : S6.Idx) :
    x ∈ (Rect.unit (s := S6) off size inb).set ↔ (off 0 ≤ (x 0).val ∧ (x 0).val < off 0 + size 0) ∧ (off 1 ≤ (x 1).val ∧ (x 1).val < off 1 + size 1)
      ∧ (off 2 ≤ (x 2).val ∧ (x 2).val < off 2 + size 2) ∧ (off 3 ≤ (x 3).val ∧ (x 3).val < off 3 + size 3)
      ∧ (off 4 ≤ (x 4).val ∧ (x 4).val < off 4 + size 4) ∧ (off 5 ≤ (x 5).val ∧ (x 5).val < off 5 + size 5) := by
  rw [Rect.mem_set_unit]
  constructor
  · exact fun h => ⟨h 0, h 1, h 2, h 3, h 4, h 5⟩
  · rintro ⟨h0, h1, h2, h3, h4, h5⟩ a
    match a with
    | ⟨0, _⟩ => exact h0 | ⟨1, _⟩ => exact h1 | ⟨2, _⟩ => exact h2 | ⟨3, _⟩ => exact h3 | ⟨4, _⟩ => exact h4 | ⟨5, _⟩ => exact h5

theorem b6 (x : S6.Idx) : (x 0).val < 2 ∧ (x 1).val < 4 ∧ (x 2).val < 2 ∧ (x 3).val < 2 ∧ (x 4).val < 1024 ∧ (x 5).val < 128 :=
  ⟨(x 0).isLt, (x 1).isLt, (x 2).isLt, (x 3).isLt, (x 4).isLt, (x 5).isLt⟩

theorem slotRect_set (s : Fin 2) : (slotRect s).set = slotS s := by
  ext x
  obtain ⟨h0, h1, h2, h3, h4, h5⟩ := b6 x
  unfold slotRect slotS
  rw [rect6, Finset.mem_filter, Fin.ext_iff (a := c0 x)]
  simp [c0, c1, c2, S1x4x2x2x1024x128]
  omega
theorem subRect_set (s : Fin 2) (u : Fin 4) : (subRect s u).set = subS s u := by
  ext x
  obtain ⟨h0, h1, h2, h3, h4, h5⟩ := b6 x
  unfold subRect subS
  rw [rect6, Finset.mem_filter, Fin.ext_iff (a := c0 x), Fin.ext_iff (a := c1 x)]
  simp [c0, c1, c2, S1x1x2x2x1024x128]
  omega
theorem inRect_set (u : Fin 4) (kv : Fin 2) : (inRect u kv).set = inS u kv := by
  ext x
  obtain ⟨h0, h1, h2, h3, h4, h5⟩ := b6 x
  unfold inRect inS
  rw [rect6, Finset.mem_filter, Fin.ext_iff (a := c0 x), Fin.ext_iff (a := c1 x), Fin.ext_iff (a := c2 x)]
  simp [c0, c1, c2, S1x1x1x2x1024x128]
  omega

/-! ## Shares of the buffers -/

/-- A share of a part of the direction's buffer on a device, at contents. -/
def own (d : Dir) (c : Dev nD) (S : Finset S6.Idx) (q : PosShare TreeShare) (f : S6.Idx → Elt F .bf16) : sProp 𝕄 :=
  match d with
  | .cw => (Memref.whole cc0_scratch0 : Memref sig .tc .vmem S6 .bf16).view.loc (c : Thread nD τ) ↦[S]{q} f
  | .ccw => (Memref.whole cc0_scratch1 : Memref sig .tc .vmem S6 .bf16).view.loc (c : Thread nD τ) ↦[S]{q} f

instance own_storable (d : Dir) (c : Dev nD) (S : Finset S6.Idx) (q : PosShare TreeShare) (f : S6.Idx → Elt F .bf16) :
    BI.Storable (upEmb : UEmb _ 𝕄) (own d c S q f) := by cases d <;> (unfold own; infer_instance)

theorem own_congr (d : Dir) (c : Dev nD) {S : Finset S6.Idx} (q : PosShare TreeShare) {f g : S6.Idx → Elt F .bf16} (h : ∀ i ∈ S, f i = g i) :
    own d c S q f = own d c S q g := by cases d <;> exact pointsTo_congr h
theorem own_halves (d : Dir) (c : Dev nD) (S : Finset S6.Idx) (f : S6.Idx → Elt F .bf16) :
    own d c S fullShare f = iprop(own d c S fullShare.left f ∗ own d c S fullShare.right f) := by
  cases d <;> exact BI.Entails.antisymm (pointsTo_share (PosShare.mem_left_op_right _)).1 (pointsTo_share (PosShare.mem_left_op_right _)).2
theorem own_split {B : Type} [Fintype B] [DecidableEq B] (d : Dir) (c : Dev nD) (I : B → Finset S6.Idx) (hI : ∀ b b', b ≠ b' → Disjoint (I b) (I b'))
    (S : Finset S6.Idx) (hS : Finset.univ.biUnion I = S) (q : PosShare TreeShare) (f : S6.Idx → Elt F .bf16) :
    own d c S q f = bigSep Finset.univ fun b => own d c (I b) q f := by
  subst hS
  cases d
  · exact pointsTo_biUnion (ℓ := (Memref.whole cc0_scratch0 : Memref sig .tc .vmem S6 .bf16).view.loc (c : Thread nD τ)) Finset.univ I (fun b _ b' _ h => hI b b' h)
  · exact pointsTo_biUnion (ℓ := (Memref.whole cc0_scratch1 : Memref sig .tc .vmem S6 .bf16).view.loc (c : Thread nD τ)) Finset.univ I (fun b _ b' _ h => hI b b' h)
theorem own_clash (d : Dir) (c : Dev nD) {S : Finset S6.Idx} (hS : S.Nonempty) (f g : S6.Idx → Elt F .bf16) :
    iprop(own d c S fullShare f ∗ own d c S fullShare g) ⊢ (False : sProp 𝕄) := by
  obtain ⟨i, hi⟩ := hS
  cases d <;> exact pointsTo_overlap_false (i := i) hi hi

/-- At contents not chosen. -/
def ownAny (d : Dir) (c : Dev nD) (S : Finset S6.Idx) : sProp 𝕄 := iprop(∃ f, own d c S fullShare f)
instance ownAny_storable (d : Dir) (c : Dev nD) (S : Finset S6.Idx) : BI.Storable (upEmb : UEmb _ 𝕄) (ownAny (F := F) d c S) := by
  unfold ownAny; infer_instance

theorem ownAny_clash (d : Dir) (c : Dev nD) {S : Finset S6.Idx} (hS : S.Nonempty) :
    iprop(ownAny d c S ∗ ownAny d c S) ⊢ (False : sProp 𝕄) := by
  unfold ownAny
  iintro ⟨⟨%f, Hf⟩, ⟨%g, Hg⟩⟩
  iapply (own_clash d c hS f g)
  isplitl [Hf] <;> iassumption

theorem slotS_nonempty (s : Fin 2) : (slotS s).Nonempty :=
  ⟨fun a => match a with | ⟨0, _⟩ => s | ⟨1, _⟩ => (0 : Fin 4) | ⟨2, _⟩ => (0 : Fin 2) | ⟨3, _⟩ => (0 : Fin 2) | ⟨4, _⟩ => (0 : Fin 1024) | ⟨5, _⟩ => (0 : Fin 128),
    Finset.mem_filter.mpr ⟨Finset.mem_univ _, rfl⟩⟩

/-- Four of a kind. -/
abbrev four {M : Type} [URA M] (Φ : Fin 4 → sProp M) : sProp M := iprop(Φ 0 ∗ Φ 1 ∗ Φ 2 ∗ Φ 3)
theorem bigSep_four {M : Type} [URA M] (Φ : Fin 4 → sProp M) : bigSep Finset.univ Φ = four Φ := by
  rw [bigSep_univ_eq_bigSepL [0, 1, 2, 3] (by decide) (by decide)]; rfl
theorem bigSep_two {M : Type} [URA M] (Φ : Fin 2 → sProp M) : bigSep Finset.univ Φ = iprop(Φ 0 ∗ Φ 1) := by
  rw [bigSep_univ_eq_bigSepL [0, 1] (by decide) (by decide)]; rfl

theorem fin_two_cases (i : Fin 2) : i = 0 ∨ i = 1 := by revert i; decide

theorem own_slot (d : Dir) (c : Dev nD) (s : Fin 2) (q : PosShare TreeShare) (f : S6.Idx → Elt F .bf16) :
    own d c (slotS s) q f = four fun u => own d c (subS s u) q f := by
  rw [own_split d c (subS s) (fun b b' h => Finset.disjoint_left.mpr fun x h1 h2 => by
      rw [subS, Finset.mem_filter] at h1 h2; exact h (h1.2.2.symm.trans h2.2.2)) (slotS s) (by
      ext x; simp [subS, slotS]) q f, bigSep_four]
theorem own_sub (d : Dir) (c : Dev nD) (u : Fin 4) (q : PosShare TreeShare) (f : S6.Idx → Elt F .bf16) :
    own d c (subS 0 u) q f = iprop(own d c (inS u 0) q f ∗ own d c (inS u 1) q f) := by
  rw [own_split d c (inS u) (fun b b' h => Finset.disjoint_left.mpr fun x h1 h2 => by
      rw [inS, Finset.mem_filter] at h1 h2; exact h (h1.2.2.2.symm.trans h2.2.2.2)) (subS 0 u) (by
      ext x
      simp only [Finset.mem_biUnion, Finset.mem_univ, true_and, inS, subS, Finset.mem_filter]
      exact ⟨fun ⟨_, h⟩ => ⟨h.1, h.2.1⟩, fun h => ⟨_, h.1, h.2, rfl⟩⟩) q f, bigSep_two]
theorem own_whole (d : Dir) (c : Dev nD) (q : PosShare TreeShare) (f : S6.Idx → Elt F .bf16) :
    own d c Finset.univ q f = iprop(own d c (slotS 0) q f ∗ own d c (slotS 1) q f) := by
  rw [own_split d c slotS (fun b b' h => Finset.disjoint_left.mpr fun x h1 h2 => by
      rw [slotS, Finset.mem_filter] at h1 h2; exact h (h1.2.symm.trans h2.2)) Finset.univ (by
      ext x
      simp only [Finset.mem_biUnion, Finset.mem_univ, true_and, slotS, Finset.mem_filter]; exact ⟨fun _ => trivial, fun _ => ⟨_, rfl⟩⟩) q f, bigSep_two]

theorem set_slot_cw (s : Fin 2) : (slotM .cw s).view.set = slotS s :=
  (View.set_reshape ..).trans ((View.set_slice_whole ..).trans (slotRect_set s))
theorem set_slot_ccw (s : Fin 2) : (slotM .ccw s).view.set = slotS s :=
  (View.set_reshape ..).trans ((View.set_slice_whole ..).trans (slotRect_set s))
theorem set_sub_cw (s : Fin 2) (u : Fin 4) : (subM .cw s u).view.set = subS s u :=
  (View.set_reshape ..).trans ((View.set_slice_whole ..).trans (subRect_set s u))
theorem set_sub_ccw (s : Fin 2) (u : Fin 4) : (subM .ccw s u).view.set = subS s u :=
  (View.set_reshape ..).trans ((View.set_slice_whole ..).trans (subRect_set s u))
theorem set_in_cw (u : Fin 4) (kv : Fin 2) : (ldDst .cw u kv).view.set = inS u kv :=
  (View.set_reshape ..).trans ((View.set_slice_whole ..).trans (inRect_set u kv))
theorem set_in_ccw (u : Fin 4) (kv : Fin 2) : (ldDst .ccw u kv).view.set = inS u kv :=
  (View.set_reshape ..).trans ((View.set_slice_whole ..).trans (inRect_set u kv))

/-! ## What a copy leaves -/

theorem copied_slot_cw (s s' : Fin 2) (fd : S6.Idx → Elt F .bf16) (b : Blk F) (x : S6.Idx) (hx : x ∈ slotS s') :
    (slotM .cw s').view.write (Elt F) fd ((slotM .cw s).view.read (Elt F) (filled .cw b)) Finset.univ x = filled .cw b x := by
  obtain ⟨j, -, rfl⟩ := Finset.mem_map.mp ((Finset.ext_iff.mp (set_slot_cw s') x).mpr hx)
  exact View.write_emb_of_mem _ _ (Finset.mem_univ j)
theorem copied_slot_ccw (s s' : Fin 2) (fd : S6.Idx → Elt F .bf16) (b : Blk F) (x : S6.Idx) (hx : x ∈ slotS s') :
    (slotM .ccw s').view.write (Elt F) fd ((slotM .ccw s).view.read (Elt F) (filled .ccw b)) Finset.univ x = filled .ccw b x := by
  obtain ⟨j, -, rfl⟩ := Finset.mem_map.mp ((Finset.ext_iff.mp (set_slot_ccw s') x).mpr hx)
  exact View.write_emb_of_mem _ _ (Finset.mem_univ j)
theorem copied_sub_cw (s s' : Fin 2) (u : Fin 4) (fd : S6.Idx → Elt F .bf16) (b : Blk F) (x : S6.Idx) (hx : x ∈ subS s' u) :
    (subM .cw s' u).view.write (Elt F) fd ((subM .cw s u).view.read (Elt F) (filled .cw b)) Finset.univ x = filled .cw b x := by
  obtain ⟨j, -, rfl⟩ := Finset.mem_map.mp ((Finset.ext_iff.mp (set_sub_cw s' u) x).mpr hx)
  exact View.write_emb_of_mem _ _ (Finset.mem_univ j)
theorem copied_sub_ccw (s s' : Fin 2) (u : Fin 4) (fd : S6.Idx → Elt F .bf16) (b : Blk F) (x : S6.Idx) (hx : x ∈ subS s' u) :
    (subM .ccw s' u).view.write (Elt F) fd ((subM .ccw s u).view.read (Elt F) (filled .ccw b)) Finset.univ x = filled .ccw b x := by
  obtain ⟨j, -, rfl⟩ := Finset.mem_map.mp ((Finset.ext_iff.mp (set_sub_ccw s' u) x).mpr hx)
  exact View.write_emb_of_mem _ _ (Finset.mem_univ j)

/-- Two heads as they lie in a slot: three leading coordinates of one value each. -/
theorem heads_coords (h : S2x1024x128.numel = S1x1x1x2x1024x128.numel) (x : Fin 2) (y : Fin 1024) (z : Fin 128) :
    Shape.reshapeEquiv h (ix3 x y z) = ValueIdx.ix6 (0 : Fin 1) (0 : Fin 1) (0 : Fin 1) x y z :=
  Shape.reshapeEquiv_eq_of_rowMajor h (by
    rw [Shape.rowMajor_val_six, Shape.rowMajor_val_three]
    show (((((0 * 1 + 0) * 1 + 0) * 2 + x.val) * 1024 + y.val) * 128 + z.val) = (x.val * 1024 + y.val) * 128 + z.val
    simp only [Nat.zero_mul, Nat.zero_add])

theorem filled_in (d : Dir) (b : Blk F) (u : Fin 4) (kv : Fin 2) (x : Fin 2) (y : Fin 1024) (z : Fin 128)
    (r : (inRect u kv).shape.Idx) (hr : r = ValueIdx.ix6 (0 : Fin 1) (0 : Fin 1) (0 : Fin 1) x y z) :
    filled d b ((inRect u kv).emb r) = b kv ((ldRect d u).emb (ix3 x y z)) := by
  subst hr
  unfold filled
  refine congrArg (b kv) ?_
  · funext a
    match a with
    | ⟨0, _⟩ => exact Fin.ext (by show hb d + 2 * (u.val + 1 * 0) + (0 + 1 * x.val) = hb d + 2 * u.val + 1 * x.val; omega)
    | ⟨1, _⟩ => rfl
    | ⟨2, _⟩ => rfl

theorem copied_in_cw (u : Fin 4) (kv : Fin 2) (fd : S6.Idx → Elt F .bf16) (b : Blk F) (w : S2x1024x128.Idx → Elt F .bf16)
    (hw : ∀ j, w j = b kv ((ldRect .cw u).emb j)) (x : S6.Idx) (hx : x ∈ inS u kv) :
    (ldDst .cw u kv).view.write (Elt F) fd w Finset.univ x = filled .cw b x := by
  obtain ⟨j, -, rfl⟩ := Finset.mem_map.mp ((Finset.ext_iff.mp (set_in_cw u kv) x).mpr hx)
  refine (View.write_emb_of_mem _ _ (Finset.mem_univ j)).trans ((hw j).trans ?_)
  obtain ⟨x, y, z, rfl⟩ : ∃ x y z, j = ix3 x y z := ⟨_, _, _, ValueIdx.eq_ix3 j⟩
  exact (filled_in .cw b u kv x y z _ (heads_coords _ x y z)).symm
theorem copied_in_ccw (u : Fin 4) (kv : Fin 2) (fd : S6.Idx → Elt F .bf16) (b : Blk F) (w : S2x1024x128.Idx → Elt F .bf16)
    (hw : ∀ j, w j = b kv ((ldRect .ccw u).emb j)) (x : S6.Idx) (hx : x ∈ inS u kv) :
    (ldDst .ccw u kv).view.write (Elt F) fd w Finset.univ x = filled .ccw b x := by
  obtain ⟨j, -, rfl⟩ := Finset.mem_map.mp ((Finset.ext_iff.mp (set_in_ccw u kv) x).mpr hx)
  refine (View.write_emb_of_mem _ _ (Finset.mem_univ j)).trans ((hw j).trans ?_)
  obtain ⟨x, y, z, rfl⟩ : ∃ x y z, j = ix3 x y z := ⟨_, _, _, ValueIdx.eq_ix3 j⟩
  exact (filled_in .ccw b u kv x y z _ (heads_coords _ x y z)).symm

/-! ## Rows of a head-major array -/

section
variable {M : Type} [URA M]
theorem sepA (P Q R : sProp M) : iprop((P ∗ Q) ∗ R) = iprop(P ∗ Q ∗ R) := sep_assoc.antisymm sep_assoc'
/-- All heads, direction by direction, quarter by quarter. -/
theorem bigSep_heads (Φ : Fin 16 → sProp M) :
    bigSep Finset.univ Φ = iprop((four fun u => iprop(Φ (hd .cw u 0) ∗ Φ (hd .cw u 1))) ∗ four fun u => iprop(Φ (hd .ccw u 0) ∗ Φ (hd .ccw u 1))) := by
  rw [bigSep_univ_eq_bigSepL [hd .cw 0 0, hd .cw 0 1, hd .cw 1 0, hd .cw 1 1, hd .cw 2 0, hd .cw 2 1, hd .cw 3 0, hd .cw 3 1,
    hd .ccw 0 0, hd .ccw 0 1, hd .ccw 1 0, hd .ccw 1 1, hd .ccw 2 0, hd .ccw 2 1, hd .ccw 3 0, hd .ccw 3 1] (by decide) (by decide)]
  simp only [four, sepA]
  rfl
end

/-- An array's elements of one head. -/
def rowS {s : Shape} (r : s.Idx → Fin 16) (i : Fin 16) : Finset s.Idx := Finset.univ.filter fun x => r x = i
def r128 (x : S16x1024x128.Idx) : Fin 16 := x 0
def r1 (x : S16x1024x1.Idx) : Fin 16 := x 0
/-- An array's elements of a quarter's two heads. -/
def pairS (d : Dir) (u : Fin 4) : Finset S16x1024x128.Idx := Finset.univ.filter fun x => r128 x = hd d u 0 ∨ r128 x = hd d u 1

/-- The keys' array and the values'. -/
def srcOwn (kv : Fin 2) (c : Dev nD) (S : Finset S16x1024x128.Idx) (f : S16x1024x128.Idx → Elt F .bf16) : sProp 𝕄 :=
  match kv with
  | 0 => (Memref.whole main_v5 : Memref sig .tc .hbm S16x1024x128 .bf16).view.loc (c : Thread nD τ) ↦[S]{fullShare} f
  | 1 => (Memref.whole main_v8 : Memref sig .tc .hbm S16x1024x128 .bf16).view.loc (c : Thread nD τ) ↦[S]{fullShare} f
instance srcOwn_storable (kv : Fin 2) (c : Dev nD) (S : Finset S16x1024x128.Idx) (f : S16x1024x128.Idx → Elt F .bf16) :
    BI.Storable (upEmb : UEmb _ 𝕄) (srcOwn kv c S f) := by
  unfold srcOwn; split <;> infer_instance

theorem pair_rows (d : Dir) (u : Fin 4) : (Finset.univ : Finset (Fin 2)).biUnion (fun i => rowS r128 (hd d u i)) = pairS d u := by
  ext x
  simp only [Finset.mem_biUnion, Finset.mem_univ, true_and, rowS, pairS, Finset.mem_filter]
  exact ⟨fun ⟨i, hi⟩ => by rcases fin_two_cases i with rfl | rfl; exacts [.inl hi, .inr hi], fun h => h.elim (fun h => ⟨0, h⟩) fun h => ⟨1, h⟩⟩
theorem hd_inj (d : Dir) (u : Fin 4) : Function.Injective (hd d u) := fun i j h => by
  have h' : hb d + 2 * u.val + i.val = hb d + 2 * u.val + j.val := congrArg Fin.val h
  exact Fin.ext (by omega)
theorem rows_disjoint {s : Shape} (r : s.Idx → Fin 16) {i j : Fin 16} (h : i ≠ j) : Disjoint (rowS r i) (rowS r j) :=
  Finset.disjoint_left.mpr fun x h1 h2 => by rw [rowS, Finset.mem_filter] at h1 h2; exact h (h1.2.symm.trans h2.2)
theorem rows_univ {s : Shape} (r : s.Idx → Fin 16) : Finset.univ.biUnion (rowS r) = Finset.univ := by ext x; simp [rowS]

theorem srcOwn_split {B : Type} [Fintype B] [DecidableEq B] (kv : Fin 2) (c : Dev nD) (I : B → Finset S16x1024x128.Idx) (hI : ∀ b b', b ≠ b' → Disjoint (I b) (I b'))
    (S : Finset S16x1024x128.Idx) (hS : Finset.univ.biUnion I = S) (f : S16x1024x128.Idx → Elt F .bf16) :
    srcOwn kv c S f = bigSep Finset.univ fun b => srcOwn kv c (I b) f := by
  subst hS
  match kv with
  | 0 => exact pointsTo_biUnion (ℓ := (Memref.whole main_v5 : Memref sig .tc .hbm S16x1024x128 .bf16).view.loc (c : Thread nD τ)) Finset.univ I (fun b _ b' _ h => hI b b' h)
  | 1 => exact pointsTo_biUnion (ℓ := (Memref.whole main_v8 : Memref sig .tc .hbm S16x1024x128 .bf16).view.loc (c : Thread nD τ)) Finset.univ I (fun b _ b' _ h => hI b b' h)
theorem src_pair (kv : Fin 2) (c : Dev nD) (d : Dir) (u : Fin 4) (f : S16x1024x128.Idx → Elt F .bf16) :
    srcOwn kv c (pairS d u) f = iprop(srcOwn kv c (rowS r128 (hd d u 0)) f ∗ srcOwn kv c (rowS r128 (hd d u 1)) f) := by
  rw [srcOwn_split kv c (fun i => rowS r128 (hd d u i)) (fun i j h => rows_disjoint r128 fun e => h (hd_inj d u e)) (pairS d u) (pair_rows d u), bigSep_two]
/-- The array, as the pieces the copies in read. -/
theorem src_whole (kv : Fin 2) (c : Dev nD) (f : S16x1024x128.Idx → Elt F .bf16) :
    srcOwn kv c Finset.univ f = iprop((four fun u => srcOwn kv c (pairS .cw u) f) ∗ four fun u => srcOwn kv c (pairS .ccw u) f) := by
  rw [srcOwn_split kv c (rowS r128) (fun i j h => rows_disjoint r128 h) _ (rows_univ r128), bigSep_heads]
  simp only [four, src_pair]

theorem ldRect_set (d : Dir) (u : Fin 4) : (ldRect d u).set = pairS d u := by
  ext x
  have h0 : (x 0).val < 16 := (x 0).isLt
  have h1 : (x 1).val < 1024 := (x 1).isLt
  have h2 : (x 2).val < 128 := (x 2).isLt
  unfold ldRect pairS
  rw [Rect.mem_set_unit, Finset.mem_filter, Fin.ext_iff (a := r128 x), Fin.ext_iff (a := r128 x)]
  have e0 : (hd d u 0).val = hb d + 2 * u.val := rfl
  have e1 : (hd d u 1).val = hb d + 2 * u.val + 1 := rfl
  have er : (r128 x).val = (x 0).val := rfl
  rw [e0, e1, er]
  constructor
  · intro h
    have := h 0
    have t1 : hb d + 2 * u.val ≤ (x 0).val := this.1
    have t2 : (x 0).val < hb d + 2 * u.val + 2 := this.2
    exact ⟨Finset.mem_univ _, by omega⟩
  · rintro ⟨-, h⟩ a
    match a with
    | ⟨0, _⟩ => exact ⟨by show hb d + 2 * u.val ≤ (x 0).val; omega, by show (x 0).val < hb d + 2 * u.val + 2; omega⟩
    | ⟨1, _⟩ => exact ⟨Nat.zero_le _, by show (x 1).val < 0 + 1024; omega⟩
    | ⟨2, _⟩ => exact ⟨Nat.zero_le _, by show (x 2).val < 0 + 128; omega⟩
theorem set_src0 (d : Dir) (u : Fin 4) : (ldSrc d u 0).view.set = pairS d u := (View.set_slice_whole ..).trans (ldRect_set d u)
theorem set_src1 (d : Dir) (u : Fin 4) : (ldSrc d u 1).view.set = pairS d u := (View.set_slice_whole ..).trans (ldRect_set d u)

end Cert.KernelIdeal.Att

end
-- ==== Proof.Proto.lean ====
/-
  The protocol: what each semaphore's units stand for, what a device has to raise, and in which order.
-/
module

public import proofs.«01_k».proof.Proof.Parts

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

/-! ## The semaphores -/

def sem : Role → SemLoc sig
  | .bar => .reg barrier0
  | .load d u kv => .dma (ldS d u kv)
  | .send d h => .dma (sdS d h)
  | .recv d h => .dma (rvS d h)
  | .send2 d u => .dma (sd2S d u)
  | .recv2 d u => .dma (rv2S d u)
  | .credit d => .reg (crS d)

def dirN (n : ℕ) : Dir := if n = 0 then .cw else .ccw
def two (n : ℕ) : Fin 2 := ⟨n % 2, Nat.mod_lt _ (by decide)⟩
def quarter (n : ℕ) : Fin 4 := ⟨n % 4, Nat.mod_lt _ (by decide)⟩
/-- What a semaphore is for, from its number. -/
def roleOf : SemLoc sig → Option Role
  | .reg s => match s.val with
    | 0 => some (.credit .cw)
    | 1 => some (.credit .ccw)
    | _ => some .bar
  | .dma s =>
    if s.val < 2 then none
    else if s.val < 18 then some (.load (dirN ((s.val - 2) % 4 / 2)) (quarter ((s.val - 2) / 4)) (two (s.val - 2)))
    else if s.val < 26 then
      (if (s.val - 18) % 4 < 2 then some (.send (dirN ((s.val - 18) / 4)) (two (s.val - 18))) else some (.recv (dirN ((s.val - 18) / 4)) (two (s.val - 18))))
    else
      (if (s.val - 26) % 8 < 4 then some (.send2 (dirN ((s.val - 26) / 8)) (quarter (s.val - 26))) else some (.recv2 (dirN ((s.val - 26) / 8)) (quarter (s.val - 26))))

theorem roleOf_sem (ρ : Role) : roleOf (sem ρ) = some ρ := by
  cases ρ with
  | bar => rfl
  | load d u kv => cases d <;> revert u kv <;> decide
  | send d h => cases d <;> revert h <;> decide
  | recv d h => cases d <;> revert h <;> decide
  | send2 d u => cases d <;> revert u <;> decide
  | recv2 d u => cases d <;> revert u <;> decide
  | credit d => cases d <;> rfl
theorem sem_inj : Function.Injective sem := fun a b h => Option.some.inj ((roleOf_sem a).symm.trans ((congrArg roleOf h).trans (roleOf_sem b)))

abbrev cell (c : Dev nD) (ρ : Role) : GSem nD τ sig := ((c : Thread nD τ), sem ρ)
theorem cell_inj {c c' : Dev nD} {ρ ρ' : Role} (h : cell c ρ = cell c' ρ') : c = c' ∧ ρ = ρ' :=
  ⟨congrArg (fun g : GSem nD τ sig => g.1.1) h, sem_inj (congrArg Prod.snd h)⟩

/-! ## What the units stand for -/

def nLoad : ℕ := (ldDst .cw 0 0).view.amount (.dma (ldS .cw 0 0) : SemLoc sig)
def nSlot : ℕ := (slotM .cw 0).view.amount (.dma (sdS .cw 0) : SemLoc sig)
def nSub : ℕ := (subM .cw 0 0).view.amount (.dma (sd2S .cw 0) : SemLoc sig)
theorem nLoad_pos : 0 < nLoad := View.dmaCredit_pos (ldDst .cw 0 0).view (by decide +kernel)
theorem nSlot_pos : 0 < nSlot := View.dmaCredit_pos (slotM .cw 0).view (by decide +kernel)
theorem nSub_pos : 0 < nSub := View.dmaCredit_pos (subM .cw 0 0).view (by decide +kernel)

def ramt : Role → ℕ
  | .bar | .credit _ => 1
  | .load _ _ _ => nLoad
  | .send _ _ | .recv _ _ => nSlot
  | .send2 _ _ | .recv2 _ _ => nSub
def rduties : Role → Finset (Fin 2)
  | .bar | .credit _ => Finset.univ
  | _ => {0}
theorem ramt_pos (ρ : Role) : 0 < ramt ρ := by
  cases ρ <;> simp only [ramt] <;> first | exact Nat.one_pos | exact nLoad_pos | exact nSlot_pos | exact nSub_pos

variable (kvf : Dev nD → Blk F)

/-- The block that has come around a number of places. -/
def blk (d : Dir) (n : ℕ) (c : Dev nD) : Blk F := kvf ((pv d)^[n] c)
theorem blk_nx (d : Dir) (n : ℕ) (c : Dev nD) : blk kvf d (n + 1) (nx d c) = blk kvf d n c := by
  unfold blk; rw [Function.iterate_succ_apply, pv_nx]

/-- The cells of a direction but the barrier's. -/
abbrev OwnD : Type := (Fin 4 × Fin 2) ⊕ (Fin 2 ⊕ (Fin 2 ⊕ (Fin 4 ⊕ (Fin 4 ⊕ Unit))))
def roleD (d : Dir) : OwnD → Role
  | .inl x => .load d x.1 x.2
  | .inr (.inl h) => .send d h
  | .inr (.inr (.inl h)) => .recv d h
  | .inr (.inr (.inr (.inl u))) => .send2 d u
  | .inr (.inr (.inr (.inr (.inl u)))) => .recv2 d u
  | .inr (.inr (.inr (.inr (.inr _)))) => .credit d
abbrev Own : Type := Dir × OwnD
def role (o : Own) : Role := roleD o.1 o.2
theorem role_inj : Function.Injective role := by
  rintro ⟨d, (x | h | h | u | u | _)⟩ ⟨d', (x' | h' | h' | u' | u' | _)⟩ e <;> simp [role, roleD, Prod.ext_iff] at e ⊢ <;> tauto

/-- That a device's cells are open. -/
def opens (c : Dev nD) : sProp 𝕄 := bigSep Finset.univ fun o : Own => reached (ER (F := F)) (cell c (role o)) 0
instance opens_persistent (c : Dev nD) : BI.Persistent (opens (F := F) c) := by unfold opens; infer_instance
instance opens_storable (c : Dev nD) : BI.Storable (upEmb : UEmb _ 𝕄) (opens (F := F) c) := by unfold opens; infer_instance
theorem opens_elim (c : Dev nD) (o : Own) : opens (F := F) c ⊢ reached (ER (F := F)) (cell c (role o)) 0 := by classical exact bigSep_elim (Finset.mem_univ o)

def dirF : Fin 2 → Dir | 0 => .cw | 1 => .ccw
def fDir : Dir → Fin 2 | .cw => 0 | .ccw => 1
theorem dirF_fDir (d : Dir) : dirF (fDir d) = d := by cases d <;> rfl

/-- What a neighbour hands over before the start: its second slot, and that its cells are open. -/
def barPay (d : Dir) (p : Dev nD) : sProp 𝕄 := iprop(ownAny d p (slotS 1) ∗ opens p)
instance barPay_storable (d : Dir) (p : Dev nD) : BI.Storable (upEmb : UEmb _ 𝕄) (barPay (F := F) d p) := by unfold barPay; infer_instance

abbrev rel (p : Dev nD) (d : Dir) (s : Fin 2) : sProp 𝕄 := Release.released (ES (F := F)) (p, d, s) 1

def credPay (d : Dir) (p : Dev nD) : Fin 2 → sProp 𝕄
  | 0 => rel p d 0
  | 1 => iprop(rel p d 0 ∗ rel p d 1)
instance credPay_storable (d : Dir) (p : Dev nD) (δ : Fin 2) : BI.Storable (upEmb : UEmb _ 𝕄) (credPay (F := F) d p δ) := by
  unfold credPay rel; split <;> infer_instance
instance credPay_persistent (d : Dir) (p : Dev nD) (δ : Fin 2) : BI.Persistent (credPay (F := F) d p δ) := by
  unfold credPay rel; split <;> infer_instance

/-- What the duty of a cell's one round hands to the cell's device. -/
def rpay (c : Dev nD) : Role → Fin 2 → sProp 𝕄
  | .bar, δ => barPay (dirF δ) (nx (dirF δ) c)
  | .load d u kv, _ => iprop(own d c (inS u kv) fullShare (filled d (kvf c)) ∗ srcOwn kv c (pairS d u) (kvf c kv))
  | .send d h, _ => own d c (slotS h) fullShare.right (filled d (blk kvf d h.val c))
  | .recv d h, _ => own d c (slotS (oth h)) fullShare (filled d (blk kvf d (h.val + 1) c))
  | .send2 d u, _ => own d c (subS 0 u) fullShare.right (filled d (blk kvf d 2 c))
  | .recv2 d u, _ => own d c (subS 1 u) fullShare (filled d (blk kvf d 3 c))
  | .credit d, δ => credPay d (nx d c) δ
instance rpay_storable (c : Dev nD) (ρ : Role) (δ : Fin 2) : BI.Storable (upEmb : UEmb _ 𝕄) (rpay kvf c ρ δ) := by
  cases ρ <;> (unfold rpay; infer_instance)

def gduties (g : GSem nD τ sig) (r : ℕ) : Finset (Fin 2) :=
  if r = 0 ∧ g.1.2 = .tc then (match roleOf g.2 with | some ρ => rduties ρ | none => ∅) else ∅
def gamount (g : GSem nD τ sig) : ℕ := match roleOf g.2 with | some ρ => ramt ρ | none => 1
def gpay (g : GSem nD τ sig) (δ : Fin 2) : sProp 𝕄 := match roleOf g.2 with | some ρ => rpay kvf g.1.1 ρ δ | none => iprop(emp)

def Rd : Schedule (GSem nD τ sig) (Fin 2) 𝕄 where
  duties := gduties
  amount g _ _ := gamount g
  payload g _ δ := gpay kvf g δ
  amount_pos g _ _ _ := by
    unfold gamount
    cases roleOf g.2 with
    | none => exact Nat.one_pos
    | some ρ => exact ramt_pos ρ

instance Rd_storable (g : GSem nD τ sig) (r : ℕ) (δ : Fin 2) : BI.Storable (upEmb : UEmb _ 𝕄) ((Rd kvf).payload g r δ) := by
  show BI.Storable upEmb (gpay kvf g δ)
  unfold gpay
  cases roleOf g.2 <;> infer_instance

theorem duties_cell (c : Dev nD) (ρ : Role) : (Rd kvf).duties (cell c ρ) 0 = rduties ρ := by
  have e : gduties (cell c ρ) 0 = rduties ρ := by unfold gduties; rw [if_pos ⟨rfl, rfl⟩, roleOf_sem]
  exact e
theorem duties_later (g : GSem nD τ sig) : ∀ r, 1 ≤ r → (Rd kvf).duties g r = ∅ :=
  fun r hr => by show gduties _ _ = _; unfold gduties; rw [if_neg (fun h => by omega)]
theorem amount_cell (c : Dev nD) (ρ : Role) (r : ℕ) (δ : Fin 2) : (Rd kvf).amount (cell c ρ) r δ = ramt ρ := by
  show gamount _ = _
  unfold gamount; rw [roleOf_sem]
theorem payload_cell (c : Dev nD) (ρ : Role) (r : ℕ) (δ : Fin 2) : (Rd kvf).payload (cell c ρ) r δ = rpay kvf c ρ δ := by
  show gpay _ _ _ = _
  unfold gpay; rw [roleOf_sem]
theorem expect_cell (c : Dev nD) (ρ : Role) : (Rd kvf).expect (cell c ρ) 0 = (rduties ρ).card * ramt ρ := by
  unfold Schedule.expect Schedule.amountOf
  rw [duties_cell, Finset.sum_congr rfl (fun δ _ => amount_cell kvf c ρ 0 δ), Finset.sum_const, smul_eq_mul]
theorem rest_one (c : Dev nD) (ρ : Role) (h : rduties ρ = {0}) :
    bigSep ((Rd kvf).duties (cell c ρ) 0 \ ∅) (fun δ => (Rd kvf).payload (cell c ρ) 0 δ) = rpay kvf c ρ 0 := by
  rw [Finset.sdiff_empty, duties_cell, h, bigSep_singleton, payload_cell]

/-! ## What a device raises at others, in order -/

inductive Pay
  | bar (d : Dir) | recv (d : Dir) (h : Fin 2) | credit (d : Dir) (h : Fin 2) | recv2 (d : Dir) (u : Fin 4)

def Pay.dev (c : Dev nD) : Pay → Dev nD
  | .bar d | .credit d _ => pv d c
  | .recv d _ | .recv2 d _ => nx d c
def Pay.role : Pay → Role
  | .bar _ => .bar | .recv d h => .recv d h | .credit d _ => .credit d | .recv2 d u => .recv2 d u
def Pay.ix : Pay → Fin 2 | .credit _ h => h | _ => 0
def level : Role → Fin 2 → ℕ
  | .bar, _ => 1
  | .recv _ h, _ => 2 + 2 * h.val
  | .credit _, i => 3 + 2 * i.val
  | .recv2 _ _, _ => 6
  | _, _ => 0
def Pay.lvl (p : Pay) : ℕ := level p.role p.ix
def Pay.tally (c : Dev nD) (p : Pay) : CellTallies nD τ sig (Fin 2) := tallyAt (cell (p.dev c) p.role) p.ix (ramt p.role)

def pays8 : List Pay := [.recv2 .cw 0, .recv2 .ccw 0, .recv2 .cw 1, .recv2 .ccw 1, .recv2 .cw 2, .recv2 .ccw 2, .recv2 .cw 3, .recv2 .ccw 3]
def pays6 : List Pay := [.credit .cw 1, .credit .ccw 1] ++ pays8
def pays4 : List Pay := [.recv .cw 1, .recv .ccw 1] ++ pays6
def pays2 : List Pay := [.credit .cw 0, .credit .ccw 0] ++ pays4
def pays1 : List Pay := [.recv .cw 0, .recv .ccw 0] ++ pays2
def pays : List Pay := [.bar .cw, .bar .ccw] ++ pays1

/-- What is still to be raised. -/
def owed (c : Dev nD) : List Pay → CellTallies nD τ sig (Fin 2)
  | [] => 0
  | p :: l => owed c l + p.tally c

def Owe (c : Dev nD) (l : List Pay) : sProp 𝕄 := iprop(∃ W, owes (c : Thread nD τ) (owed c l) W)

def L (g : GSem nD τ sig) : Finset (Fin 2) := if g.1.2 = .tc then Finset.univ else ∅
def lv (g : GSem nD τ sig) (i : Fin 2) : ℕ := match roleOf g.2 with | some ρ => level ρ i | none => 0

theorem L_of_ne (g : GSem nD τ sig) (h : g.1.2 ≠ .tc) : L g = ∅ := if_neg h
theorem L_tc (c : Dev nD) (sm : SemLoc sig) (i : Fin 2) : i ∈ L ((c : Thread nD τ), sm) := by
  unfold L; rw [if_pos rfl]; exact Finset.mem_univ i
theorem lv_cell (c : Dev nD) (ρ : Role) (i : Fin 2) : lv (cell c ρ) i = level ρ i := by unfold lv; rw [roleOf_sem]

theorem owed_pos (c : Dev nD) (l : List Pay) (g : GSem nD τ sig) (i : Fin 2) (h : 0 < owed c l g i) :
    ∃ p ∈ l, g = cell (p.dev c) p.role ∧ i = p.ix := by
  induction l with
  | nil => exact absurd h (Nat.lt_irrefl 0)
  | cons p l ih =>
    rw [show owed c (p :: l) g i = owed c l g i + p.tally c g i from rfl] at h
    by_cases hp : g = cell (p.dev c) p.role ∧ i = p.ix
    · exact ⟨p, List.mem_cons_self, hp⟩
    · rw [Pay.tally, tallyAt_apply, if_neg hp, Nat.add_zero] at h
      obtain ⟨q, hq, e⟩ := ih h
      exact ⟨q, List.mem_cons_of_mem _ hq, e⟩

theorem mayWait (c : Dev nD) (ρ : Role) (i : Fin 2) (l : List Pay) (h : ∀ p ∈ l, level ρ i < p.lvl) :
    (levAts L lv : sProp 𝕄) ⊢ MayWait (c : Thread nD τ) (sem ρ) i (owed c l) :=
  MayOwe.of_cut (L := L) (lev := lv) (level ρ i) (fun p hp => by rw [Finset.mem_singleton.mp hp]; exact L_tc c _ i)
    (fun g u hg => by obtain ⟨p, -, rfl, rfl⟩ := owed_pos c l g u hg; exact L_tc _ _ _)
    (fun p hp => by rw [Finset.mem_singleton.mp hp]; exact (lv_cell c ρ i).le)
    (fun g u hg => by obtain ⟨p, hp, rfl, rfl⟩ := owed_pos c l g u hg; rw [lv_cell]; exact h p hp)

end Cert.KernelIdeal.Att

end
-- ==== Proof.Tri.lean ====
/-
  What a step needs and what it leaves; sequences of steps.
-/
module

public import proofs.«01_k».proof.Proof.Proto

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

abbrev 𝒱₀ : Variants := Variants.none

/-- The rest of a device's program reaches what is wanted of it. -/
abbrev Wp {α : Type} (c : Dev nD) (p : Prog (TpuEff nD τ sig (Elt F) Λ₀ .tc) α) (Φ : α → sProp 𝕄) : sProp 𝕄 :=
  wp frame (wpE (defs₀ (F := F)) 𝒱₀ (c : Thread nD τ) none) Set.univ p Φ

/-- Beside K, which stays, the step takes P to Q. -/
structure Tr (c : Dev nD) (K P Q : sProp 𝕄) (p : Pg F) : Prop where
  run : ∀ {α : Type} (k : PUnit → Prog (TpuEff nD τ sig (Elt F) Λ₀ .tc) α) (Φ : α → sProp 𝕄),
    iprop(K ∗ P ∗ (Q -∗ Wp c (k ⟨⟩) Φ)) ⊢ Wp c (p >>= k) Φ
/-- So do the steps in order. -/
structure Trs (c : Dev nD) (K P Q : sProp 𝕄) (l : List (Pg F)) : Prop where
  run : ∀ {α : Type} (k : Prog (TpuEff nD τ sig (Elt F) Λ₀ .tc) α) (Φ : α → sProp 𝕄),
    iprop(K ∗ P ∗ (Q -∗ Wp c k Φ)) ⊢ Wp c (seqs l k) Φ

theorem Trs.nil {c : Dev nD} {K : sProp 𝕄} [BI.Persistent K] {P : sProp 𝕄} : Trs c K P P [] := by
  constructor; intro α k Φ
  iintro ⟨-, HP, Hk⟩
  iapply Hk $$ HP

theorem Trs.append {c : Dev nD} {K : sProp 𝕄} [BI.Persistent K] {P R Q : sProp 𝕄} {l l' : List (Pg F)} (h : Trs c K P R l) (h' : Trs c K R Q l') : Trs c K P Q (l ++ l') := by
  constructor; intro α k Φ
  rw [← seqs_seqs]
  iintro ⟨#HK, HP, Hk⟩
  iapply (h.run (seqs l' k) Φ)
  isplitr; · iexact HK
  isplitl [HP]; · iexact HP
  iintro HR
  iapply (h'.run k Φ)
  isplitr; · iexact HK
  isplitl [HR] <;> iassumption

theorem Tr.one {c : Dev nD} {K : sProp 𝕄} [BI.Persistent K] {P Q : sProp 𝕄} {p : Pg F} (h : Tr c K P Q p) : Trs c K P Q [p] := by
  constructor; intro α k Φ
  exact h.run (fun _ => k) Φ

theorem Tr.cons {c : Dev nD} {K : sProp 𝕄} [BI.Persistent K] {P R Q : sProp 𝕄} {p : Pg F} {l : List (Pg F)} (h : Tr c K P R p) (h' : Trs c K R Q l) : Trs c K P Q (p :: l) :=
  Trs.append (l := [p]) h.one h'

theorem Trs.frame {c : Dev nD} {K : sProp 𝕄} [BI.Persistent K] {P Q : sProp 𝕄} {l : List (Pg F)} (X : sProp 𝕄) (h : Trs c K P Q l) : Trs c K iprop(P ∗ X) iprop(Q ∗ X) l := by
  constructor; intro α k Φ
  iintro ⟨HK, ⟨HP, HX⟩, Hk⟩
  iapply (h.run k Φ)
  isplitl [HK]; · iexact HK
  isplitl [HP]; · iexact HP
  iintro HQ
  iapply Hk
  isplitl [HQ] <;> iassumption

theorem Trs.conseq {c : Dev nD} {K : sProp 𝕄} [BI.Persistent K] {P P' Q Q' : sProp 𝕄} {l : List (Pg F)} (h : Trs c K P Q l) (hP : iprop(K ∗ P') ⊢ (|={Set.univ}=> P : sProp 𝕄))
    (hQ : iprop(K ∗ Q) ⊢ (|={Set.univ}=> Q' : sProp 𝕄)) : Trs c K P' Q' l := by
  constructor; intro α k Φ
  iintro ⟨#HK, HP, Hk⟩
  iapply (fupd_wp _ _ _ _)
  imod hP $$ [HP] with HP
  · isplitr; · iexact HK
    iexact HP
  imodintro
  iapply (h.run k Φ)
  isplitr; · iexact HK
  isplitl [HP]; · iexact HP
  iintro HQ
  iapply (fupd_wp _ _ _ _)
  imod hQ $$ [HQ] with HQ
  · isplitr; · iexact HK
    iexact HQ
  imodintro
  iapply Hk $$ HQ

/-- Between equal states. -/
theorem Trs.eqs {c : Dev nD} {K : sProp 𝕄} [BI.Persistent K] {P P' Q Q' : sProp 𝕄} {l : List (Pg F)} (h : Trs c K P Q l) (hP : P' ⊢ P) (hQ : Q ⊢ Q') : Trs c K P' Q' l :=
  h.conseq (by iintro ⟨-, H⟩; imodintro; iapply hP $$ H) (by iintro ⟨-, H⟩; imodintro; iapply hQ $$ H)

/-- With more beside. -/
theorem Trs.weaken {c : Dev nD} {K : sProp 𝕄} [BI.Persistent K] {K' P Q : sProp 𝕄} {l : List (Pg F)} (h : Trs c K' P Q l) (hK : K ⊢ K') : Trs c K P Q l := by
  constructor; intro α k Φ
  iintro ⟨HK, HP, Hk⟩
  iapply (h.run k Φ)
  isplitl [HK]; · iapply hK $$ HK
  isplitl [HP] <;> iassumption

/-- A step that leaves something that stays. -/
theorem Trs.learn {c : Dev nD} {K : sProp 𝕄} [BI.Persistent K] {K' P Q R : sProp 𝕄} [BI.Persistent K'] {l l' : List (Pg F)} (h : Trs c K P iprop(K' ∗ R) l) (h' : Trs c iprop(K ∗ K') R Q l') :
    Trs c K P Q (l ++ l') := by
  constructor; intro α k Φ
  rw [← seqs_seqs]
  iintro ⟨#HK, HP, Hk⟩
  iapply (h.run (seqs l' k) Φ)
  isplitr; · iexact HK
  isplitl [HP]; · iexact HP
  iintro ⟨#HK', HR⟩
  iapply (h'.run k Φ)
  isplitr
  · isplitr; · iexact HK
    iexact HK'
  isplitl [HR] <;> iassumption

theorem sep_swap (P Q R : sProp 𝕄) : iprop(P ∗ Q ∗ R) = iprop(Q ∗ P ∗ R) := by
  rw [← sepA, ← sepA, show iprop(P ∗ Q) = iprop(Q ∗ P) from sep_comm.antisymm sep_comm]

/-- Steps on two parts, one after the other, a third going through both. -/
theorem Trs.two {c : Dev nD} {K : sProp 𝕄} [BI.Persistent K] {A B A' B' E₀ E₁ E₂ : sProp 𝕄} {l l' : List (Pg F)} (h : Trs c K iprop(A ∗ E₀) iprop(A' ∗ E₁) l) (h' : Trs c K iprop(B ∗ E₁) iprop(B' ∗ E₂) l') :
    Trs c K iprop(A ∗ B ∗ E₀) iprop(A' ∗ B' ∗ E₂) (l ++ l') :=
  Trs.append (R := iprop(B ∗ A' ∗ E₁))
    ((h.frame B).eqs (by iintro ⟨HA, HB, HE⟩; isplitr [HB]; · isplitl [HA] <;> iassumption
                         iexact HB) (by iintro ⟨⟨HA, HE⟩, HB⟩; isplitl [HB]; · iexact HB
                                        isplitl [HA] <;> iassumption))
    ((h'.frame A').eqs (by iintro ⟨HB, HA, HE⟩; isplitr [HA]; · isplitl [HB] <;> iassumption
                           iexact HA) (by iintro ⟨⟨HB, HE⟩, HA⟩; isplitl [HA]; · iexact HA
                                          isplitl [HB] <;> iassumption))

/-- Steps on four parts, one after the other, something else going through all. -/
theorem Trs.fours {c : Dev nD} {K : sProp 𝕄} [BI.Persistent K] {A B : Fin 4 → sProp 𝕄} {E : ℕ → sProp 𝕄} {l : Fin 4 → List (Pg F)}
    (h : ∀ u : Fin 4, Trs c K iprop(A u ∗ E u.val) iprop(B u ∗ E (u.val + 1)) (l u)) :
    Trs c K iprop(four A ∗ E 0) iprop(four B ∗ E 4) ((List.finRange 4).flatMap l) := by
  have e : (List.finRange 4).flatMap l = l 0 ++ (l 1 ++ (l 2 ++ l 3)) := by
    rw [show List.finRange 4 = [0, 1, 2, 3] by decide]; simp
  rw [e]
  have r {A B E : sProp 𝕄} : iprop((A ∗ B) ∗ E) ⊢ iprop(A ∗ B ∗ E) := sep_assoc
  have r' {A B E : sProp 𝕄} : iprop(A ∗ B ∗ E) ⊢ iprop((A ∗ B) ∗ E) := sep_assoc'
  exact (Trs.two (h 0) ((Trs.two (h 1) ((Trs.two (h 2) (h 3)).eqs r r')).eqs r r')).eqs r r'

/-- The same, one step to a part. -/
theorem Trs.fourM {c : Dev nD} {K : sProp 𝕄} [BI.Persistent K] {A B : Fin 4 → sProp 𝕄} {E : sProp 𝕄} {p : Fin 4 → Pg F}
    (h : ∀ u : Fin 4, Tr c K iprop(A u ∗ E) iprop(B u ∗ E) (p u)) :
    Trs c K iprop(four A ∗ E) iprop(four B ∗ E) ((List.finRange 4).map p) := by
  rw [List.map_eq_flatMap]
  exact Trs.fours (E := fun _ => E) fun u => (h u).one

end Cert.KernelIdeal.Att

end
-- ==== Proof.Steps.lean ====
/-
  The steps of the exchange, each on what it needs.
-/
module

public import proofs.«01_k».proof.Proof.Tri

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

variable (kvf : Dev nD → Blk F) (κ : GSem nD τ sig → ℕ) (ιs : Key → ℕ)

/-! ## What stays throughout -/

/-- The slot a key names. -/
def slotOf (k : Key) : sProp 𝕄 := ownAny k.2.1 k.1 (slotS k.2.2)
instance slotOf_storable (k : Key) : BI.Storable (upEmb : UEmb _ 𝕄) (slotOf (F := F) k) := by unfold slotOf; infer_instance

/-- Every cell is under the protocol, every slot under its count, and the levels. -/
def Rec : sProp 𝕄 :=
  iprop((bigSep Finset.univ fun x : Dev nD × Own => cellInv (ER (F := F)) (Rd kvf) (κ (cell x.1 (role x.2))) (cell x.1 (role x.2)))
    ∗ (bigSep Finset.univ fun p : Dev nD => iprop(cellInv (ER (F := F)) (Rd kvf) (κ (cell p .bar)) (cell p .bar) ∗ reached (ER (F := F)) (cell p .bar) 0))
    ∗ (bigSep Finset.univ fun k : Key => Release.slotInv (ES (F := F)) (ιs k) k (slotOf k))
    ∗ levAts L lv)
instance Rec_persistent : BI.Persistent (Rec kvf κ ιs) := by unfold Rec; infer_instance

theorem all_elim {I : Type} [Fintype I] (Φ : I → sProp 𝕄) (i : I) : bigSep Finset.univ Φ ⊢ Φ i := by classical exact bigSep_elim (Finset.mem_univ i)
theorem Rec_own (p : Dev nD) (o : Own) : Rec kvf κ ιs ⊢ cellInv (ER (F := F)) (Rd kvf) (κ (cell p (role o))) (cell p (role o)) := by
  classical
  unfold Rec
  iintro ⟨H, -⟩
  iapply (all_elim (fun x : Dev nD × Own => cellInv (ER (F := F)) (Rd kvf) (κ (cell x.1 (role x.2))) (cell x.1 (role x.2))) (p, o)) $$ H
theorem Rec_bar (p : Dev nD) : Rec kvf κ ιs ⊢ iprop(cellInv (ER (F := F)) (Rd kvf) (κ (cell p .bar)) (cell p .bar) ∗ reached (ER (F := F)) (cell p .bar) 0) := by
  classical
  unfold Rec
  iintro ⟨-, H, -⟩
  iapply (all_elim (fun p : Dev nD => iprop(cellInv (ER (F := F)) (Rd kvf) (κ (cell p .bar)) (cell p .bar) ∗ reached (ER (F := F)) (cell p .bar) 0)) p) $$ H
theorem Rec_slot (k : Key) : Rec kvf κ ιs ⊢ Release.slotInv (ES (F := F)) (ιs k) k (slotOf k) := by
  classical
  unfold Rec
  iintro ⟨-, -, H, -⟩
  iapply (all_elim (fun k : Key => Release.slotInv (ES (F := F)) (ιs k) k (slotOf k)) k) $$ H
theorem Rec_lev : Rec kvf κ ιs ⊢ levAts L lv := by unfold Rec; iintro ⟨-, -, -, H⟩; iexact H

set_option maxRecDepth 20000 in
theorem Rec_may (c : Dev nD) (ρ : Role) (i : Fin 2) (l : List Pay) (h : ∀ p ∈ l, level ρ i < p.lvl) :
    Rec kvf κ ιs ⊢ MayWait (c : Thread nD τ) (sem ρ) i (owed c l) := BI.Entails.trans (Rec_lev kvf κ ιs) (mayWait c ρ i l h)

/-- A device's: its own cells are open. -/
abbrev Ctx (c : Dev nD) : sProp 𝕄 := iprop(Rec kvf κ ιs ∗ opens c)
/-- Its neighbours' are. -/
def Nb (c : Dev nD) : sProp 𝕄 := iprop(opens (nx .cw c) ∗ opens (nx .ccw c))
instance Nb_persistent (c : Dev nD) : BI.Persistent (Nb (F := F) c) := by unfold Nb; infer_instance
theorem Nb_elim (c : Dev nD) (d : Dir) : Nb (F := F) c ⊢ opens (nx d c) := by
  unfold Nb; iintro ⟨H1, H2⟩; cases d <;> iassumption
abbrev Ctx' (c : Dev nD) : sProp 𝕄 := iprop(Ctx kvf κ ιs c ∗ Nb c)

abbrev tok (c : Dev nD) (ρ : Role) (δ : Fin 2) : sProp 𝕄 := dutyTok (ER (F := F)) (cell c ρ) 0 δ
abbrev pos (c : Dev nD) (ρ : Role) : sProp 𝕄 := atPos (ER (F := F)) (cell c ρ) 0 ∅ 0
abbrev done (c : Dev nD) (ρ : Role) : sProp 𝕄 := atPos (ER (F := F)) (cell c ρ) 1 ∅ 0
abbrev crd (c : Dev nD) (ρ : Role) (i : Fin 2) (n : ℕ) : sProp 𝕄 := cred (tallyAt (cell c ρ) i n)

/-! ## The buffers as the copies see them -/

theorem see_slot_cw (c : Dev nD) (s : Fin 2) (q : PosShare TreeShare) (f : S6.Idx → Elt F .bf16) :
    (own .cw c (slotS s) q f : sProp 𝕄) = ((slotM .cw s).view.loc (c : Thread nD τ) ↦[(slotM .cw s).view.set]{q} f) := by rw [set_slot_cw]; rfl
theorem see_slot_ccw (c : Dev nD) (s : Fin 2) (q : PosShare TreeShare) (f : S6.Idx → Elt F .bf16) :
    (own .ccw c (slotS s) q f : sProp 𝕄) = ((slotM .ccw s).view.loc (c : Thread nD τ) ↦[(slotM .ccw s).view.set]{q} f) := by rw [set_slot_ccw]; rfl
theorem see_sub_cw (c : Dev nD) (s : Fin 2) (u : Fin 4) (q : PosShare TreeShare) (f : S6.Idx → Elt F .bf16) :
    (own .cw c (subS s u) q f : sProp 𝕄) = ((subM .cw s u).view.loc (c : Thread nD τ) ↦[(subM .cw s u).view.set]{q} f) := by rw [set_sub_cw]; rfl
theorem see_sub_ccw (c : Dev nD) (s : Fin 2) (u : Fin 4) (q : PosShare TreeShare) (f : S6.Idx → Elt F .bf16) :
    (own .ccw c (subS s u) q f : sProp 𝕄) = ((subM .ccw s u).view.loc (c : Thread nD τ) ↦[(subM .ccw s u).view.set]{q} f) := by rw [set_sub_ccw]; rfl
theorem see_in_cw (c : Dev nD) (u : Fin 4) (kv : Fin 2) (q : PosShare TreeShare) (f : S6.Idx → Elt F .bf16) :
    (own .cw c (inS u kv) q f : sProp 𝕄) = ((ldDst .cw u kv).view.loc (c : Thread nD τ) ↦[(ldDst .cw u kv).view.set]{q} f) := by rw [set_in_cw]; rfl
theorem see_in_ccw (c : Dev nD) (u : Fin 4) (kv : Fin 2) (q : PosShare TreeShare) (f : S6.Idx → Elt F .bf16) :
    (own .ccw c (inS u kv) q f : sProp 𝕄) = ((ldDst .ccw u kv).view.loc (c : Thread nD τ) ↦[(ldDst .ccw u kv).view.set]{q} f) := by rw [set_in_ccw]; rfl
theorem see_src0 (c : Dev nD) (d : Dir) (u : Fin 4) (f : S16x1024x128.Idx → Elt F .bf16) :
    (srcOwn 0 c (pairS d u) f : sProp 𝕄) = ((ldSrc d u 0).view.loc (c : Thread nD τ) ↦[(ldSrc d u 0).view.set]{fullShare} f) := by rw [set_src0]; rfl
theorem see_src1 (c : Dev nD) (d : Dir) (u : Fin 4) (f : S16x1024x128.Idx → Elt F .bf16) :
    (srcOwn 1 c (pairS d u) f : sProp 𝕄) = ((ldSrc d u 1).view.loc (c : Thread nD τ) ↦[(ldSrc d u 1).view.set]{fullShare} f) := by rw [set_src1]; rfl

/-! ## The steps -/

variable (c : Dev nD)

/-- A wait for all of a cell that has one duty. -/
theorem wait_tr (ρ : Role) (o : Own) (ho : role o = ρ) (hρ : rduties ρ = {0}) (l : List Pay) (hl : ∀ p ∈ l, level ρ 0 < p.lvl) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (sem ρ) (ramt ρ) K) :
    Tr c (Ctx kvf κ ιs c) iprop(crd c ρ 0 (ramt ρ) ∗ pos c ρ ∗ Owe c l) iprop(rpay kvf c ρ 0 ∗ done c ρ ∗ Owe c l) (Prog.lift w) := by
  subst ho
  constructor; intro α k Φ
  unfold Owe
  iintro ⟨⟨#HR, -⟩, ⟨Hc, Hat, ⟨%W, HO⟩⟩, Hk⟩
  iapply (Rounds.wp_wait_rest_token 𝒱₀ ER (Rd kvf) (c : Thread nD τ) none (κ := κ (cell c (role o)))
      hw (Set.mem_univ _) 0 (O := owed c l) (W := W) (R := 0) (m := 0) (T := ∅)
      (by rw [expect_cell, hρ, Finset.card_singleton, one_mul, zero_add])) $$ [Hc HO Hat]
  · isplitr; · iapply (Rec_own kvf κ ιs c o) $$ HR
    isplitl [Hc]; · iexact Hc
    isplitl [HO]; · iexact HO
    isplitr; · iapply (Rec_may kvf κ ιs c (role o) 0 l hl) $$ HR
    iexact Hat
  iintro ⟨HO, Hat, -, Hpay⟩
  ihave Hp := (Entails.of_eq (rest_one kvf c (role o) hρ)) $$ Hpay
  iapply Hk
  isplitl [Hp]; · iexact Hp
  isplitl [Hat]; · iexact Hat
  iexists _; iexact HO

theorem role_send (d : Dir) (h : Fin 2) : role (d, .inr (.inl h)) = .send d h := rfl

theorem sendWait_tr (d : Dir) (h : Fin 2) (l : List Pay) (hl : ∀ p ∈ l, 0 < p.lvl) :
    Tr c (Ctx kvf κ ιs c) iprop(crd c (.send d h) 0 nSlot ∗ pos c (.send d h) ∗ Owe c l)
      iprop(own d c (slotS h) fullShare.right (filled d (blk kvf d h.val c)) ∗ done c (.send d h) ∗ Owe c l) (sendWait d h) :=
  wait_tr kvf κ ιs c (.send d h) (d, .inr (.inl h)) rfl rfl l hl _ (fun K => by cases d <;> exact wpE_waitDma2_eq 𝒱₀ (c : Thread nD τ) none Set.univ K)
theorem recvWait_tr (d : Dir) (h : Fin 2) (l : List Pay) (hl : ∀ p ∈ l, 2 + 2 * h.val < p.lvl) :
    Tr c (Ctx kvf κ ιs c) iprop(crd c (.recv d h) 0 nSlot ∗ pos c (.recv d h) ∗ Owe c l)
      iprop(own d c (slotS (oth h)) fullShare (filled d (blk kvf d (h.val + 1) c)) ∗ done c (.recv d h) ∗ Owe c l) (recvWait d h) :=
  wait_tr kvf κ ιs c (.recv d h) (d, .inr (.inr (.inl h))) rfl rfl l hl _ (fun K => by cases d <;> exact wpE_waitDma2_eq 𝒱₀ (c : Thread nD τ) none Set.univ K)
theorem send2Wait_tr (d : Dir) (u : Fin 4) (l : List Pay) (hl : ∀ p ∈ l, 0 < p.lvl) :
    Tr c (Ctx kvf κ ιs c) iprop(crd c (.send2 d u) 0 nSub ∗ pos c (.send2 d u) ∗ Owe c l)
      iprop(own d c (subS 0 u) fullShare.right (filled d (blk kvf d 2 c)) ∗ done c (.send2 d u) ∗ Owe c l) (send2Wait d u) :=
  wait_tr kvf κ ιs c (.send2 d u) (d, .inr (.inr (.inr (.inl u)))) rfl rfl l hl _ (fun K => by cases d <;> exact wpE_waitDma2_eq 𝒱₀ (c : Thread nD τ) none Set.univ K)
theorem recv2Wait_tr (d : Dir) (u : Fin 4) (l : List Pay) (hl : ∀ p ∈ l, 6 < p.lvl) :
    Tr c (Ctx kvf κ ιs c) iprop(crd c (.recv2 d u) 0 nSub ∗ pos c (.recv2 d u) ∗ Owe c l)
      iprop(own d c (subS 1 u) fullShare (filled d (blk kvf d 3 c)) ∗ done c (.recv2 d u) ∗ Owe c l) (recv2Wait d u) :=
  wait_tr kvf κ ιs c (.recv2 d u) (d, .inr (.inr (.inr (.inr (.inl u))))) rfl rfl l hl _ (fun K => by cases d <;> exact wpE_waitDma2_eq 𝒱₀ (c : Thread nD τ) none Set.univ K)
theorem ldWait_tr (d : Dir) (u : Fin 4) (kv : Fin 2) (l : List Pay) (hl : ∀ p ∈ l, 0 < p.lvl) :
    Tr c (Ctx kvf κ ιs c) iprop(crd c (.load d u kv) 0 nLoad ∗ pos c (.load d u kv) ∗ Owe c l)
      iprop((own d c (inS u kv) fullShare (filled d (kvf c)) ∗ srcOwn kv c (pairS d u) (kvf c kv)) ∗ done c (.load d u kv) ∗ Owe c l) (ldWait d u kv) :=
  wait_tr kvf κ ιs c (.load d u kv) (d, .inl (u, kv)) rfl rfl l hl _ (fun K => by cases d <;> exact wpE_waitDma2_eq 𝒱₀ (c : Thread nD τ) none Set.univ K)

/-- A copy in, whatever array and buffer it is between. -/
theorem copy_core (d : Dir) (u : Fin 4) (kv : Fin 2) (src : Memref sig .tc .hbm S2x1024x128 .bf16) (dst : Memref sig .tc .vmem S2x1024x128 .bf16)
    (fs : Buf (Elt F) (src.view.loc (c : Thread nD τ))) (fd : Buf (Elt F) (dst.view.loc (c : Thread nD τ)))
    (h1 : src.view.WordExact) (h2 : dst.view.WordExact) (h3 : DmaTarget.Typed (nD := nD) Space.hbm (SemLoc.dma (ldS d u kv)) (DmaTarget.here (p := (Proc.tc : Proc τ)) dst))
    (hN : dst.view.amount (SemLoc.dma (ldS d u kv)) = nLoad)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ rpay kvf c (.load d u kv) 0) {α : Type}
    (k : PUnit → Prog (TpuEff nD τ sig (Elt F) Λ₀ .tc) α) (Φ : α → sProp 𝕄) :
    iprop(Ctx kvf κ ιs c ∗ ((dst.view.loc (c : Thread nD τ) ↦[dst.view.set]{fullShare} fd) ∗ (src.view.loc (c : Thread nD τ) ↦[src.view.set]{fullShare} fs) ∗ tok c (.load d u kv) 0)
        ∗ (crd c (.load d u kv) 0 nLoad -∗ Wp c (k ⟨⟩) Φ))
      ⊢ Wp c (Prog.lift (.enqueueDma src (.here dst) (.dma (ldS d u kv)) h1 h2 h3) >>= k) Φ := by
  have hr := opens_elim (F := F) c (d, .inl (u, kv))
  have hI := Rec_own kvf κ ιs c (d, .inl (u, kv))
  have hd : (0 : Fin 2) ∈ (Rd kvf).duties (cell c (.load d u kv)) 0 := by rw [duties_cell]; exact Finset.mem_singleton_self _
  have ha := amount_cell kvf c (.load d u kv) 0 0
  have hp := payload_cell kvf c (.load d u kv) 0 0
  iintro ⟨⟨#HR, #Ho⟩, ⟨Hd, Hs, Ht⟩, Hk⟩
  ihave HI := hI $$ HR
  ihave Hr := hr $$ Ho
  simp only [Prog.lift, Prog.bind_op, Prog.bind_ret]
  iapply (Rounds.wp_copy_pointsTo 𝒱₀ ER (Rd kvf) (c : Thread nD τ) none (src := src) (dst := dst) (sem := .dma (ldS d u kv)) (q := fullShare)
      (fs := fs) (fd := fd) (r := 0) (d := 0) (κ := κ (cell c (.load d u kv))) hd 0 nLoad hN ha (hpay.trans (Entails.of_eq hp.symm))) $$ [Hs Hd Ht HI Hr]
  · isplitl [HI]; · iexact HI
    isplitl [Hs]; · iexact Hs
    isplitl [Hd]; · iexact Hd
    isplitl [Ht]; · iexact Ht
    iexact Hr
  iexact Hk

/-- A copy in. -/
theorem ldStart_tr (d : Dir) (u : Fin 4) (kv : Fin 2) :
    Tr c (Ctx kvf κ ιs c) iprop(ownAny d c (inS u kv) ∗ srcOwn kv c (pairS d u) (kvf c kv) ∗ tok c (.load d u kv) 0)
      (crd c (.load d u kv) 0 nLoad) (ldStart d u kv) := by
  constructor; intro α k Φ
  have core : ∀ f, iprop(Ctx kvf κ ιs c ∗ (own d c (inS u kv) fullShare f ∗ srcOwn kv c (pairS d u) (kvf c kv) ∗ tok c (.load d u kv) 0)
      ∗ (crd c (.load d u kv) 0 nLoad -∗ Wp c (k ⟨⟩) Φ)) ⊢ Wp c (ldStart d u kv >>= k) Φ := fun f => by
   rcases fin_two_cases kv with rfl | rfl <;> cases d
   · rw [see_in_cw, see_src0]
     refine copy_core kvf κ ιs c .cw u 0 (ldSrc .cw u 0) (ldDst .cw u 0) (kvf c 0) f _ _ _ rfl ?_ k Φ
     show _ ⊢ iprop(own _ _ _ _ _ ∗ srcOwn _ _ _ _)
     rw [see_src0, see_in_cw]
     exact sep_mono_left (Entails.of_eq (pointsTo_congr fun x hx => copied_in_cw u 0 f (kvf c) _ (fun j => rfl) x (Finset.ext_iff.mp (set_in_cw u 0) x |>.mp hx)))
   · rw [see_in_ccw, see_src0]
     refine copy_core kvf κ ιs c .ccw u 0 (ldSrc .ccw u 0) (ldDst .ccw u 0) (kvf c 0) f _ _ _ rfl ?_ k Φ
     show _ ⊢ iprop(own _ _ _ _ _ ∗ srcOwn _ _ _ _)
     rw [see_src0, see_in_ccw]
     exact sep_mono_left (Entails.of_eq (pointsTo_congr fun x hx => copied_in_ccw u 0 f (kvf c) _ (fun j => rfl) x (Finset.ext_iff.mp (set_in_ccw u 0) x |>.mp hx)))
   · rw [see_in_cw, see_src1]
     refine copy_core kvf κ ιs c .cw u 1 (ldSrc .cw u 1) (ldDst .cw u 1) (kvf c 1) f _ _ _ rfl ?_ k Φ
     show _ ⊢ iprop(own _ _ _ _ _ ∗ srcOwn _ _ _ _)
     rw [see_src1, see_in_cw]
     exact sep_mono_left (Entails.of_eq (pointsTo_congr fun x hx => copied_in_cw u 1 f (kvf c) _ (fun j => rfl) x (Finset.ext_iff.mp (set_in_cw u 1) x |>.mp hx)))
   · rw [see_in_ccw, see_src1]
     refine copy_core kvf κ ιs c .ccw u 1 (ldSrc .ccw u 1) (ldDst .ccw u 1) (kvf c 1) f _ _ _ rfl ?_ k Φ
     show _ ⊢ iprop(own _ _ _ _ _ ∗ srcOwn _ _ _ _)
     rw [see_src1, see_in_ccw]
     exact sep_mono_left (Entails.of_eq (pointsTo_congr fun x hx => copied_in_ccw u 1 f (kvf c) _ (fun j => rfl) x (Finset.ext_iff.mp (set_in_ccw u 1) x |>.mp hx)))
  unfold ownAny
  iintro ⟨HC, ⟨⟨%f, Hd⟩, Hs, Ht⟩, Hk⟩
  iapply (core f)
  isplitl [HC]; · iexact HC
  isplitr [Hk]
  · isplitl [Hd]; · iexact Hd
    isplitl [Hs] <;> iassumption
  iexact Hk

/-- Handing the second slot over to the device that fills it. -/
theorem barSig_tr (d : Dir) (l : List Pay) :
    Tr c (Ctx kvf κ ιs c) iprop(ownAny d c (slotS 1) ∗ tok (pv d c) .bar (fDir d) ∗ Owe c (.bar d :: l)) (Owe c l) (barSig (pv d c)) := by
  constructor; intro α k Φ
  have hI := Rec_bar kvf κ ιs (pv d c)
  have hp : (Rd kvf).payload (((pv d c : Dev nD) : Thread nD τ), SemLoc.reg barrier0) 0 (fDir d) = iprop(ownAny d c (slotS 1) ∗ opens c) :=
    (payload_cell kvf (pv d c) .bar 0 (fDir d)).trans (by
      show barPay (dirF (fDir d)) (nx (dirF (fDir d)) (pv d c)) = _
      rw [dirF_fDir, nx_pv]; rfl)
  have hd : fDir d ∈ (Rd kvf).duties (cell (pv d c) .bar) 0 := by rw [duties_cell]; exact Finset.mem_univ _
  unfold Owe
  iintro ⟨⟨#HR, #Ho⟩, ⟨Hs, Ht, ⟨%W, HO⟩⟩, Hk⟩
  ihave HI := hI $$ HR
  icases HI with ⟨HI, Hr⟩
  simp only [barSig, semSignalWord, Prog.lift, Prog.bind_op, Prog.bind_ret, Prog.pure_eq_ret]
  iapply (Rounds.wp_signal 𝒱₀ ER (Rd kvf) (c : Thread nD τ) none (dst := (pv d c : Thread nD τ)) (sem := barrier0) (r := 0) (d := fDir d) (κ := κ (cell (pv d c) .bar))
      hd (amount_cell kvf (pv d c) .bar 0 (fDir d)) 0 (owed c l) rfl)
    $$ [HO Ht Hs HI Hr]
  · isplitl [HI]; · iexact HI
    isplitl [HO]; · iexact HO
    isplitl [Ht]; · iexact Ht
    isplitl [Hs]
    · iapply (Entails.of_eq hp.symm)
      isplitl [Hs]; · iexact Hs
      iexact Ho
    · iexact Hr
  iintro HO
  iapply Hk
  iexists W; iexact HO

/-- Both neighbours' second slots. -/
theorem barWait_tr (l : List Pay) (hl : ∀ p ∈ l, 1 < p.lvl) :
    Tr c (Ctx kvf κ ιs c) iprop(crd c .bar 0 2 ∗ pos c .bar ∗ Owe c l)
      iprop(Nb c ∗ (ownAny .cw (nx .cw c) (slotS 1) ∗ ownAny .ccw (nx .ccw c) (slotS 1) ∗ done c .bar ∗ Owe c l)) barWait := by
  constructor; intro α k Φ
  have hI := Rec_bar kvf κ ιs c
  have hm := Rec_may kvf κ ιs c .bar 0 l hl
  have hp : bigSep ((Rd kvf).duties ((c : Thread nD τ), SemLoc.reg barrier0) 0 \ ∅) (fun δ => (Rd kvf).payload ((c : Thread nD τ), SemLoc.reg barrier0) 0 δ)
      = iprop((ownAny .cw (nx .cw c) (slotS 1) ∗ opens (nx .cw c)) ∗ (ownAny .ccw (nx .ccw c) (slotS 1) ∗ opens (nx .ccw c))) := by
    show bigSep ((Rd kvf).duties (cell c .bar) 0 \ ∅) (fun δ => (Rd kvf).payload (cell c .bar) 0 δ) = _
    rw [Finset.sdiff_empty, duties_cell, show rduties .bar = Finset.univ from rfl, bigSep_two, payload_cell, payload_cell]; rfl
  have he : 0 + 2 = (Rd kvf).expect (cell c .bar) 0 := by rw [expect_cell]; rfl
  unfold Owe
  iintro ⟨⟨#HR, #Ho⟩, ⟨Hc, Hat, ⟨%W, HO⟩⟩, Hk⟩
  ihave HI := hI $$ HR
  icases HI with ⟨HI, -⟩
  ihave Hm := hm $$ HR
  simp only [barWait, semWaitWord, Prog.lift, Prog.bind_op, Prog.bind_ret, Prog.pure_eq_ret]
  iapply (Rounds.wp_wait_rest_token 𝒱₀ ER (Rd kvf) (c : Thread nD τ) none (κ := κ (cell c .bar))
      (wpE_semWait_eq 𝒱₀ (c : Thread nD τ) none Set.univ) (Set.mem_univ _) 0 (O := owed c l) (W := W) (R := 0) (m := 0) (T := ∅) he) $$ [Hc HO Hat HI Hm]
  · isplitl [HI]; · iexact HI
    isplitl [Hc]; · iexact Hc
    isplitl [HO]; · iexact HO
    isplitl [Hm]; · iexact Hm
    iexact Hat
  iintro ⟨HO, Hat, -, Hpay⟩
  ihave Hp := (Entails.of_eq hp) $$ Hpay
  icases Hp with ⟨⟨H1, H2⟩, H3, H4⟩
  iapply Hk
  unfold Nb
  isplitl [H2 H4]; · isplitl [H2] <;> iassumption
  isplitl [H1]; · iexact H1
  isplitl [H3]; · iexact H3
  isplitl [Hat]; · iexact Hat
  iexists _; iexact HO

/-- A remote copy, whatever buffer it is between. -/
theorem send_core {s : Shape} (ρS ρV : Role) (o o' : Own) (ho : role o = ρS) (ho' : role o' = ρV) (sS sV : DmaSem sig) (hS : sem ρS = .dma sS) (hV : sem ρV = .dma sV)
    (h0 : rduties ρS = {0}) (h0' : rduties ρV = {0}) (n : ℕ) (hn : ramt ρS = n) (hn' : ramt ρV = n) (p : Dev nD) (l : List Pay) (pay : Pay)
    (hpd : pay.dev c = p) (hpr : pay.role = ρV) (hpi : pay.ix = 0)
    (src dst : Memref sig .tc .vmem s .bf16) (q : PosShare TreeShare)
    (fs : Buf (Elt F) (src.view.loc (c : Thread nD τ))) (fd : Buf (Elt F) (dst.view.loc (p : Thread nD τ)))
    (h1 : src.view.WordExact) (h2 : dst.view.WordExact) (hsc : dst.view.ref.isScScratch = false)
    (h3 : DmaTarget.Typed (nD := nD) Space.vmem (SemLoc.dma sV) (DmaTarget.remote (p := (Proc.tc : Proc τ)) (p : Thread nD τ) dst (.dma sS) hsc))
    (hN : dst.view.amount (SemLoc.dma sV) = n)
    (hpay₁ : (src.view.loc (c : Thread nD τ) ↦[src.view.set]{q} fs) ⊢ rpay kvf c ρS 0)
    (hpay₂ : (dst.view.loc (p : Thread nD τ) ↦[dst.view.set]{fullShare} (dst.view.write (Elt F) fd (src.view.read (Elt F) fs) Finset.univ)) ⊢ rpay kvf p ρV 0)
    {α : Type} (k : PUnit → Prog (TpuEff nD τ sig (Elt F) Λ₀ .tc) α) (Φ : α → sProp 𝕄) :
    iprop((Rec kvf κ ιs ∗ opens c ∗ opens p) ∗ ((src.view.loc (c : Thread nD τ) ↦[src.view.set]{q} fs) ∗ (dst.view.loc (p : Thread nD τ) ↦[dst.view.set]{fullShare} fd)
          ∗ tok c ρS 0 ∗ tok p ρV 0 ∗ Owe c (pay :: l))
        ∗ ((crd c ρS 0 n ∗ Owe c l) -∗ Wp c (k ⟨⟩) Φ))
      ⊢ Wp c (Prog.lift (.enqueueDma src (.remote (p : Thread nD τ) dst (.dma sS) hsc) (.dma sV) h1 h2 h3) >>= k) Φ := by
  subst hpd ho
  have hr := opens_elim (F := F) c o
  have hI := Rec_own kvf κ ιs c o
  have hr' := opens_elim (F := F) (pay.dev c) o'
  have hI' := Rec_own kvf κ ιs (pay.dev c) o'
  rw [ho'] at hr' hI'
  have hd : (0 : Fin 2) ∈ (Rd kvf).duties (cell c (role o)) 0 := by rw [duties_cell, h0]; exact Finset.mem_singleton_self _
  have hd' : (0 : Fin 2) ∈ (Rd kvf).duties (cell (pay.dev c) ρV) 0 := by rw [duties_cell, h0']; exact Finset.mem_singleton_self _
  have ha := (amount_cell kvf c (role o) 0 0).trans hn
  have ha' := (amount_cell kvf (pay.dev c) ρV 0 0).trans hn'
  have hp := hpay₁.trans (Entails.of_eq (payload_cell kvf c (role o) 0 0).symm)
  have hp' := hpay₂.trans (Entails.of_eq (payload_cell kvf (pay.dev c) ρV 0 0).symm)
  have hO : owed c (pay :: l) = owed c l + tallyAt (cell (pay.dev c) ρV) 0 n := by
    show owed c l + tallyAt (cell (pay.dev c) pay.role) pay.ix (ramt pay.role) = _
    rw [hpr, hpi, hn']
  unfold tok crd
  simp only [cell, hS, hV] at hr hI hr' hI' hd hd' ha ha' hp hp' hO ⊢
  unfold Owe
  iintro ⟨⟨#HR, #Ho, #Ho'⟩, ⟨Hs, Hd, Ht, Ht', ⟨%W, HO⟩⟩, Hk⟩
  ihave HI := hI $$ HR
  ihave HI' := hI' $$ HR
  ihave Hr := hr $$ Ho
  ihave Hr' := hr' $$ Ho'
  simp only [Prog.lift, Prog.bind_op, Prog.bind_ret]
  iapply (Rounds.wp_send_pointsTo 𝒱₀ ER (Rd kvf) (c : Thread nD τ) none (c' := (pay.dev c : Thread nD τ)) (src := src) (dst := dst)
      (sS := .dma sS) (sem := .dma sV) (q := q) (fs := fs) (κ₁ := κ ((c : Thread nD τ), .dma sS)) (κ₂ := κ ((pay.dev c : Thread nD τ), .dma sV))
      (r₁ := 0) (r₂ := 0) (d₁ := 0) (d₂ := 0) (fd := fd) hd hd' 0 0 n hN ha ha' (owed c l) hO (W := W) hp hp') $$ [Hs Hd HO Ht Ht' HI HI' Hr Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-- A slot goes to the next device's other slot. -/
theorem send_tr (d : Dir) (h : Fin 2) (l : List Pay) :
    Tr c (Ctx' kvf κ ιs c) iprop(own d c (slotS h) fullShare.right (filled d (blk kvf d h.val c)) ∗ ownAny d (nx d c) (slotS (oth h))
        ∗ tok c (.send d h) 0 ∗ tok (nx d c) (.recv d h) 0 ∗ Owe c (.recv d h :: l))
      iprop(crd c (.send d h) 0 nSlot ∗ Owe c l) (send d h (nx d c)) := by
  constructor; intro α k Φ
  have core : ∀ f, iprop((Rec kvf κ ιs ∗ opens c ∗ opens (nx d c)) ∗ (own d c (slotS h) fullShare.right (filled d (blk kvf d h.val c)) ∗ own d (nx d c) (slotS (oth h)) fullShare f
        ∗ tok c (.send d h) 0 ∗ tok (nx d c) (.recv d h) 0 ∗ Owe c (.recv d h :: l))
      ∗ ((crd c (.send d h) 0 nSlot ∗ Owe c l) -∗ Wp c (k ⟨⟩) Φ)) ⊢ Wp c (send d h (nx d c) >>= k) Φ := fun f => by
    cases d
    · rw [see_slot_cw, see_slot_cw]
      refine send_core kvf κ ιs c (.send .cw h) (.recv .cw h) (.cw, .inr (.inl h)) (.cw, .inr (.inr (.inl h))) rfl rfl (sdS .cw h) (rvS .cw h) rfl rfl rfl rfl nSlot rfl rfl
        (nx .cw c) l (.recv .cw h) rfl rfl rfl (slotM .cw h) (slotM .cw (oth h)) fullShare.right (filled .cw (blk kvf .cw h.val c)) f _ _ _ _ rfl ?_ ?_ k Φ
      · rw [← see_slot_cw]; exact BI.Entails.refl _
      · show _ ⊢ own .cw (nx .cw c) (slotS (oth h)) fullShare (filled .cw (blk kvf .cw (h.val + 1) (nx .cw c)))
        rw [blk_nx, see_slot_cw]
        exact Entails.of_eq (pointsTo_congr fun x hx => copied_slot_cw h (oth h) f (blk kvf .cw h.val c) x (Finset.ext_iff.mp (set_slot_cw (oth h)) x |>.mp hx))
    · rw [see_slot_ccw, see_slot_ccw]
      refine send_core kvf κ ιs c (.send .ccw h) (.recv .ccw h) (.ccw, .inr (.inl h)) (.ccw, .inr (.inr (.inl h))) rfl rfl (sdS .ccw h) (rvS .ccw h) rfl rfl rfl rfl nSlot rfl rfl
        (nx .ccw c) l (.recv .ccw h) rfl rfl rfl (slotM .ccw h) (slotM .ccw (oth h)) fullShare.right (filled .ccw (blk kvf .ccw h.val c)) f _ _ _ _ rfl ?_ ?_ k Φ
      · rw [← see_slot_ccw]; exact BI.Entails.refl _
      · show _ ⊢ own .ccw (nx .ccw c) (slotS (oth h)) fullShare (filled .ccw (blk kvf .ccw (h.val + 1) (nx .ccw c)))
        rw [blk_nx, see_slot_ccw]
        exact Entails.of_eq (pointsTo_congr fun x hx => copied_slot_ccw h (oth h) f (blk kvf .ccw h.val c) x (Finset.ext_iff.mp (set_slot_ccw (oth h)) x |>.mp hx))
  have hN := Nb_elim (F := F) c d
  unfold ownAny
  iintro ⟨⟨⟨HR, Ho⟩, HN⟩, ⟨Hs, ⟨%f, Hd⟩, Ht, Ht', HO⟩, Hk⟩
  iapply (core f)
  isplitl [HR Ho HN]
  · isplitl [HR]; · iexact HR
    isplitl [Ho]; · iexact Ho
    iapply hN $$ HN
  isplitr [Hk]
  · isplitl [Hs]; · iexact Hs
    isplitl [Hd]; · iexact Hd
    isplitl [Ht]; · iexact Ht
    isplitl [Ht'] <;> iassumption
  iexact Hk

/-- A quarter of slot 0 goes to the next device's slot 1. -/
theorem send2_tr (d : Dir) (u : Fin 4) (l : List Pay) :
    Tr c (Ctx' kvf κ ιs c) iprop(own d c (subS 0 u) fullShare.right (filled d (blk kvf d 2 c)) ∗ ownAny d (nx d c) (subS 1 u)
        ∗ tok c (.send2 d u) 0 ∗ tok (nx d c) (.recv2 d u) 0 ∗ Owe c (.recv2 d u :: l))
      iprop(crd c (.send2 d u) 0 nSub ∗ Owe c l) (send2 d u (nx d c)) := by
  constructor; intro α k Φ
  have core : ∀ f, iprop((Rec kvf κ ιs ∗ opens c ∗ opens (nx d c)) ∗ (own d c (subS 0 u) fullShare.right (filled d (blk kvf d 2 c)) ∗ own d (nx d c) (subS 1 u) fullShare f
        ∗ tok c (.send2 d u) 0 ∗ tok (nx d c) (.recv2 d u) 0 ∗ Owe c (.recv2 d u :: l))
      ∗ ((crd c (.send2 d u) 0 nSub ∗ Owe c l) -∗ Wp c (k ⟨⟩) Φ)) ⊢ Wp c (send2 d u (nx d c) >>= k) Φ := fun f => by
    cases d
    · rw [see_sub_cw, see_sub_cw]
      refine send_core kvf κ ιs c (.send2 .cw u) (.recv2 .cw u) (.cw, .inr (.inr (.inr (.inl u)))) (.cw, .inr (.inr (.inr (.inr (.inl u))))) rfl rfl (sd2S .cw u) (rv2S .cw u) rfl rfl rfl rfl nSub rfl rfl
        (nx .cw c) l (.recv2 .cw u) rfl rfl rfl (subM .cw 0 u) (subM .cw 1 u) fullShare.right (filled .cw (blk kvf .cw 2 c)) f _ _ _ _ rfl ?_ ?_ k Φ
      · rw [← see_sub_cw]; exact BI.Entails.refl _
      · show _ ⊢ own .cw (nx .cw c) (subS 1 u) fullShare (filled .cw (blk kvf .cw (2 + 1) (nx .cw c)))
        rw [blk_nx kvf .cw 2, see_sub_cw]
        exact Entails.of_eq (pointsTo_congr fun x hx => copied_sub_cw 0 1 u f (blk kvf .cw 2 c) x (Finset.ext_iff.mp (set_sub_cw 1 u) x |>.mp hx))
    · rw [see_sub_ccw, see_sub_ccw]
      refine send_core kvf κ ιs c (.send2 .ccw u) (.recv2 .ccw u) (.ccw, .inr (.inr (.inr (.inl u)))) (.ccw, .inr (.inr (.inr (.inr (.inl u))))) rfl rfl (sd2S .ccw u) (rv2S .ccw u) rfl rfl rfl rfl nSub rfl rfl
        (nx .ccw c) l (.recv2 .ccw u) rfl rfl rfl (subM .ccw 0 u) (subM .ccw 1 u) fullShare.right (filled .ccw (blk kvf .ccw 2 c)) f _ _ _ _ rfl ?_ ?_ k Φ
      · rw [← see_sub_ccw]; exact BI.Entails.refl _
      · show _ ⊢ own .ccw (nx .ccw c) (subS 1 u) fullShare (filled .ccw (blk kvf .ccw (2 + 1) (nx .ccw c)))
        rw [blk_nx kvf .ccw 2, see_sub_ccw]
        exact Entails.of_eq (pointsTo_congr fun x hx => copied_sub_ccw 0 1 u f (blk kvf .ccw 2 c) x (Finset.ext_iff.mp (set_sub_ccw 1 u) x |>.mp hx))
  have hN := Nb_elim (F := F) c d
  unfold ownAny
  iintro ⟨⟨⟨HR, Ho⟩, HN⟩, ⟨Hs, ⟨%f, Hd⟩, Ht, Ht', HO⟩, Hk⟩
  iapply (core f)
  isplitl [HR Ho HN]
  · isplitl [HR]; · iexact HR
    isplitl [Ho]; · iexact Ho
    iapply hN $$ HN
  isplitr [Hk]
  · isplitl [Hs]; · iexact Hs
    isplitl [Hd]; · iexact Hd
    isplitl [Ht]; · iexact Ht
    isplitl [Ht'] <;> iassumption
  iexact Hk

/-- A credit: the slots handed back so far. -/
theorem credSig_tr (d : Dir) (h : Fin 2) (l : List Pay) :
    Tr c (Ctx' kvf κ ιs c) iprop(credPay d c h ∗ tok (pv d c) (.credit d) h ∗ Owe c (.credit d h :: l)) (Owe c l) (credSig d (pv d c)) := by
  constructor; intro α k Φ
  have hI := Rec_own kvf κ ιs (pv d c) (d, .inr (.inr (.inr (.inr (.inr ())))))
  have hr := opens_elim (F := F) (pv d c) (d, .inr (.inr (.inr (.inr (.inr ())))))
  have hN := Nb_elim (F := F) c d.op
  have hp : (Rd kvf).payload (((pv d c : Dev nD) : Thread nD τ), SemLoc.reg (crS d)) 0 h = credPay d c h :=
    (payload_cell kvf (pv d c) (.credit d) 0 h).trans (by
      show credPay d (nx d (pv d c)) h = _
      rw [nx_pv])
  have hd : h ∈ (Rd kvf).duties (cell (pv d c) (.credit d)) 0 := by rw [duties_cell]; exact Finset.mem_univ _
  unfold Owe
  iintro ⟨⟨⟨#HR, #Ho⟩, #HN⟩, ⟨Hs, Ht, ⟨%W, HO⟩⟩, Hk⟩
  ihave HI := hI $$ HR
  ihave Ho' := hN $$ HN
  ihave Hr := hr $$ Ho'
  simp only [credSig, semSignalWord, Prog.lift, Prog.bind_op, Prog.bind_ret, Prog.pure_eq_ret]
  iapply (Rounds.wp_signal 𝒱₀ ER (Rd kvf) (c : Thread nD τ) none (dst := (pv d c : Thread nD τ)) (sem := crS d) (r := 0) (d := h) (κ := κ (cell (pv d c) (.credit d)))
      hd (amount_cell kvf (pv d c) (.credit d) 0 h) h (owed c l) rfl)
    $$ [HO Ht Hs HI Hr]
  · isplitl [HI]; · iexact HI
    isplitl [HO]; · iexact HO
    isplitl [Ht]; · iexact Ht
    isplitl [Hs]
    · iapply (Entails.of_eq hp.symm) $$ Hs
    · iexact Hr
  iintro HO
  iapply Hk
  iexists W; iexact HO

/-- Between the two credits: one of the two duties' units is consumed, at least. -/
def half (d : Dir) : sProp 𝕄 :=
  iprop(∃ S : Finset (Fin 2), atPos (ER (F := F)) (cell c (.credit d)) 0 S 1 ∗ bigSep S (credPay d (nx d c)))

theorem credPay_rel0 (d : Dir) (p : Dev nD) (δ : Fin 2) : credPay (F := F) d p δ ⊢ rel p d 0 := by
  rcases fin_two_cases δ with rfl | rfl
  · exact BI.Entails.refl _
  · unfold credPay; iintro ⟨H, -⟩; iexact H

theorem credWait0_tr (d : Dir) (l : List Pay) (hl : ∀ p ∈ l, 3 < p.lvl) :
    Tr c (Ctx kvf κ ιs c) iprop(crd c (.credit d) 0 1 ∗ pos c (.credit d) ∗ Owe c l) iprop(rel (nx d c) d 0 ∗ half c d ∗ Owe c l) (credWait d) := by
  classical
  constructor; intro α k Φ
  have hI := Rec_own kvf κ ιs c (d, .inr (.inr (.inr (.inr (.inr ())))))
  have hm := Rec_may kvf κ ιs c (.credit d) 0 l hl
  have he : (Rd kvf).expect ((c : Thread nD τ), SemLoc.reg (crS d)) 0 = 2 := by
    show (Rd kvf).expect (cell c (.credit d)) 0 = 2
    rw [expect_cell]; rfl
  have hdu : (Rd kvf).duties ((c : Thread nD τ), SemLoc.reg (crS d)) 0 = Finset.univ := duties_cell kvf c (.credit d)
  have hpy : ∀ S : Finset (Fin 2), bigSep (S \ ∅) (fun δ => (Rd kvf).payload ((c : Thread nD τ), SemLoc.reg (crS d)) 0 δ) = bigSep S (credPay d (nx d c)) := fun S => by
    rw [Finset.sdiff_empty]
    exact bigSep_congr fun δ _ => payload_cell kvf c (.credit d) 0 δ
  unfold Owe
  iintro ⟨⟨#HR, #Ho⟩, ⟨Hc, Hat, ⟨%W, HO⟩⟩, Hk⟩
  ihave HI := hI $$ HR
  ihave Hm := hm $$ HR
  simp only [credWait, semWaitWord, Prog.lift, Prog.bind_op, Prog.bind_ret, Prog.pure_eq_ret]
  iapply (Rounds.wp_wait 𝒱₀ ER (Rd kvf) (c : Thread nD τ) none (κ := κ (cell c (.credit d)))
      (wpE_semWait_eq 𝒱₀ (c : Thread nD τ) none Set.univ) (Set.mem_univ _) (cr := Finsupp.single 0 1) (O := owed c l) (W := W) {(sem (.credit d), 0)} (R := 0) (m := 0) (T := ∅)
      (Util.total_single ..) (image_single_subset _ _ _)) $$ [Hc HO Hat HI Hm]
  · isplitl [HI]; · iexact HI
    isplitl [Hc]; · iexact Hc
    isplitl [HO]; · iexact HO
    isplitl [Hm]; · iexact Hm
    iexact Hat
  iintro %S ⟨%hS, HO, Hat, Hpay⟩
  ihave #Hp := (Entails.of_eq (hpy S)) $$ Hpay
  have hne : S.Nonempty := by
    rw [he, hdu] at hS
    rw [Finset.nonempty_iff_ne_empty]
    rintro rfl
    have := hS.2.2
    rw [Finset.sdiff_empty, Finset.card_univ, Fintype.card_fin] at this
    omega
  obtain ⟨δ, hδ⟩ := hne
  iapply Hk
  isplitr
  · iapply (credPay_rel0 d (nx d c) δ)
    iapply (show bigSep S (credPay d (nx d c)) ⊢ credPay (F := F) d (nx d c) δ from bigSep_elim hδ) $$ Hp
  isplitl [Hat]
  · unfold half
    iexists S
    isplitl [Hat]; · iexact Hat
    iexact Hp
  iexists _; iexact HO

theorem credWait1_tr (d : Dir) (l : List Pay) (hl : ∀ p ∈ l, 5 < p.lvl) :
    Tr c (Ctx kvf κ ιs c) iprop(crd c (.credit d) 1 1 ∗ half c d ∗ Owe c l) iprop(rel (nx d c) d 1 ∗ done c (.credit d) ∗ Owe c l) (credWait d) := by
  classical
  constructor; intro α k Φ
  have hI := Rec_own kvf κ ιs c (d, .inr (.inr (.inr (.inr (.inr ())))))
  have hm := Rec_may kvf κ ιs c (.credit d) 1 l hl
  have he : 1 + 1 = (Rd kvf).expect ((c : Thread nD τ), SemLoc.reg (crS d)) 0 := by
    show 1 + 1 = (Rd kvf).expect (cell c (.credit d)) 0
    rw [expect_cell]; rfl
  have hpy : ∀ S : Finset (Fin 2), bigSep ((Rd kvf).duties ((c : Thread nD τ), SemLoc.reg (crS d)) 0 \ S) (fun δ => (Rd kvf).payload ((c : Thread nD τ), SemLoc.reg (crS d)) 0 δ)
      = bigSep (Finset.univ \ S) (credPay d (nx d c)) := fun S => by
    rw [show (Rd kvf).duties ((c : Thread nD τ), SemLoc.reg (crS d)) 0 = Finset.univ from duties_cell kvf c (.credit d)]
    exact bigSep_congr fun δ _ => payload_cell kvf c (.credit d) 0 δ
  unfold Owe half
  iintro ⟨⟨#HR, #Ho⟩, ⟨Hc, ⟨%S, Hat, #HS⟩, ⟨%W, HO⟩⟩, Hk⟩
  ihave HI := hI $$ HR
  ihave Hm := hm $$ HR
  simp only [credWait, semWaitWord, Prog.lift, Prog.bind_op, Prog.bind_ret, Prog.pure_eq_ret]
  iapply (Rounds.wp_wait_rest_token 𝒱₀ ER (Rd kvf) (c : Thread nD τ) none (κ := κ (cell c (.credit d)))
      (wpE_semWait_eq 𝒱₀ (c : Thread nD τ) none Set.univ) (Set.mem_univ _) 1 (O := owed c l) (W := W) (R := 0) (m := 1) (T := S) he) $$ [Hc HO Hat HI Hm]
  · isplitl [HI]; · iexact HI
    isplitl [Hc]; · iexact Hc
    isplitl [HO]; · iexact HO
    isplitl [Hm]; · iexact Hm
    iexact Hat
  iintro ⟨HO, Hat, -, Hpay⟩
  ihave #Hp := (Entails.of_eq (hpy S)) $$ Hpay
  iapply Hk
  isplitr
  · by_cases h1 : (1 : Fin 2) ∈ S
    · ihave H := (show bigSep S (credPay d (nx d c)) ⊢ credPay (F := F) d (nx d c) 1 from bigSep_elim h1) $$ HS
      unfold credPay
      icases H with ⟨-, H⟩
      iexact H
    · ihave H := (show bigSep (Finset.univ \ S) (credPay d (nx d c)) ⊢ credPay (F := F) d (nx d c) 1 from
        bigSep_elim (Finset.mem_sdiff.mpr ⟨Finset.mem_univ _, h1⟩)) $$ Hp
      unfold credPay
      icases H with ⟨-, H⟩
      iexact H
  isplitl [Hat]; · iexact Hat
  iexists _; iexact HO

/-! ## Handing slots back and taking them -/

theorem give (d : Dir) (s : Fin 2) :
    iprop(Rec kvf κ ιs ∗ Release.readerAt (ES (F := F)) (c, d, s) 0 ∗ ownAny d c (slotS s)) ⊢ (|={Set.univ}=> rel c d s : sProp 𝕄) := by
  have hI := Rec_slot kvf κ ιs (c, d, s)
  iintro ⟨HR, Hr, Ho⟩
  ihave HI := hI $$ HR
  imod (Release.slot_release (ES (F := F)) (ι := ιs (c, d, s)) (k := (c, d, s)) (S := slotOf (c, d, s)) (Set.mem_univ _) (ownAny_clash d c (slotS_nonempty s)) 0) $$ [HI Hr Ho] with ⟨-, H⟩
  · isplitl [HI]; · iexact HI
    isplitl [Hr]; · iexact Hr
    iapply (show ownAny d c (slotS s) ⊢ slotOf (F := F) (c, d, s) from BI.Entails.refl _) $$ Ho
  imodintro
  iexact H

theorem take (d : Dir) (s : Fin 2) :
    iprop(Rec kvf κ ιs ∗ rel (nx d c) d s ∗ Release.writeTok (ES (F := F)) (nx d c, d, s) 1) ⊢ (|={Set.univ}=> ownAny d (nx d c) (slotS s) : sProp 𝕄) := by
  have hI := Rec_slot kvf κ ιs (nx d c, d, s)
  iintro ⟨HR, Hr, Ho⟩
  ihave HI := hI $$ HR
  imod (Release.slot_take (ES (F := F)) (ι := ιs (nx d c, d, s)) (k := (nx d c, d, s)) (S := slotOf (nx d c, d, s)) (Set.mem_univ _) 1) $$ [HI Hr Ho] with H
  · isplitl [HI]; · iexact HI
    isplitl [Hr]; · iexact Hr
    iexact Ho
  imodintro
  iapply (show slotOf (F := F) (nx d c, d, s) ⊢ ownAny d (nx d c) (slotS s) from BI.Entails.refl _) $$ H

end Cert.KernelIdeal.Att

end
-- ==== Proof.BodyEq.lean ====
/-
  The printed body of the kernel is the list of its steps.
-/
module

public import proofs.«01_k».proof.Proof.Ops

@[expose] public section

set_option maxRecDepth 65536

noncomputable section

namespace Cert.KernelIdeal.Att

open Idealize.ShloMosaic Idealize.SL.Sem
open Cert.KernelIdeal.Gen

variable {F : FTy → Type} [FloatOps F]

/-- What takes the arguments of the kernel's body. -/
abbrev Taking (β : Type 1) : Type 1 :=
  (arg0 : Memref sig .tc .vmem S16x1024x128 .f32) → (harg0 : arg0.IsWhole) → (arg1 : Memref sig .tc .hbm S16x1024x128 .bf16) → (harg1 : arg1.IsWhole) → (arg2 : Memref sig .tc .hbm S16x1024x128 .bf16) → (harg2 : arg2.IsWhole) → (arg3 : Memref sig .tc .vmem S16x1024x128 .f32) → (harg3 : arg3.IsWhole) → (arg4 : Memref sig .tc .vmem S2x4x2x2x1024x128 .bf16) → (harg4 : arg4.IsWhole) → (arg5 : Memref sig .tc .vmem S2x4x2x2x1024x128 .bf16) → (harg5 : arg5.IsWhole) → (arg6 : Memref sig .tc .vmem S16x1024x1 .f32) → (harg6 : arg6.IsWhole) → (arg7 : DmaSems sig S16) → (arg8 : DmaSems sig S2) → (arg9 : DmaSems sig S2) → (arg10 : DmaSems sig S2) → (arg11 : DmaSems sig S2) → (arg12 : DmaSems sig S4) → (arg13 : DmaSems sig S4) → (arg14 : DmaSems sig S4) → (arg15 : DmaSems sig S4) → (arg16 : Sems sig S_) → (arg17 : Sems sig S_) → β
/-- At the arguments the launch gives it. -/
def here {β : Type 1} (f : Taking β) : β :=
  f qM (Memref.isWhole_whole _) (Memref.whole main_v5) (Memref.isWhole_whole _) (Memref.whole main_v8) (Memref.isWhole_whole _)
    oM (Memref.isWhole_whole _) (Memref.whole cc0_scratch0) (Memref.isWhole_whole _) (Memref.whole cc0_scratch1) (Memref.isWhole_whole _)
    lM (Memref.isWhole_whole _) cc0_scratch3 cc0_scratch4 cc0_scratch5 cc0_scratch6 cc0_scratch7 cc0_scratch8 cc0_scratch9 cc0_scratch10
    cc0_scratch11 cc0_scratch12 cc0_scratch13

/-- A part of the body is these steps, whatever it hands on. -/
def IsSteps {α : Type} (p : Prog (TpuEff nD τ sig (Elt F) Λ₀ .tc) α) (l : List (Pg F)) : Prop := ∃ r : α, p = seqs l (pure r)

/-- The barrier's semaphore. -/
abbrev barArr : Sems sig S_ := SemArray.scalar (sig.barrier 0 rfl)

theorem part25 : ∃ r : Dev nD → Σ' (_ : BitVec 32) (_ : BitVec 32) (_ : BitVec 32), BitVec 32, here (k0_part25 (F := F)) =
    Prog.lift .deviceId >>= fun d0 => seqs [ldStart .cw 0 0, ldStart .cw 0 1] (pure ⟨d0, r d0⟩) :=
  ⟨fun d0 => ⟨_, _, _, _⟩, rfl⟩
theorem part29 (d0 : Dev nD) (v2 : BitVec 32) (v5 : BitVec 32) (v13 : BitVec 32) : ∃ r : BitVec 32, here (k0_part29 (F := F)) d0 v2 v5 v13 =
    seqs [ldStart .cw 3 1, ldStart .ccw 3 0, ldStart .ccw 3 1, barSig ⟨k0_dev1 d0, k0_dev1_lt d0⟩] (pure ⟨barArr, r⟩) := ⟨_, rfl⟩
theorem part26  : IsSteps (F := F) (here k0_part26)
    [ldStart .ccw 0 0, ldStart .ccw 0 1, ldStart .cw 1 0] := ⟨_, rfl⟩
theorem part27  : IsSteps (F := F) (here k0_part27)
    [ldStart .cw 1 1, ldStart .ccw 1 0, ldStart .ccw 1 1, ldStart .cw 2 0] := ⟨_, rfl⟩
theorem part28  : IsSteps (F := F) (here k0_part28)
    [ldStart .cw 2 1, ldStart .ccw 2 0, ldStart .ccw 2 1, ldStart .cw 3 0] := ⟨_, rfl⟩
theorem part30 (d0 : Dev nD) (v5 : BitVec 32) (v10 : BitVec 32) (v102 : BitVec 32) : IsSteps (F := F) (here k0_part30 d0 v5 v10 barArr v102)
    [barSig ⟨k0_dev2 d0, k0_dev2_lt d0⟩, barWait, ldWait .cw 0 0, ldWait .cw 0 1, ldWait .ccw 0 0] := ⟨_, rfl⟩
theorem part31  : IsSteps (F := F) (here k0_part31)
    [ldWait .ccw 0 1, ldWait .cw 1 0, ldWait .cw 1 1] := ⟨_, rfl⟩
theorem part32  : IsSteps (F := F) (here k0_part32)
    [ldWait .ccw 1 0, ldWait .ccw 1 1, ldWait .cw 2 0, ldWait .cw 2 1] := ⟨_, rfl⟩
theorem part33  : IsSteps (F := F) (here k0_part33)
    [ldWait .ccw 2 0, ldWait .ccw 2 1, ldWait .cw 3 0, ldWait .cw 3 1] := ⟨_, rfl⟩
theorem part34 (d0 : Dev nD) (v2 : BitVec 32) (v5 : BitVec 32) (v10 : BitVec 32) : IsSteps (F := F) (here k0_part34 d0 v2 v5 v10)
    [ldWait .ccw 3 0, ldWait .ccw 3 1, send .cw 0 ⟨k0_dev3 d0, k0_dev3_lt d0⟩] := ⟨_, rfl⟩
theorem part35 (d0 : Dev nD) (v2 : BitVec 32) (v5 : BitVec 32) (v13 : BitVec 32) : IsSteps (F := F) (here k0_part35 d0 v2 v5 v13)
    [send .ccw 0 ⟨k0_dev4 d0, k0_dev4_lt d0⟩, compF .cw 0 0, compF .cw 0 1, compF .cw 0 2, compF .cw 0 3] := ⟨_, rfl⟩
theorem part36 (c0_i32_377 : BitVec 32) (c1_i32_379 : BitVec 32) : IsSteps (F := F) (here k0_part36 c0_i32_377 c1_i32_379)
    [compF .ccw 0 0, compF .ccw 0 1, compF .ccw 0 2, compF .ccw 0 3, sendWait .cw 0] := ⟨_, rfl⟩
theorem part37 (d0 : Dev nD) (v2 : BitVec 32) (v5 : BitVec 32) (v10 : BitVec 32) (v13 : BitVec 32) : IsSteps (F := F) (here k0_part37 d0 v2 v5 v10 v13)
    [sendWait .ccw 0, credSig .cw ⟨k0_dev5 d0, k0_dev5_lt d0⟩, credSig .ccw ⟨k0_dev6 d0, k0_dev6_lt d0⟩, recvWait .cw 0] := ⟨_, rfl⟩
theorem part38 (v2 : BitVec 32) (v5 : BitVec 32) (v10 : BitVec 32) (v13 : BitVec 32) : IsSteps (F := F) (here k0_part38 v2 v5 v10 v13)
    [recvWait .ccw 0, credWait .cw, credWait .ccw] := ⟨_, rfl⟩
theorem part39 (d0 : Dev nD) (v2 : BitVec 32) (v5 : BitVec 32) (v13 : BitVec 32) : IsSteps (F := F) (here k0_part39 d0 v2 v5 v13)
    [send .cw 1 ⟨k0_dev7 d0, k0_dev7_lt d0⟩, send .ccw 1 ⟨k0_dev8 d0, k0_dev8_lt d0⟩, compA .cw 1 0, compA .cw 1 1, compA .cw 1 2] := ⟨_, rfl⟩
theorem part40  : IsSteps (F := F) (here k0_part40)
    [compA .cw 1 3, compA .ccw 1 0, compA .ccw 1 1, compA .ccw 1 2, compA .ccw 1 3, sendWait .cw 1] := ⟨_, rfl⟩
theorem part41 (d0 : Dev nD) (v2 : BitVec 32) (v5 : BitVec 32) (v10 : BitVec 32) (v13 : BitVec 32) : IsSteps (F := F) (here k0_part41 d0 v2 v5 v10 v13)
    [sendWait .ccw 1, credSig .cw ⟨k0_dev9 d0, k0_dev9_lt d0⟩, credSig .ccw ⟨k0_dev10 d0, k0_dev10_lt d0⟩] := ⟨_, rfl⟩
theorem part42 (v2 : BitVec 32) (v5 : BitVec 32) (v13 : BitVec 32) : IsSteps (F := F) (here k0_part42 v2 v5 v13)
    [recvWait .cw 1, recvWait .ccw 1, credWait .cw, credWait .ccw] := ⟨_, rfl⟩
theorem part43 (d0 : Dev nD) (v2 : BitVec 32) (v5 : BitVec 32) (v10 : BitVec 32) (v13 : BitVec 32) (v358 : BitVec 32) (c1_i32_630 : BitVec 32) : IsSteps (F := F) (here k0_part43 d0 v2 v5 v10 v13 v358 c1_i32_630)
    [send2 .cw 0 ⟨k0_dev11 d0, k0_dev11_lt d0⟩, send2 .ccw 0 ⟨k0_dev12 d0, k0_dev12_lt d0⟩] := ⟨_, rfl⟩
theorem part44 (d0 : Dev nD) (v2 : BitVec 32) (v5 : BitVec 32) (v10 : BitVec 32) (v13 : BitVec 32) (v383 : BitVec 32) : IsSteps (F := F) (here k0_part44 d0 v2 v5 v10 v13 v383)
    [send2 .cw 1 ⟨k0_dev13 d0, k0_dev13_lt d0⟩, send2 .ccw 1 ⟨k0_dev14 d0, k0_dev14_lt d0⟩] := ⟨_, rfl⟩
theorem part45 (d0 : Dev nD) (v2 : BitVec 32) (v5 : BitVec 32) (v10 : BitVec 32) (v13 : BitVec 32) : IsSteps (F := F) (here k0_part45 d0 v2 v5 v10 v13)
    [send2 .cw 2 ⟨k0_dev15 d0, k0_dev15_lt d0⟩] := ⟨_, rfl⟩
theorem part46 (d0 : Dev nD) (v2 : BitVec 32) (v5 : BitVec 32) (v10 : BitVec 32) (v13 : BitVec 32) : IsSteps (F := F) (here k0_part46 d0 v2 v5 v10 v13)
    [send2 .ccw 2 ⟨k0_dev16 d0, k0_dev16_lt d0⟩, send2 .cw 3 ⟨k0_dev17 d0, k0_dev17_lt d0⟩] := ⟨_, rfl⟩
theorem part47 (d0 : Dev nD) : IsSteps (F := F) (here k0_part47 d0)
    [send2 .ccw 3 ⟨k0_dev18 d0, k0_dev18_lt d0⟩, compA .cw 0 0, compA .cw 0 1, compA .cw 0 2, compA .cw 0 3, compA .ccw 0 0, compA .ccw 0 1, compA .ccw 0 2, compA .ccw 0 3] := ⟨_, rfl⟩
theorem part48 (v2 : BitVec 32) (v5 : BitVec 32) (v10 : BitVec 32) (v13 : BitVec 32) : IsSteps (F := F) (here k0_part48 v2 v5 v10 v13)
    [recv2Wait .cw 0, compA .cw 1 0] := ⟨_, rfl⟩
theorem part49 (v2 : BitVec 32) (v5 : BitVec 32) (v10 : BitVec 32) : IsSteps (F := F) (here k0_part49 v2 v5 v10)
    [recv2Wait .ccw 0, compA .ccw 1 0, recv2Wait .cw 1, compA .cw 1 1] := ⟨_, rfl⟩
theorem part50 (v2 : BitVec 32) (v5 : BitVec 32) (v10 : BitVec 32) (v13 : BitVec 32) (v515 : BitVec 32) (c4_i32_871 : BitVec 32) : IsSteps (F := F) (here k0_part50 v2 v5 v10 v13 v515 c4_i32_871)
    [recv2Wait .ccw 1, compA .ccw 1 1, recv2Wait .cw 2] := ⟨_, rfl⟩
theorem part51 (v2 : BitVec 32) (v5 : BitVec 32) (v10 : BitVec 32) (v13 : BitVec 32) (c0_i32_903 : BitVec 32) : IsSteps (F := F) (here k0_part51 v2 v5 v10 v13 c0_i32_903)
    [compA .cw 1 2, recv2Wait .ccw 2, compA .ccw 1 2] := ⟨_, rfl⟩
theorem part52 (v2 : BitVec 32) (v5 : BitVec 32) (v13 : BitVec 32) : IsSteps (F := F) (here k0_part52 v2 v5 v13)
    [recv2Wait .cw 3, compA .cw 1 3, recv2Wait .ccw 3, compA .ccw 1 3] := ⟨_, rfl⟩
theorem part53  : IsSteps (F := F) (here k0_part53)
    [send2Wait .cw 0, send2Wait .ccw 0, send2Wait .cw 1] := ⟨_, rfl⟩
theorem part54  : IsSteps (F := F) (here k0_part54)
    [send2Wait .ccw 1, send2Wait .cw 2] := ⟨_, rfl⟩

theorem IsSteps.then {α β : Type} {p : Prog (TpuEff nD τ sig (Elt F) Λ₀ .tc) α} {l l' : List (Pg F)} (h : IsSteps p l)
    {k : α → Prog (TpuEff nD τ sig (Elt F) Λ₀ .tc) β} {K : Prog (TpuEff nD τ sig (Elt F) Λ₀ .tc) β} (hk : ∀ r, k r = seqs l' K) :
    p >>= k = seqs (l ++ l') K := by
  obtain ⟨r, rfl⟩ := h; rw [seqs_bind, pure_bind, hk, seqs_seqs]

/-- A head's division by its sum of weights. -/
def headN (t : Fin k0_t33_loop.trips) : Pg F :=
  Prog.lift (.load oM (Rect.unit (s := S16x1024x128) (k0_off129 t) S1x1024x128.size (k0_off129_inb t)).toLoadRect (View.loadsAt_vmem h_S1x1024x128)) >>= fun o =>
  Prog.lift (.load lM (Rect.unit (s := S16x1024x1) (k0_off130 t) S1x1024x1.size (k0_off130_inb t)).toLoadRect (View.loadsAt_vmem h_S1x1024x1)) >>= fun l =>
  Prog.lift (.load oM (Rect.unit (s := S16x1024x128) (k0_off129 t) S1x1024x128.size (k0_off129_inb t)).toLoadRect (View.loadsAt_vmem h_S1x1024x128)) >>= fun _ =>
  Prog.lift (.store oM (Rect.unit (s := S16x1024x128) (k0_off129 t) S1x1024x128.size (k0_off129_inb t)) (k0_pay1 o l) Finset.univ
    (View.stores_vmem_bits_univ h_S1x1024x128 rfl) (.inl rfl)) >>= fun _ => pure ⟨⟩
/-- Every head's. -/
def norm : Pg F := Scf.Loop.for k0_t33_loop k0_t33_ok ⟨⟩ (fun t _ => headN t) >>= fun _ => pure ⟨⟩

/-- The steps of a device's body, the device's neighbours being the ones printed. -/
abbrev printed (d0 : Dev nD) : List (Pg F) :=
  [ldStart .cw 0 0, ldStart .cw 0 1] ++
  ([ldStart .ccw 0 0, ldStart .ccw 0 1, ldStart .cw 1 0] ++
  ([ldStart .cw 1 1, ldStart .ccw 1 0, ldStart .ccw 1 1, ldStart .cw 2 0] ++
  ([ldStart .cw 2 1, ldStart .ccw 2 0, ldStart .ccw 2 1, ldStart .cw 3 0] ++
  ([ldStart .cw 3 1, ldStart .ccw 3 0, ldStart .ccw 3 1, barSig ⟨k0_dev1 d0, k0_dev1_lt d0⟩] ++
  ([barSig ⟨k0_dev2 d0, k0_dev2_lt d0⟩, barWait, ldWait .cw 0 0, ldWait .cw 0 1, ldWait .ccw 0 0] ++
  ([ldWait .ccw 0 1, ldWait .cw 1 0, ldWait .cw 1 1] ++
  ([ldWait .ccw 1 0, ldWait .ccw 1 1, ldWait .cw 2 0, ldWait .cw 2 1] ++
  ([ldWait .ccw 2 0, ldWait .ccw 2 1, ldWait .cw 3 0, ldWait .cw 3 1] ++
  ([ldWait .ccw 3 0, ldWait .ccw 3 1, send .cw 0 ⟨k0_dev3 d0, k0_dev3_lt d0⟩] ++
  ([send .ccw 0 ⟨k0_dev4 d0, k0_dev4_lt d0⟩, compF .cw 0 0, compF .cw 0 1, compF .cw 0 2, compF .cw 0 3] ++
  ([compF .ccw 0 0, compF .ccw 0 1, compF .ccw 0 2, compF .ccw 0 3, sendWait .cw 0] ++
  ([sendWait .ccw 0, credSig .cw ⟨k0_dev5 d0, k0_dev5_lt d0⟩, credSig .ccw ⟨k0_dev6 d0, k0_dev6_lt d0⟩, recvWait .cw 0] ++
  ([recvWait .ccw 0, credWait .cw, credWait .ccw] ++
  ([send .cw 1 ⟨k0_dev7 d0, k0_dev7_lt d0⟩, send .ccw 1 ⟨k0_dev8 d0, k0_dev8_lt d0⟩, compA .cw 1 0, compA .cw 1 1, compA .cw 1 2] ++
  ([compA .cw 1 3, compA .ccw 1 0, compA .ccw 1 1, compA .ccw 1 2, compA .ccw 1 3, sendWait .cw 1] ++
  ([sendWait .ccw 1, credSig .cw ⟨k0_dev9 d0, k0_dev9_lt d0⟩, credSig .ccw ⟨k0_dev10 d0, k0_dev10_lt d0⟩] ++
  ([recvWait .cw 1, recvWait .ccw 1, credWait .cw, credWait .ccw] ++
  ([send2 .cw 0 ⟨k0_dev11 d0, k0_dev11_lt d0⟩, send2 .ccw 0 ⟨k0_dev12 d0, k0_dev12_lt d0⟩] ++
  ([send2 .cw 1 ⟨k0_dev13 d0, k0_dev13_lt d0⟩, send2 .ccw 1 ⟨k0_dev14 d0, k0_dev14_lt d0⟩] ++
  ([send2 .cw 2 ⟨k0_dev15 d0, k0_dev15_lt d0⟩] ++
  ([send2 .ccw 2 ⟨k0_dev16 d0, k0_dev16_lt d0⟩, send2 .cw 3 ⟨k0_dev17 d0, k0_dev17_lt d0⟩] ++
  ([send2 .ccw 3 ⟨k0_dev18 d0, k0_dev18_lt d0⟩, compA .cw 0 0, compA .cw 0 1, compA .cw 0 2, compA .cw 0 3, compA .ccw 0 0, compA .ccw 0 1, compA .ccw 0 2, compA .ccw 0 3] ++
  ([recv2Wait .cw 0, compA .cw 1 0] ++
  ([recv2Wait .ccw 0, compA .ccw 1 0, recv2Wait .cw 1, compA .cw 1 1] ++
  ([recv2Wait .ccw 1, compA .ccw 1 1, recv2Wait .cw 2] ++
  ([compA .cw 1 2, recv2Wait .ccw 2, compA .ccw 1 2] ++
  ([recv2Wait .cw 3, compA .cw 1 3, recv2Wait .ccw 3, compA .ccw 1 3] ++
  ([send2Wait .cw 0, send2Wait .ccw 0, send2Wait .cw 1] ++
  ([send2Wait .ccw 1, send2Wait .cw 2] ++
  ([send2Wait .ccw 2, send2Wait .cw 3, send2Wait .ccw 3]))))))))))))))))))))))))))))))

/-- The body is its steps. -/
theorem body_printed : here (cc0__body (F := F)) = Prog.lift .deviceId >>= fun d0 => seqs (printed d0) norm := by
  have h : here (cc0__body (F := F)) = here k0_part55 >>= fun _ => send2Wait .ccw 3 >>= fun _ => norm := rfl
  have h55 : here (k0_part55 (F := F)) = here k0_part25 >>= fun ⟨d0, v2, v5, v10, v13⟩ => here k0_part26 >>= fun _ => here k0_part27 >>= fun _ => here k0_part28 >>= fun _ => here k0_part29 d0 v2 v5 v13 >>= fun ⟨v94, v102⟩ => here k0_part30 d0 v5 v10 v94 v102 >>= fun _ => here k0_part31 >>= fun _ => here k0_part32 >>= fun _ => here k0_part33 >>= fun _ => here k0_part34 d0 v2 v5 v10 >>= fun _ => here k0_part35 d0 v2 v5 v13 >>= fun ⟨c0_i32_377, c1_i32_379⟩ => here k0_part36 c0_i32_377 c1_i32_379 >>= fun _ => here k0_part37 d0 v2 v5 v10 v13 >>= fun _ => here k0_part38 v2 v5 v10 v13 >>= fun _ => here k0_part39 d0 v2 v5 v13 >>= fun _ => here k0_part40 >>= fun _ => here k0_part41 d0 v2 v5 v10 v13 >>= fun _ => here k0_part42 v2 v5 v13 >>= fun ⟨v358, c1_i32_630⟩ => here k0_part43 d0 v2 v5 v10 v13 v358 c1_i32_630 >>= fun v383 => here k0_part44 d0 v2 v5 v10 v13 v383 >>= fun _ => here k0_part45 d0 v2 v5 v10 v13 >>= fun _ => here k0_part46 d0 v2 v5 v10 v13 >>= fun _ => here k0_part47 d0 >>= fun _ => here k0_part48 v2 v5 v10 v13 >>= fun _ => here k0_part49 v2 v5 v10 >>= fun ⟨v515, c4_i32_871⟩ => here k0_part50 v2 v5 v10 v13 v515 c4_i32_871 >>= fun c0_i32_903 => here k0_part51 v2 v5 v10 v13 c0_i32_903 >>= fun _ => here k0_part52 v2 v5 v13 >>= fun _ => here k0_part53 >>= fun _ => here k0_part54 >>= fun _ => send2Wait .ccw 2 >>= fun _ => send2Wait .cw 3 >>= fun _ => pure ⟨⟩ := rfl
  rw [h, h55]
  obtain ⟨r, h25⟩ := part25 (F := F)
  rw [h25]
  simp only [bind_assoc, seqs_bind, pure_bind]
  congr 1; funext d0
  rw [printed, ← seqs_seqs]; congr 1
  refine (part26 ..).then fun _ => ?_
  refine (part27 ..).then fun _ => ?_
  refine (part28 ..).then fun _ => ?_
  obtain ⟨r29, h29⟩ := part29 (F := F) d0 (r d0).1 (r d0).2.1 (r d0).2.2.2
  rw [h29, seqs_bind, pure_bind, ← seqs_seqs]; congr 1
  refine (part30 ..).then fun _ => ?_
  refine (part31 ..).then fun _ => ?_
  refine (part32 ..).then fun _ => ?_
  refine (part33 ..).then fun _ => ?_
  refine (part34 ..).then fun _ => ?_
  refine (part35 ..).then fun _ => ?_
  refine (part36 ..).then fun _ => ?_
  refine (part37 ..).then fun _ => ?_
  refine (part38 ..).then fun _ => ?_
  refine (part39 ..).then fun _ => ?_
  refine (part40 ..).then fun _ => ?_
  refine (part41 ..).then fun _ => ?_
  refine (part42 ..).then fun _ => ?_
  refine (part43 ..).then fun _ => ?_
  refine (part44 ..).then fun _ => ?_
  refine (part45 ..).then fun _ => ?_
  refine (part46 ..).then fun _ => ?_
  refine (part47 ..).then fun _ => ?_
  refine (part48 ..).then fun _ => ?_
  refine (part49 ..).then fun _ => ?_
  refine (part50 ..).then fun _ => ?_
  refine (part51 ..).then fun _ => ?_
  refine (part52 ..).then fun _ => ?_
  refine (part53 ..).then fun _ => ?_
  refine (part54 ..).then fun _ => ?_
  rfl

/-- The copies of two heads' keys and values. -/
abbrev quads (f : Dir → Fin 4 → Fin 2 → Pg F) : List (Pg F) :=
  (List.finRange 4).flatMap fun u => [f .cw u 0, f .cw u 1, f .ccw u 0, f .ccw u 1]
/-- The steps of a device's body on device `c`. -/
def steps (c : Dev nD) : List (Pg F) :=
  quads ldStart ++ [barSig (pv .cw c), barSig (pv .ccw c), barWait] ++ quads ldWait
  ++ [send .cw 0 (nx .cw c), send .ccw 0 (nx .ccw c)]
  ++ (List.finRange 4).map (compF .cw 0) ++ (List.finRange 4).map (compF .ccw 0)
  ++ [sendWait .cw 0, sendWait .ccw 0, credSig .cw (pv .cw c), credSig .ccw (pv .ccw c), recvWait .cw 0, recvWait .ccw 0,
      credWait .cw, credWait .ccw, send .cw 1 (nx .cw c), send .ccw 1 (nx .ccw c)]
  ++ (List.finRange 4).map (compA .cw 1) ++ (List.finRange 4).map (compA .ccw 1)
  ++ [sendWait .cw 1, sendWait .ccw 1, credSig .cw (pv .cw c), credSig .ccw (pv .ccw c), recvWait .cw 1, recvWait .ccw 1,
      credWait .cw, credWait .ccw]
  ++ (List.finRange 4).flatMap (fun u => [send2 .cw u (nx .cw c), send2 .ccw u (nx .ccw c)])
  ++ (List.finRange 4).map (compA .cw 0) ++ (List.finRange 4).map (compA .ccw 0)
  ++ (List.finRange 4).flatMap (fun u => [recv2Wait .cw u, compA .cw 1 u, recv2Wait .ccw u, compA .ccw 1 u])
  ++ (List.finRange 4).flatMap (fun u => [send2Wait .cw u, send2Wait .ccw u])

theorem printed_eq (c : Dev nD) : printed (F := F) c = steps c := by
  have h1 : (⟨k0_dev1 c, k0_dev1_lt c⟩ : Dev nD) = pv .cw c := Fin.ext (k0_dev1_eq c)
  have h2 : (⟨k0_dev2 c, k0_dev2_lt c⟩ : Dev nD) = pv .ccw c := Fin.ext (k0_dev2_eq c)
  have h3 : (⟨k0_dev3 c, k0_dev3_lt c⟩ : Dev nD) = nx .cw c := Fin.ext (k0_dev3_eq c)
  have h4 : (⟨k0_dev4 c, k0_dev4_lt c⟩ : Dev nD) = nx .ccw c := Fin.ext (k0_dev4_eq c)
  have h5 : (⟨k0_dev5 c, k0_dev5_lt c⟩ : Dev nD) = pv .cw c := Fin.ext (k0_dev5_eq c)
  have h6 : (⟨k0_dev6 c, k0_dev6_lt c⟩ : Dev nD) = pv .ccw c := Fin.ext (k0_dev6_eq c)
  have h7 : (⟨k0_dev7 c, k0_dev7_lt c⟩ : Dev nD) = nx .cw c := Fin.ext (k0_dev7_eq c)
  have h8 : (⟨k0_dev8 c, k0_dev8_lt c⟩ : Dev nD) = nx .ccw c := Fin.ext (k0_dev8_eq c)
  have h9 : (⟨k0_dev9 c, k0_dev9_lt c⟩ : Dev nD) = pv .cw c := Fin.ext (k0_dev9_eq c)
  have h10 : (⟨k0_dev10 c, k0_dev10_lt c⟩ : Dev nD) = pv .ccw c := Fin.ext (k0_dev10_eq c)
  have h11 : (⟨k0_dev11 c, k0_dev11_lt c⟩ : Dev nD) = nx .cw c := Fin.ext (k0_dev11_eq c)
  have h12 : (⟨k0_dev12 c, k0_dev12_lt c⟩ : Dev nD) = nx .ccw c := Fin.ext (k0_dev12_eq c)
  have h13 : (⟨k0_dev13 c, k0_dev13_lt c⟩ : Dev nD) = nx .cw c := Fin.ext (k0_dev13_eq c)
  have h14 : (⟨k0_dev14 c, k0_dev14_lt c⟩ : Dev nD) = nx .ccw c := Fin.ext (k0_dev14_eq c)
  have h15 : (⟨k0_dev15 c, k0_dev15_lt c⟩ : Dev nD) = nx .cw c := Fin.ext (k0_dev15_eq c)
  have h16 : (⟨k0_dev16 c, k0_dev16_lt c⟩ : Dev nD) = nx .ccw c := Fin.ext (k0_dev16_eq c)
  have h17 : (⟨k0_dev17 c, k0_dev17_lt c⟩ : Dev nD) = nx .cw c := Fin.ext (k0_dev17_eq c)
  have h18 : (⟨k0_dev18 c, k0_dev18_lt c⟩ : Dev nD) = nx .ccw c := Fin.ext (k0_dev18_eq c)
  unfold printed
  rw [h1, h2, h3, h4, h5, h6, h7, h8, h9, h10, h11, h12, h13, h14, h15, h16, h17, h18]
  have h4 : List.finRange 4 = [0, 1, 2, 3] := by decide
  simp only [steps, quads, h4, List.flatMap_cons, List.flatMap_nil, List.map_cons, List.map_nil, List.cons_append, List.nil_append, List.append_nil]

/-- The body is its steps, each device's at its own neighbours. -/
theorem body_eq (t : Fin cfg0.N) : bodyAt0 (F := F) t = Prog.lift .deviceId >>= fun d0 => seqs (steps d0) norm := by
  simp only [← printed_eq]
  exact body_printed

end Cert.KernelIdeal.Att

end
-- ==== Proof.Comp.lean ====
/-
  Two heads' attention over one block, and the final division, head by head.
-/
module

public import proofs.«01_k».proof.Proof.Steps
public import proofs.«01_k».proof.Proof.BodyEq

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.ValueIdx (ix3)

variable {F : FTy → Type} [FloatOps F]

local notation "𝕄" => MT nD τ sig (Fin 2) (Elt F) ℕ UU ℕ

/-! ## Rows -/

/-- A head of a head-major array, and back. -/
def row128 {A : Type} (h : Fin 16) (f : S16x1024x128.Idx → A) : S1x1024x128.Idx → A := fun j => f (ix3 h (j 1) (j 2))
def row1 {A : Type} (h : Fin 16) (f : S16x1024x1.Idx → A) : S1x1024x1.Idx → A := fun j => f (ix3 h (j 1) (j 2))
def spread128 {A : Type} (w : S1x1024x128.Idx → A) : S16x1024x128.Idx → A := fun x => w (ix3 (0 : Fin 1) (x 1) (x 2))
def spread1 {A : Type} (w : S1x1024x1.Idx → A) : S16x1024x1.Idx → A := fun x => w (ix3 (0 : Fin 1) (x 1) (x 2))
/-- A head of a block's keys or values, as a load from a slot reads it. -/
def rowB {A : Type} (h : Fin 16) (f : S16x1024x128.Idx → A) : S1x1x1x1x1024x128.Idx → A := fun j => f (ix3 h (j 4) (j 5))

theorem lead128 (j : S1x1024x128.Idx) : ix3 (0 : Fin 1) (j 1) (j 2) = j := by
  funext a
  match a with
  | ⟨0, _⟩ => exact (Fin.eq_zero (j 0)).symm
  | ⟨1, _⟩ => rfl
  | ⟨2, _⟩ => rfl
theorem lead1 (j : S1x1024x1.Idx) : ix3 (0 : Fin 1) (j 1) (j 2) = j := by
  funext a
  match a with
  | ⟨0, _⟩ => exact (Fin.eq_zero (j 0)).symm
  | ⟨1, _⟩ => rfl
  | ⟨2, _⟩ => rfl

/-- A head's rectangle, whatever way its offset is computed. -/
theorem emb128 (off : Fin 3 → ℕ) (h : Fin 16) (e : off = ![h.val, 0, 0]) (inb : ∀ a, off a + S1x1024x128.size a ≤ S16x1024x128.size a) (j : S1x1024x128.Idx) :
    (Rect.unit (s := S16x1024x128) off S1x1024x128.size inb).emb j = ix3 h (j 1) (j 2) := by
  subst e
  have h0 : (j 0).val = 0 := congrArg Fin.val (Fin.eq_zero (j 0))
  funext a
  match a with
  | ⟨0, _⟩ => exact Fin.ext (by show h.val + 1 * (j 0).val = h.val; omega)
  | ⟨1, _⟩ => exact Fin.ext (by show 0 + 1 * (j 1).val = (j 1).val; omega)
  | ⟨2, _⟩ => exact Fin.ext (by show 0 + 1 * (j 2).val = (j 2).val; omega)
theorem emb1 (off : Fin 3 → ℕ) (h : Fin 16) (e : off = ![h.val, 0, 0]) (inb : ∀ a, off a + S1x1024x1.size a ≤ S16x1024x1.size a) (j : S1x1024x1.Idx) :
    (Rect.unit (s := S16x1024x1) off S1x1024x1.size inb).emb j = ix3 h (j 1) (j 2) := by
  subst e
  have h0 : (j 0).val = 0 := congrArg Fin.val (Fin.eq_zero (j 0))
  funext a
  match a with
  | ⟨0, _⟩ => exact Fin.ext (by show h.val + 1 * (j 0).val = h.val; omega)
  | ⟨1, _⟩ => exact Fin.ext (by show 0 + 1 * (j 1).val = (j 1).val; omega)
  | ⟨2, _⟩ => exact Fin.ext (by show 0 + 1 * (j 2).val = (j 2).val; omega)
theorem set128 (off : Fin 3 → ℕ) (h : Fin 16) (e : off = ![h.val, 0, 0]) (inb : ∀ a, off a + S1x1024x128.size a ≤ S16x1024x128.size a) :
    (Rect.unit (s := S16x1024x128) off S1x1024x128.size inb).set = rowS r128 h := by
  subst e
  ext x
  have h0 : (x 0).val < 16 := (x 0).isLt
  have h1 : (x 1).val < 1024 := (x 1).isLt
  have h2 : (x 2).val < 128 := (x 2).isLt
  rw [rowS, Rect.mem_set_unit, Finset.mem_filter, Fin.ext_iff (a := r128 x)]
  have er : (r128 x).val = (x 0).val := rfl
  rw [er]
  constructor
  · intro hx
    have t1 : h.val ≤ (x 0).val := (hx 0).1
    have t2 : (x 0).val < h.val + 1 := (hx 0).2
    exact ⟨Finset.mem_univ _, by omega⟩
  · rintro ⟨-, hx⟩ a
    match a with
    | ⟨0, _⟩ => exact ⟨by show h.val ≤ (x 0).val; omega, by show (x 0).val < h.val + 1; omega⟩
    | ⟨1, _⟩ => exact ⟨Nat.zero_le _, by show (x 1).val < 0 + 1024; omega⟩
    | ⟨2, _⟩ => exact ⟨Nat.zero_le _, by show (x 2).val < 0 + 128; omega⟩
theorem set1 (off : Fin 3 → ℕ) (h : Fin 16) (e : off = ![h.val, 0, 0]) (inb : ∀ a, off a + S1x1024x1.size a ≤ S16x1024x1.size a) :
    (Rect.unit (s := S16x1024x1) off S1x1024x1.size inb).set = rowS r1 h := by
  subst e
  ext x
  have h0 : (x 0).val < 16 := (x 0).isLt
  have h1 : (x 1).val < 1024 := (x 1).isLt
  have h2 : (x 2).val < 1 := (x 2).isLt
  rw [rowS, Rect.mem_set_unit, Finset.mem_filter, Fin.ext_iff (a := r1 x)]
  have er : (r1 x).val = (x 0).val := rfl
  rw [er]
  constructor
  · intro hx
    have t1 : h.val ≤ (x 0).val := (hx 0).1
    have t2 : (x 0).val < h.val + 1 := (hx 0).2
    exact ⟨Finset.mem_univ _, by omega⟩
  · rintro ⟨-, hx⟩ a
    match a with
    | ⟨0, _⟩ => exact ⟨by show h.val ≤ (x 0).val; omega, by show (x 0).val < h.val + 1; omega⟩
    | ⟨1, _⟩ => exact ⟨Nat.zero_le _, by show (x 1).val < 0 + 1024; omega⟩
    | ⟨2, _⟩ => exact ⟨Nat.zero_le _, by show (x 2).val < 0 + 1; omega⟩

/-! ## Loads and stores of a head -/

variable (c : Dev nD)

def qOwn (f : S16x1024x128.Idx → Elt F .f32) : sProp 𝕄 := qM.view.loc (c : Thread nD τ) ↦{fullShare} f
def oOwn (S : Finset S16x1024x128.Idx) (f : S16x1024x128.Idx → Elt F .f32) : sProp 𝕄 := oM.view.loc (c : Thread nD τ) ↦[S]{fullShare} f
def lOwn (S : Finset S16x1024x1.Idx) (f : S16x1024x1.Idx → Elt F .f32) : sProp 𝕄 := lM.view.loc (c : Thread nD τ) ↦[S]{fullShare} f

section
variable (off : Fin 3 → ℕ) (h : Fin 16) (e : off = ![h.val, 0, 0])
include e

theorem load_q {α : Type} (Φ : α → sProp 𝕄) (inb : ∀ a, off a + S1x1024x128.size a ≤ S16x1024x128.size a) (hl) (f : S16x1024x128.Idx → Elt F .f32)
    (k : Vec F S1x1024x128 .f32 → Prog (TpuEff nD τ sig (Elt F) Λ₀ .tc) α) :
    iprop(qOwn c f ∗ (qOwn c f -∗ Wp c (k (row128 h f)) Φ))
      ⊢ Wp c (Prog.lift (.load qM (Rect.unit (s := S16x1024x128) off S1x1024x128.size inb).toLoadRect hl) >>= k) Φ := by
  have hr : (qM.access (Rect.unit (s := S16x1024x128) off S1x1024x128.size inb)).read (Elt F) f = row128 h f :=
    funext fun j => congrArg f (emb128 off h e inb j)
  rw [← hr]
  unfold qOwn
  simp only [Prog.lift, Prog.bind_op, Prog.bind_ret]
  iintro ⟨H, Hk⟩
  iapply (wp_load_rect 𝒱₀ (c : Thread nD τ) none Set.univ (m := qM) (r := Rect.unit (s := S16x1024x128) off S1x1024x128.size inb) (Finset.subset_univ _)) $$ H
  iexact Hk
theorem load_o {α : Type} (Φ : α → sProp 𝕄) (inb : ∀ a, off a + S1x1024x128.size a ≤ S16x1024x128.size a) (hl) (f : S16x1024x128.Idx → Elt F .f32)
    (k : Vec F S1x1024x128 .f32 → Prog (TpuEff nD τ sig (Elt F) Λ₀ .tc) α) :
    iprop(oOwn c (rowS r128 h) f ∗ (oOwn c (rowS r128 h) f -∗ Wp c (k (row128 h f)) Φ))
      ⊢ Wp c (Prog.lift (.load oM (Rect.unit (s := S16x1024x128) off S1x1024x128.size inb).toLoadRect hl) >>= k) Φ := by
  have hr : (oM.access (Rect.unit (s := S16x1024x128) off S1x1024x128.size inb)).read (Elt F) f = row128 h f :=
    funext fun j => congrArg f (emb128 off h e inb j)
  rw [← hr]
  unfold oOwn
  simp only [Prog.lift, Prog.bind_op, Prog.bind_ret]
  iintro ⟨H, Hk⟩
  iapply (wp_load_rect 𝒱₀ (c : Thread nD τ) none Set.univ (m := oM) (r := Rect.unit (s := S16x1024x128) off S1x1024x128.size inb)
    (((View.set_slice_whole ..).trans (set128 off h e inb)).subset)) $$ H
  iexact Hk
theorem load_l {α : Type} (Φ : α → sProp 𝕄) (inb : ∀ a, off a + S1x1024x1.size a ≤ S16x1024x1.size a) (hl) (f : S16x1024x1.Idx → Elt F .f32)
    (k : Vec F S1x1024x1 .f32 → Prog (TpuEff nD τ sig (Elt F) Λ₀ .tc) α) :
    iprop(lOwn c (rowS r1 h) f ∗ (lOwn c (rowS r1 h) f -∗ Wp c (k (row1 h f)) Φ))
      ⊢ Wp c (Prog.lift (.load lM (Rect.unit (s := S16x1024x1) off S1x1024x1.size inb).toLoadRect hl) >>= k) Φ := by
  have hr : (lM.access (Rect.unit (s := S16x1024x1) off S1x1024x1.size inb)).read (Elt F) f = row1 h f :=
    funext fun j => congrArg f (emb1 off h e inb j)
  rw [← hr]
  unfold lOwn
  simp only [Prog.lift, Prog.bind_op, Prog.bind_ret]
  iintro ⟨H, Hk⟩
  iapply (wp_load_rect 𝒱₀ (c : Thread nD τ) none Set.univ (m := lM) (r := Rect.unit (s := S16x1024x1) off S1x1024x1.size inb)
    (((View.set_slice_whole ..).trans (set1 off h e inb)).subset)) $$ H
  iexact Hk
theorem store_o {α : Type} (Φ : α → sProp 𝕄) (inb : ∀ a, off a + S1x1024x128.size a ≤ S16x1024x128.size a) (hx hm) (f : S16x1024x128.Idx → Elt F .f32) (w : Vec F S1x1024x128 .f32)
    (k : PUnit → Prog (TpuEff nD τ sig (Elt F) Λ₀ .tc) α) :
    iprop(oOwn c (rowS r128 h) f ∗ (oOwn c (rowS r128 h) (spread128 w) -∗ Wp c (k ⟨⟩) Φ))
      ⊢ Wp c (Prog.lift (.store oM (Rect.unit (s := S16x1024x128) off S1x1024x128.size inb) w Finset.univ hx hm) >>= k) Φ := by
  have hs : (oM.access (Rect.unit (s := S16x1024x128) off S1x1024x128.size inb)).set = rowS r128 h :=
    (View.set_slice_whole ..).trans (set128 off h e inb)
  have hw : ∀ x ∈ rowS r128 h, (oM.access (Rect.unit (s := S16x1024x128) off S1x1024x128.size inb)).write (Elt F) f w Finset.univ x = spread128 w x := fun x hx => by
    obtain ⟨j, -, rfl⟩ := Finset.mem_map.mp ((Finset.ext_iff.mp hs x).mpr hx)
    refine (View.write_emb_of_mem _ _ (Finset.mem_univ j)).trans ?_
    show w j = spread128 w ((Rect.unit (s := S16x1024x128) off S1x1024x128.size inb).emb j)
    rw [emb128 off h e inb j]
    exact (congrArg w (lead128 j)).symm
  have he : ((oM.access (Rect.unit (s := S16x1024x128) off S1x1024x128.size inb)).loc (c : Thread nD τ) ↦[rowS r128 h]{fullShare}
      ((oM.access (Rect.unit (s := S16x1024x128) off S1x1024x128.size inb)).write (Elt F) f w Finset.univ) : sProp 𝕄) ⊢ oOwn c (rowS r128 h) (spread128 w) :=
    Entails.of_eq (pointsTo_congr hw)
  unfold oOwn at he ⊢
  simp only [Prog.lift, Prog.bind_op, Prog.bind_ret]
  iintro ⟨H, Hk⟩
  iapply (wp_store 𝒱₀ (c : Thread nD τ) none Set.univ (m := oM) (r := Rect.unit (s := S16x1024x128) off S1x1024x128.size inb) (f := f) (S := rowS r128 h)
    (by rw [View.setOn_univ, hs])) $$ H
  iintro H
  iapply Hk
  iapply he $$ H
theorem store_l {α : Type} (Φ : α → sProp 𝕄) (inb : ∀ a, off a + S1x1024x1.size a ≤ S16x1024x1.size a) (hx hm) (f : S16x1024x1.Idx → Elt F .f32) (w : Vec F S1x1024x1 .f32)
    (k : PUnit → Prog (TpuEff nD τ sig (Elt F) Λ₀ .tc) α) :
    iprop(lOwn c (rowS r1 h) f ∗ (lOwn c (rowS r1 h) (spread1 w) -∗ Wp c (k ⟨⟩) Φ))
      ⊢ Wp c (Prog.lift (.store lM (Rect.unit (s := S16x1024x1) off S1x1024x1.size inb) w Finset.univ hx hm) >>= k) Φ := by
  have hs : (lM.access (Rect.unit (s := S16x1024x1) off S1x1024x1.size inb)).set = rowS r1 h :=
    (View.set_slice_whole ..).trans (set1 off h e inb)
  have hw : ∀ x ∈ rowS r1 h, (lM.access (Rect.unit (s := S16x1024x1) off S1x1024x1.size inb)).write (Elt F) f w Finset.univ x = spread1 w x := fun x hx => by
    obtain ⟨j, -, rfl⟩ := Finset.mem_map.mp ((Finset.ext_iff.mp hs x).mpr hx)
    refine (View.write_emb_of_mem _ _ (Finset.mem_univ j)).trans ?_
    show w j = spread1 w ((Rect.unit (s := S16x1024x1) off S1x1024x1.size inb).emb j)
    rw [emb1 off h e inb j]
    exact (congrArg w (lead1 j)).symm
  have he : ((lM.access (Rect.unit (s := S16x1024x1) off S1x1024x1.size inb)).loc (c : Thread nD τ) ↦[rowS r1 h]{fullShare}
      ((lM.access (Rect.unit (s := S16x1024x1) off S1x1024x1.size inb)).write (Elt F) f w Finset.univ) : sProp 𝕄) ⊢ lOwn c (rowS r1 h) (spread1 w) :=
    Entails.of_eq (pointsTo_congr hw)
  unfold lOwn at he ⊢
  simp only [Prog.lift, Prog.bind_op, Prog.bind_ret]
  iintro ⟨H, Hk⟩
  iapply (wp_store 𝒱₀ (c : Thread nD τ) none Set.univ (m := lM) (r := Rect.unit (s := S16x1024x1) off S1x1024x1.size inb) (f := f) (S := rowS r1 h)
    (by rw [View.setOn_univ, hs])) $$ H
  iintro H
  iapply Hk
  iapply he $$ H
end

/-- The loop's trip, as one of the quarter's two heads. -/
def ti (t : Fin k0_t1_loop.trips) : Fin 2 := ⟨t.val, trip_lt t⟩

abbrev obRect (s : Fin 2) (u : Fin 4) (kv : Fin 2) (t : Fin k0_t1_loop.trips) : Rect S2x4x2x2x1024x128 :=
  Rect.unit (s := S2x4x2x2x1024x128) (ob s u kv t) S1x1x1x1x1024x128.size (ob_inb s u kv t)

theorem ob_emb (s : Fin 2) (u : Fin 4) (kv : Fin 2) (t : Fin k0_t1_loop.trips) (j : S1x1x1x1x1024x128.Idx) :
    (obRect s u kv t).emb j = ValueIdx.ix6 s u kv (ti t) (j 4) (j 5) := by
  have h0 : (j 0).val = 0 := congrArg Fin.val (Fin.eq_zero (j 0))
  have h1 : (j 1).val = 0 := congrArg Fin.val (Fin.eq_zero (j 1))
  have h2 : (j 2).val = 0 := congrArg Fin.val (Fin.eq_zero (j 2))
  have h3 : (j 3).val = 0 := congrArg Fin.val (Fin.eq_zero (j 3))
  have e := ob_eq s u kv t
  funext a
  match a with
  | ⟨0, _⟩ => exact Fin.ext (by show ob s u kv t 0 + 1 * (j 0).val = s.val; rw [e]; show s.val + _ = _; omega)
  | ⟨1, _⟩ => exact Fin.ext (by show ob s u kv t 1 + 1 * (j 1).val = u.val; rw [e]; show u.val + _ = _; omega)
  | ⟨2, _⟩ => exact Fin.ext (by show ob s u kv t 2 + 1 * (j 2).val = kv.val; rw [e]; show kv.val + _ = _; omega)
  | ⟨3, _⟩ => exact Fin.ext (by show ob s u kv t 3 + 1 * (j 3).val = t.val; rw [e]; show t.val + _ = _; omega)
  | ⟨4, _⟩ => exact Fin.ext (by show ob s u kv t 4 + 1 * (j 4).val = (j 4).val; rw [e]; show 0 + _ = _; omega)
  | ⟨5, _⟩ => exact Fin.ext (by show ob s u kv t 5 + 1 * (j 5).val = (j 5).val; rw [e]; show 0 + _ = _; omega)

theorem ob_read (d : Dir) (b : Blk F) (s : Fin 2) (u : Fin 4) (kv : Fin 2) (t : Fin k0_t1_loop.trips) :
    (fun j => filled d b ((obRect s u kv t).emb j)) = rowB (hd d u (ti t)) (b kv) := by
  funext j
  rw [ob_emb]; rfl
theorem ob_sub (s : Fin 2) (u : Fin 4) (kv : Fin 2) (t : Fin k0_t1_loop.trips) : (obRect s u kv t).set ⊆ subS s u := fun x hx => by
  rw [Rect.mem_set_unit] at hx
  have a0 := hx 0
  have a1 := hx 1
  rw [ob_eq] at a0 a1
  have t1 : s.val ≤ (x 0).val := a0.1
  have t2 : (x 0).val < s.val + 1 := a0.2
  have t3 : u.val ≤ (x 1).val := a1.1
  have t4 : (x 1).val < u.val + 1 := a1.2
  rw [subS, Finset.mem_filter, Fin.ext_iff (a := c0 x), Fin.ext_iff (a := c1 x)]
  have e0 : (c0 x).val = (x 0).val := rfl
  have e1 : (c1 x).val = (x 1).val := rfl
  rw [e0, e1]
  exact ⟨Finset.mem_univ _, by omega, by omega⟩

theorem load_core {α : Type} (Φ : α → sProp 𝕄) (m : Memref sig .tc .vmem S2x4x2x2x1024x128 .bf16) (r : Rect S2x4x2x2x1024x128) (hl : m.view.LoadsAt r.toLoadRect)
    (S : Finset (Idx ((m.access r).loc (c : Thread nD τ)))) (hS : (m.access r).set ⊆ S) (q : PosShare TreeShare) (f : Buf (Elt F) ((m.access r).loc (c : Thread nD τ)))
    (k : (r.shape.Idx → Elt F .bf16) → Prog (TpuEff nD τ sig (Elt F) Λ₀ .tc) α) :
    iprop(((m.access r).loc (c : Thread nD τ) ↦[S]{q} f) ∗ (((m.access r).loc (c : Thread nD τ) ↦[S]{q} f) -∗ Wp c (k ((m.access r).read (Elt F) f)) Φ))
      ⊢ Wp c (Prog.lift (.load m r.toLoadRect hl) >>= k) Φ := by
  simp only [Prog.lift, Prog.bind_op, Prog.bind_ret]
  iintro ⟨H, Hk⟩
  iapply (wp_load_rect 𝒱₀ (c : Thread nD τ) none Set.univ (m := m) (r := r) hS) $$ H
  iexact Hk

theorem load_b {α : Type} (Φ : α → sProp 𝕄) (d : Dir) (s : Fin 2) (u : Fin 4) (kv : Fin 2) (t : Fin k0_t1_loop.trips) (S : Finset S6.Idx) (hS : subS s u ⊆ S) (q : PosShare TreeShare) (b : Blk F)
    (k : Vec F S1x1x1x1x1024x128 .bf16 → Prog (TpuEff nD τ sig (Elt F) Λ₀ .tc) α) :
    iprop(own d c S q (filled d b) ∗ (own d c S q (filled d b) -∗ Wp c (k (rowB (hd d u (ti t)) (b kv))) Φ)) ⊢ Wp c (ldB d s u kv t >>= k) Φ := by
  rw [← ob_read d b s u kv t]
  unfold ldB
  cases d
  · exact load_core c Φ (bufM .cw) (obRect s u kv t) _ S (((View.set_slice_whole ..).trans_subset (ob_sub s u kv t)).trans hS) q (filled .cw b) k
  · exact load_core c Φ (bufM .ccw) (obRect s u kv t) _ S (((View.set_slice_whole ..).trans_subset (ob_sub s u kv t)).trans hS) q (filled .ccw b) k

/-! ## What a head has added up -/

section
variable (q : S16x1024x128.Idx → Elt F .f32) (bs : ℕ → Blk F) (h : Fin 16)
/-- The weighted values of the first n + 1 blocks. -/
def accO : ℕ → Vec F S1x1024x128 .f32
  | 0 => k0_pay75 (row128 h q) (rowB h (bs 0 0)) (rowB h (bs 0 1))
  | n + 1 => k0_pay3 (row128 h q) (rowB h (bs (n + 1) 0)) (rowB h (bs (n + 1) 1)) (accO n)
/-- The weights'. -/
def accL : ℕ → Vec F S1x1024x1 .f32
  | 0 => k0_pay76 (row128 h q) (rowB h (bs 0 0))
  | n + 1 => k0_pay98 (k0_pay4 (row128 h q) (rowB h (bs (n + 1) 0)) (accL n))

/-- A head's two rows hold these. -/
def St (w : Vec F S1x1024x128 .f32) (v : Vec F S1x1024x1 .f32) : sProp 𝕄 :=
  iprop(oOwn c (rowS r128 h) (spread128 w) ∗ lOwn c (rowS r1 h) (spread1 v))
/-- A head's two rows hold something. -/
def Any : sProp 𝕄 := iprop((∃ f, oOwn (F := F) c (rowS r128 h) f) ∗ ∃ f, lOwn (F := F) c (rowS r1 h) f)
end

theorem row_spread128 {A : Type} (h : Fin 16) (w : S1x1024x128.Idx → A) : row128 h (spread128 w) = w := funext fun j => congrArg w (lead128 j)
theorem row_spread1 {A : Type} (h : Fin 16) (w : S1x1024x1.Idx → A) : row1 h (spread1 w) = w := funext fun j => congrArg w (lead1 j)

theorem oq_hd (d : Dir) (u : Fin 4) (t : Fin k0_t1_loop.trips) : oq d u t = ![(hd d u (ti t)).val, 0, 0] := oq_eq d u t

theorem headF_tr (K : sProp 𝕄) (qf : S16x1024x128.Idx → Elt F .f32) (bs : ℕ → Blk F) (d : Dir) (s : Fin 2) (u : Fin 4) (S : Finset S6.Idx) (hS : subS s u ⊆ S) (q : PosShare TreeShare) (t : Fin k0_t1_loop.trips) :
    Tr c K iprop(Any (F := F) c (hd d u (ti t)) ∗ qOwn c qf ∗ own d c S q (filled d (bs 0)))
      iprop(St c (hd d u (ti t)) (accO qf bs (hd d u (ti t)) 0) (accL qf bs (hd d u (ti t)) 0) ∗ qOwn c qf ∗ own d c S q (filled d (bs 0))) (headF d s u t) := by
  constructor; intro α k Φ
  unfold headF Any
  simp only [bind_assoc, pure_bind]
  iintro ⟨-, ⟨⟨⟨%fo, Ho⟩, ⟨%fl, Hl⟩⟩, Hq, Hb⟩, Hk⟩
  iapply (load_q c (oq d u t) (hd d u (ti t)) (oq_hd d u t) Φ (oq_inb d u t) _ qf _)
  isplitl [Hq]; · iexact Hq
  iintro Hq
  iapply (load_b c Φ d s u 0 t S hS q (bs 0) _)
  isplitl [Hb]; · iexact Hb
  iintro Hb
  iapply (load_b c Φ d s u 1 t S hS q (bs 0) _)
  isplitl [Hb]; · iexact Hb
  iintro Hb
  iapply (load_o c (oq d u t) (hd d u (ti t)) (oq_hd d u t) Φ (oq_inb d u t) _ fo _)
  isplitl [Ho]; · iexact Ho
  iintro Ho
  iapply (store_o c (oq d u t) (hd d u (ti t)) (oq_hd d u t) Φ (oq_inb d u t) _ _ fo _ _)
  isplitl [Ho]; · iexact Ho
  iintro Ho
  iapply (load_l c (oq d u t) (hd d u (ti t)) (oq_hd d u t) Φ (ol_inb d u t) _ fl _)
  isplitl [Hl]; · iexact Hl
  iintro Hl
  iapply (store_l c (oq d u t) (hd d u (ti t)) (oq_hd d u t) Φ (ol_inb d u t) _ _ fl _ _)
  isplitl [Hl]; · iexact Hl
  iintro Hl
  iapply Hk
  isplitl [Ho Hl]
  · unfold St accO accL
    isplitl [Ho] <;> iassumption
  isplitl [Hq] <;> iassumption

theorem headA_tr (K : sProp 𝕄) (qf : S16x1024x128.Idx → Elt F .f32) (bs : ℕ → Blk F) (d : Dir) (s : Fin 2) (u : Fin 4) (S : Finset S6.Idx) (hS : subS s u ⊆ S) (q : PosShare TreeShare) (n : ℕ) (t : Fin k0_t1_loop.trips) :
    Tr c K iprop(St c (hd d u (ti t)) (accO qf bs (hd d u (ti t)) n) (accL qf bs (hd d u (ti t)) n) ∗ qOwn c qf ∗ own d c S q (filled d (bs (n + 1))))
      iprop(St c (hd d u (ti t)) (accO qf bs (hd d u (ti t)) (n + 1)) (accL qf bs (hd d u (ti t)) (n + 1)) ∗ qOwn c qf ∗ own d c S q (filled d (bs (n + 1)))) (headA d s u t) := by
  constructor; intro α k Φ
  unfold headA St
  simp only [bind_assoc, pure_bind]
  iintro ⟨-, ⟨⟨Ho, Hl⟩, Hq, Hb⟩, Hk⟩
  iapply (load_q c (oq d u t) (hd d u (ti t)) (oq_hd d u t) Φ (oq_inb d u t) _ qf _)
  isplitl [Hq]; · iexact Hq
  iintro Hq
  iapply (load_b c Φ d s u 0 t S hS q (bs (n + 1)) _)
  isplitl [Hb]; · iexact Hb
  iintro Hb
  iapply (load_b c Φ d s u 1 t S hS q (bs (n + 1)) _)
  isplitl [Hb]; · iexact Hb
  iintro Hb
  iapply (load_o c (oq d u t) (hd d u (ti t)) (oq_hd d u t) Φ (oq_inb d u t) _ _ _)
  isplitl [Ho]; · iexact Ho
  iintro Ho
  iapply (load_o c (oq d u t) (hd d u (ti t)) (oq_hd d u t) Φ (oq_inb d u t) _ _ _)
  isplitl [Ho]; · iexact Ho
  iintro Ho
  rw [row_spread128]
  iapply (store_o c (oq d u t) (hd d u (ti t)) (oq_hd d u t) Φ (oq_inb d u t) _ _ _ _ _)
  isplitl [Ho]; · iexact Ho
  iintro Ho
  iapply (load_l c (oq d u t) (hd d u (ti t)) (oq_hd d u t) Φ (ol_inb d u t) _ _ _)
  isplitl [Hl]; · iexact Hl
  iintro Hl
  iapply (load_l c (oq d u t) (hd d u (ti t)) (oq_hd d u t) Φ (ol_inb d u t) _ _ _)
  isplitl [Hl]; · iexact Hl
  iintro Hl
  rw [row_spread1]
  iapply (store_l c (oq d u t) (hd d u (ti t)) (oq_hd d u t) Φ (ol_inb d u t) _ _ _ _ _)
  isplitl [Hl]; · iexact Hl
  iintro Hl
  iapply Hk
  isplitl [Ho Hl]
  · isplitl [Ho]; · iexact Ho
    iexact Hl
  isplitl [Hq] <;> iassumption

/-- The loop's two trips. -/
theorem loop_tr (K : sProp 𝕄) [BI.Persistent K] (A B : Fin 2 → sProp 𝕄) (E : sProp 𝕄) (body : Fin k0_t1_loop.trips → Pg F)
    (h : ∀ t, Tr c K iprop(A (ti t) ∗ E) iprop(B (ti t) ∗ E) (body t)) :
    Tr c K iprop((A 0 ∗ A 1) ∗ E) iprop((B 0 ∗ B 1) ∗ E) (Scf.Loop.for k0_t1_loop k0_t1_ok ⟨⟩ fun t _ => body t) := by
  have e : List.finRange k0_t1_loop.trips = [⟨0, by decide⟩, ⟨1, by decide⟩] := by decide
  have hh := Trs.two ((h ⟨0, by decide⟩).one) ((h ⟨1, by decide⟩).one)
  constructor; intro α k Φ
  have := hh.run (k ⟨⟩) Φ
  simp only [List.cons_append, List.nil_append, seqs] at this
  show _ ⊢ Wp c (Scf.for k0_t1_loop.lb k0_t1_loop.ub k0_t1_loop.st k0_t1_ok PUnit.unit (fun t _ => body t) >>= k) Φ
  rw [Scf.for_eq, e]
  simp only [Scf.forFrom_cons, Scf.forFrom_nil, bind_assoc, Prog.bind_ret]
  rw [sepA (A 0), sepA (B 0)]
  exact this

/-- A quarter's two heads. -/
def St2 (d : Dir) (u : Fin 4) (qf : S16x1024x128.Idx → Elt F .f32) (bs : ℕ → Blk F) (n : ℕ) : sProp 𝕄 :=
  iprop(St c (hd d u 0) (accO qf bs (hd d u 0) n) (accL qf bs (hd d u 0) n) ∗ St c (hd d u 1) (accO qf bs (hd d u 1) n) (accL qf bs (hd d u 1) n))
def Any2 (d : Dir) (u : Fin 4) : sProp 𝕄 := iprop(Any (F := F) c (hd d u 0) ∗ Any (F := F) c (hd d u 1))

theorem compF_tr (K : sProp 𝕄) [BI.Persistent K] (qf : S16x1024x128.Idx → Elt F .f32) (bs : ℕ → Blk F) (d : Dir) (s : Fin 2) (u : Fin 4) (S : Finset S6.Idx) (hS : subS s u ⊆ S)
    (q : PosShare TreeShare) :
    Tr c K iprop(Any2 (F := F) c d u ∗ qOwn c qf ∗ own d c S q (filled d (bs 0))) iprop(St2 c d u qf bs 0 ∗ qOwn c qf ∗ own d c S q (filled d (bs 0))) (compF d s u) :=
  loop_tr c K (fun i => Any (F := F) c (hd d u i)) (fun i => St c (hd d u i) (accO qf bs (hd d u i) 0) (accL qf bs (hd d u i) 0)) _ (headF d s u)
    (headF_tr c K qf bs d s u S hS q)
theorem compA_tr (K : sProp 𝕄) [BI.Persistent K] (qf : S16x1024x128.Idx → Elt F .f32) (bs : ℕ → Blk F) (d : Dir) (s : Fin 2) (u : Fin 4) (S : Finset S6.Idx) (hS : subS s u ⊆ S)
    (q : PosShare TreeShare) (n : ℕ) :
    Tr c K iprop(St2 c d u qf bs n ∗ qOwn c qf ∗ own d c S q (filled d (bs (n + 1)))) iprop(St2 c d u qf bs (n + 1) ∗ qOwn c qf ∗ own d c S q (filled d (bs (n + 1)))) (compA d s u) :=
  loop_tr c K (fun i => St c (hd d u i) (accO qf bs (hd d u i) n) (accL qf bs (hd d u i) n)) (fun i => St c (hd d u i) (accO qf bs (hd d u i) (n + 1)) (accL qf bs (hd d u i) (n + 1))) _ (headA d s u)
    (headA_tr c K qf bs d s u S hS q n)

/-! ## The division -/

theorem off129 (t : Fin k0_t33_loop.trips) (h : t.val < 16) : k0_off129 t = ![(⟨t.val, h⟩ : Fin 16).val, 0, 0] := by revert t h; decide
theorem off130 (t : Fin k0_t33_loop.trips) (h : t.val < 16) : k0_off130 t = ![(⟨t.val, h⟩ : Fin 16).val, 0, 0] := by revert t h; decide
theorem trips16 : k0_t33_loop.trips = 16 := by decide

theorem pure_intro {α : Type} (a : α) (Q : α → sProp 𝕄) : Q a ⊢ Wp c (pure a) Q := by
  have h : Wp c (pure a) Q = iprop(|={Set.univ}=> Q a) := wp_ret ..
  rw [h]
  iintro H
  imodintro
  iexact H

theorem norm_tr (O : Fin 16 → Vec F S1x1024x128 .f32) (L' : Fin 16 → Vec F S1x1024x1 .f32) (Φ : PUnit → sProp 𝕄) :
    iprop((bigSep Finset.univ fun h => St c h (O h) (L' h)) ∗ ((bigSep Finset.univ fun h => St c h (k0_pay1 (O h) (L' h)) (L' h)) -∗ Wp c (F := F) (pure ⟨⟩) Φ)) ⊢ Wp c norm Φ := by
  classical
  let I : ℕ → PUnit → sProp 𝕄 := fun n _ => bigSep Finset.univ fun h : Fin 16 => if h.val < n then St c h (k0_pay1 (O h) (L' h)) (L' h) else St c h (O h) (L' h)
  have hI : ∀ (t : Fin k0_t33_loop.trips) (acc : PUnit), I t.val acc ⊢ wp frame (wpE (defs₀ (F := F)) 𝒱₀ (c : Thread nD τ) none) Set.univ (headN t) (I (t.val + 1)) := fun t acc => by
    have hh : t.val < 16 := t.isLt.trans_eq trips16
    have e0 : I t.val acc = iprop(St c ⟨t.val, hh⟩ (O ⟨t.val, hh⟩) (L' ⟨t.val, hh⟩) ∗ bigSep (Finset.univ.erase (⟨t.val, hh⟩ : Fin 16)) fun h : Fin 16 =>
        if h.val < t.val then St c h (k0_pay1 (O h) (L' h)) (L' h) else St c h (O h) (L' h)) := by
      show bigSep _ _ = _
      rw [bigSep_erase (Finset.mem_univ (⟨t.val, hh⟩ : Fin 16)), if_neg (Nat.lt_irrefl _)]
      rfl
    have e1 : ∀ a, I (t.val + 1) a = iprop(St c ⟨t.val, hh⟩ (k0_pay1 (O ⟨t.val, hh⟩) (L' ⟨t.val, hh⟩)) (L' ⟨t.val, hh⟩) ∗ bigSep (Finset.univ.erase (⟨t.val, hh⟩ : Fin 16)) fun h : Fin 16 =>
        if h.val < t.val then St c h (k0_pay1 (O h) (L' h)) (L' h) else St c h (O h) (L' h)) := fun a => by
      show bigSep _ _ = _
      rw [bigSep_erase (Finset.mem_univ (⟨t.val, hh⟩ : Fin 16)), if_pos (Nat.lt_succ_self _)]
      refine congrArg (fun X => iprop(_ ∗ X)) (bigSep_congr fun h hm => ?_)
      have hne : h.val ≠ t.val := fun e => (Finset.mem_erase.mp hm).1 (Fin.ext e)
      by_cases hlt : h.val < t.val
      · rw [if_pos hlt, if_pos (by omega)]
      · rw [if_neg hlt, if_neg (by omega)]
    rw [e0, show I (t.val + 1) = _ from funext e1]
    unfold headN St
    iintro ⟨⟨Ho, Hl⟩, HR⟩
    iapply (load_o c (k0_off129 t) ⟨t.val, hh⟩ (off129 t hh) _ (k0_off129_inb t) _ _ _)
    isplitl [Ho]; · iexact Ho
    iintro Ho
    iapply (load_l c (k0_off130 t) ⟨t.val, hh⟩ (off130 t hh) _ (k0_off130_inb t) _ _ _)
    isplitl [Hl]; · iexact Hl
    iintro Hl
    iapply (load_o c (k0_off129 t) ⟨t.val, hh⟩ (off129 t hh) _ (k0_off129_inb t) _ _ _)
    isplitl [Ho]; · iexact Ho
    iintro Ho
    rw [row_spread128, row_spread1]
    iapply (store_o c (k0_off129 t) ⟨t.val, hh⟩ (off129 t hh) _ (k0_off129_inb t) _ _ _ _ _)
    isplitl [Ho]; · iexact Ho
    iintro Ho
    iapply (pure_intro c _ _)
    isplitr [HR]
    · isplitl [Ho] <;> iassumption
    iexact HR
  have h0 : I 0 ⟨⟩ = bigSep Finset.univ fun h => St c h (O h) (L' h) := bigSep_congr fun h _ => if_neg (Nat.not_lt_zero _)
  have h16 : ∀ a, I k0_t33_loop.trips a = bigSep Finset.univ fun h => St c h (k0_pay1 (O h) (L' h)) (L' h) := fun a => bigSep_congr fun h _ => if_pos (h.isLt.trans_eq trips16.symm)
  unfold norm
  rw [← h0]
  iintro ⟨H, Hk⟩
  iapply (Scf.wp_for_bind frame (wpE (defs₀ (F := F)) 𝒱₀ (c : Thread nD τ) none) Set.univ _ _ _ k0_t33_ok ⟨⟩ (fun t _ => headN t) I hI) $$ H
  iintro %a H
  iapply Hk
  iapply (Entails.of_eq (h16 a)) $$ H

end Cert.KernelIdeal.Att

end
-- ==== Proof.Stages.lean ====
/-
  The body's stages, one direction at a time: what each takes and what it leaves.
-/
module

public import proofs.«01_k».proof.Proof.Comp

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

/-- Both directions' steps. -/
theorem Tr.pair {c : Dev nD} {K : sProp 𝕄} [BI.Persistent K] {A B A' B' E₀ E₁ E₂ : sProp 𝕄} {p q : Pg F} (h : Tr c K iprop(A ∗ E₀) iprop(A' ∗ E₁) p)
    (h' : Tr c K iprop(B ∗ E₁) iprop(B' ∗ E₂) q) {α : Type} (k : Prog (TpuEff nD τ sig (Elt F) Λ₀ .tc) α) (Φ : α → sProp 𝕄) :
    iprop(K ∗ (A ∗ B ∗ E₀) ∗ ((A' ∗ B' ∗ E₂) -∗ Wp c k Φ)) ⊢ Wp c (p >>= fun _ => q >>= fun _ => k) Φ :=
  (Trs.two h.one h'.one).run k Φ

theorem Tr.conseq {c : Dev nD} {K : sProp 𝕄} [BI.Persistent K] {P P' Q Q' : sProp 𝕄} {p : Pg F} (h : Tr c K P Q p) (hP : iprop(K ∗ P') ⊢ (|={Set.univ}=> P : sProp 𝕄))
    (hQ : iprop(K ∗ Q) ⊢ (|={Set.univ}=> Q' : sProp 𝕄)) : Tr c K P' Q' p :=
  ⟨fun k Φ => by
    iintro ⟨#HK, HP, Hk⟩
    iapply (fupd_wp _ _ _ _)
    imod hP $$ [HP] with HP
    · isplitr; · iexact HK
      iexact HP
    imodintro
    iapply (h.run k Φ)
    isplitr; · iexact HK
    isplitl [HP]; · iexact HP
    iintro HQ
    iapply (fupd_wp _ _ _ _)
    imod hQ $$ [HQ] with HQ
    · isplitr; · iexact HK
      iexact HQ
    imodintro
    iapply Hk $$ HQ⟩
theorem Tr.eqs {c : Dev nD} {K : sProp 𝕄} [BI.Persistent K] {P P' Q Q' : sProp 𝕄} {p : Pg F} (h : Tr c K P Q p) (hP : P' ⊢ P) (hQ : Q ⊢ Q') : Tr c K P' Q' p :=
  h.conseq (by iintro ⟨-, H⟩; imodintro; iapply hP $$ H) (by iintro ⟨-, H⟩; imodintro; iapply hQ $$ H)
theorem Tr.frame {c : Dev nD} {K : sProp 𝕄} [BI.Persistent K] {P Q : sProp 𝕄} {p : Pg F} (X : sProp 𝕄) (h : Tr c K P Q p) : Tr c K iprop(P ∗ X) iprop(Q ∗ X) p :=
  ⟨fun k Φ => by
    iintro ⟨HK, ⟨HP, HX⟩, Hk⟩
    iapply (h.run k Φ)
    isplitl [HK]; · iexact HK
    isplitl [HP]; · iexact HP
    iintro HQ
    iapply Hk
    isplitl [HQ] <;> iassumption⟩
theorem Tr.weaken {c : Dev nD} {K : sProp 𝕄} [BI.Persistent K] {K' P Q : sProp 𝕄} {p : Pg F} (h : Tr c K' P Q p) (hK : K ⊢ K') : Tr c K P Q p :=
  ⟨fun k Φ => by
    iintro ⟨HK, HP, Hk⟩
    iapply (h.run k Φ)
    isplitl [HK]; · iapply hK $$ HK
    isplitl [HP] <;> iassumption⟩

/-- A quarter's four pieces, one after the other, for every quarter. -/
theorem Trs.quads {c : Dev nD} {K : sProp 𝕄} [BI.Persistent K] {A B : Dir → Fin 4 → Fin 2 → sProp 𝕄} {E : sProp 𝕄} {f : Dir → Fin 4 → Fin 2 → Pg F}
    (h : ∀ d u kv, Tr c K iprop(A d u kv ∗ E) iprop(B d u kv ∗ E) (f d u kv)) :
    Trs c K iprop((four fun u => iprop((A .cw u 0 ∗ A .cw u 1) ∗ (A .ccw u 0 ∗ A .ccw u 1))) ∗ E)
      iprop((four fun u => iprop((B .cw u 0 ∗ B .cw u 1) ∗ (B .ccw u 0 ∗ B .ccw u 1))) ∗ E) (quads f) :=
  Trs.fours (E := fun _ => E) fun u => by
    have r {A B C : sProp 𝕄} : iprop((A ∗ B) ∗ C) ⊢ iprop(A ∗ B ∗ C) := sep_assoc
    have r' {A B C : sProp 𝕄} : iprop(A ∗ B ∗ C) ⊢ iprop((A ∗ B) ∗ C) := sep_assoc'
    have h2 (d : Dir) := (Trs.two (h d u 0).one (h d u 1).one).eqs r r'
    exact (Trs.two (h2 .cw) (h2 .ccw)).eqs r r'

variable (kvf : Dev nD → Blk F) (κ : GSem nD τ sig → ℕ) (ιs : Key → ℕ) (c : Dev nD) (d : Dir)

abbrev Kx : sProp 𝕄 := Ctx' kvf κ ιs c
theorem Kx_ctx : Kx kvf κ ιs c ⊢ Ctx kvf κ ιs c := by iintro ⟨H, -⟩; iexact H
theorem Kx_rec : Kx kvf κ ιs c ⊢ Rec kvf κ ιs := by iintro ⟨⟨H, -⟩, -⟩; iexact H

abbrev writeT (s : Fin 2) : sProp 𝕄 := Release.writeTok (ES (F := F)) (nx d c, d, s) 1
abbrev readT (s : Fin 2) : sProp 𝕄 := Release.readerAt (ES (F := F)) (c, d, s) 0

/-- Half the slot goes out, the other stays. -/
theorem sendS_tr (h : Fin 2) (l : List Pay) :
    Tr c (Kx kvf κ ιs c) iprop((own d c (slotS h) fullShare (filled d (blk kvf d h.val c)) ∗ ownAny d (nx d c) (slotS (oth h)) ∗ tok c (.send d h) 0 ∗ tok (nx d c) (.recv d h) 0)
        ∗ Owe c (.recv d h :: l))
      iprop((own d c (slotS h) fullShare.left (filled d (blk kvf d h.val c)) ∗ crd c (.send d h) 0 nSlot) ∗ Owe c l) (send d h (nx d c)) :=
  ((send_tr kvf κ ιs c d h l).frame (own d c (slotS h) fullShare.left (filled d (blk kvf d h.val c)))).eqs
    (by
      rw [own_halves d c (slotS h)]
      iintro ⟨⟨⟨Hl, Hr⟩, Hn, Ht, Ht'⟩, HO⟩
      isplitr [Hl]
      · isplitl [Hr]; · iexact Hr
        isplitl [Hn]; · iexact Hn
        isplitl [Ht]; · iexact Ht
        isplitl [Ht']; · iexact Ht'
        iexact HO
      iexact Hl)
    (by
      iintro ⟨⟨Hc, HO⟩, Hl⟩
      isplitr [HO]
      · isplitl [Hl]; · iexact Hl
        iexact Hc
      iexact HO)

/-- The slot is back and is handed to the device before. -/
theorem backS_tr (h : Fin 2) (l : List Pay) (hl : ∀ p ∈ l, 0 < p.lvl) :
    Tr c (Kx kvf κ ιs c) iprop((own d c (slotS h) fullShare.left (filled d (blk kvf d h.val c)) ∗ crd c (.send d h) 0 nSlot ∗ pos c (.send d h) ∗ readT (F := F) c d h) ∗ Owe c l)
      iprop((rel c d h ∗ done c (.send d h)) ∗ Owe c l) (sendWait d h) := by
  have hg := give kvf κ ιs c d h
  refine (((sendWait_tr kvf κ ιs c d h l hl).weaken (Kx_ctx kvf κ ιs c)).frame
    (iprop(own d c (slotS h) fullShare.left (filled d (blk kvf d h.val c)) ∗ readT (F := F) c d h))).conseq ?_ ?_
  · iintro ⟨-, ⟨Hl, Hc, Hp, Hr⟩, HO⟩
    imodintro
    isplitr [Hl Hr]
    · isplitl [Hc]; · iexact Hc
      isplitl [Hp]; · iexact Hp
      iexact HO
    isplitl [Hl]; · iexact Hl
    iexact Hr
  · iintro ⟨⟨⟨HR, -⟩, -⟩, ⟨Hs, Hd, HO⟩, Hl, Hr⟩
    imod hg $$ [HR Hs Hl Hr] with H
    · isplitl [HR]; · iexact HR
      isplitl [Hr]; · iexact Hr
      unfold ownAny
      iexists _
      iapply (Entails.of_eq (own_halves d c (slotS h) (filled d (blk kvf d h.val c))).symm)
      isplitl [Hl]; · iexact Hl
      iexact Hs
    imodintro
    isplitr [HO]
    · isplitl [H]; · iexact H
      iexact Hd
    iexact HO

theorem cred0_tr (l : List Pay) :
    Tr c (Kx kvf κ ιs c) iprop((rel c d 0 ∗ tok (pv d c) (.credit d) 0) ∗ Owe c (.credit d 0 :: l)) iprop(rel c d 0 ∗ Owe c l) (credSig d (pv d c)) := by
  refine ((credSig_tr kvf κ ιs c d 0 l).frame (rel c d 0)).eqs ?_ ?_
  · iintro ⟨⟨#Hr, Ht⟩, HO⟩
    isplitl
    · isplitr; · unfold credPay; iexact Hr
      isplitl [Ht]; · iexact Ht
      iexact HO
    iexact Hr
  · iintro ⟨HO, Hr⟩
    isplitl [Hr]; · iexact Hr
    iexact HO
theorem cred1_tr (l : List Pay) :
    Tr c (Kx kvf κ ιs c) iprop((rel c d 0 ∗ rel c d 1 ∗ tok (pv d c) (.credit d) 1) ∗ Owe c (.credit d 1 :: l)) iprop(emp ∗ Owe c l) (credSig d (pv d c)) := by
  refine (credSig_tr kvf κ ιs c d 1 l).eqs ?_ ?_
  · iintro ⟨⟨Hr, Hr', Ht⟩, HO⟩
    isplitl [Hr Hr']
    · unfold credPay
      isplitl [Hr]; · iexact Hr
      iexact Hr'
    isplitl [Ht]; · iexact Ht
    iexact HO
  · iintro HO
    isplitr; · iempintro
    iexact HO

theorem recvS_tr (h : Fin 2) (l : List Pay) (hl : ∀ p ∈ l, 2 + 2 * h.val < p.lvl) :
    Tr c (Kx kvf κ ιs c) iprop((crd c (.recv d h) 0 nSlot ∗ pos c (.recv d h)) ∗ Owe c l)
      iprop((own d c (slotS (oth h)) fullShare (filled d (blk kvf d (h.val + 1) c)) ∗ done c (.recv d h)) ∗ Owe c l) (recvWait d h) :=
  ((recvWait_tr kvf κ ιs c d h l hl).weaken (Kx_ctx kvf κ ιs c)).eqs sep_assoc sep_assoc'

theorem got0_tr (l : List Pay) (hl : ∀ p ∈ l, 3 < p.lvl) :
    Tr c (Kx kvf κ ιs c) iprop((crd c (.credit d) 0 1 ∗ pos c (.credit d) ∗ writeT (F := F) c d 0) ∗ Owe c l)
      iprop((half (F := F) c d ∗ ownAny d (nx d c) (slotS 0)) ∗ Owe c l) (credWait d) := by
  have ht := take kvf κ ιs c d 0
  refine (((credWait0_tr kvf κ ιs c d l hl).weaken (Kx_ctx kvf κ ιs c)).frame (writeT (F := F) c d 0)).conseq ?_ ?_
  · iintro ⟨-, ⟨Hc, Hp, Hw⟩, HO⟩
    imodintro
    isplitr [Hw]
    · isplitl [Hc]; · iexact Hc
      isplitl [Hp]; · iexact Hp
      iexact HO
    iexact Hw
  · iintro ⟨⟨⟨HR, -⟩, -⟩, ⟨Hr, Hh, HO⟩, Hw⟩
    imod ht $$ [HR Hr Hw] with H
    · isplitl [HR]; · iexact HR
      isplitl [Hr]; · iexact Hr
      iexact Hw
    imodintro
    isplitr [HO]
    · isplitl [Hh]; · iexact Hh
      iexact H
    iexact HO
theorem got1_tr (l : List Pay) (hl : ∀ p ∈ l, 5 < p.lvl) :
    Tr c (Kx kvf κ ιs c) iprop((crd c (.credit d) 1 1 ∗ half (F := F) c d ∗ writeT (F := F) c d 1) ∗ Owe c l)
      iprop((ownAny d (nx d c) (slotS 1) ∗ done c (.credit d)) ∗ Owe c l) (credWait d) := by
  have ht := take kvf κ ιs c d 1
  refine (((credWait1_tr kvf κ ιs c d l hl).weaken (Kx_ctx kvf κ ιs c)).frame (writeT (F := F) c d 1)).conseq ?_ ?_
  · iintro ⟨-, ⟨Hc, Hp, Hw⟩, HO⟩
    imodintro
    isplitr [Hw]
    · isplitl [Hc]; · iexact Hc
      isplitl [Hp]; · iexact Hp
      iexact HO
    iexact Hw
  · iintro ⟨⟨⟨HR, -⟩, -⟩, ⟨Hr, Hd, HO⟩, Hw⟩
    imod ht $$ [HR Hr Hw] with H
    · isplitl [HR]; · iexact HR
      isplitl [Hr]; · iexact Hr
      iexact Hw
    imodintro
    isplitr [HO]
    · isplitl [H]; · iexact H
      iexact Hd
    iexact HO

/-! ## The quarters -/

theorem sendQ_trs :
    Trs c (Kx kvf κ ιs c)
      iprop((four fun u => iprop((fun d => iprop(own d c (subS 0 u) fullShare.right (filled d (blk kvf d 2 c)) ∗ ownAny d (nx d c) (subS 1 u) ∗ tok c (.send2 d u) 0 ∗ tok (nx d c) (.recv2 d u) 0)) Dir.cw
          ∗ (fun d => iprop(own d c (subS 0 u) fullShare.right (filled d (blk kvf d 2 c)) ∗ ownAny d (nx d c) (subS 1 u) ∗ tok c (.send2 d u) 0 ∗ tok (nx d c) (.recv2 d u) 0)) Dir.ccw)) ∗ Owe c pays8)
      iprop((four fun u => iprop(crd c (.send2 .cw u) 0 nSub ∗ crd c (.send2 .ccw u) 0 nSub)) ∗ Owe (F := F) c [])
      ((List.finRange 4).flatMap fun u => [send2 .cw u (nx .cw c), send2 .ccw u (nx .ccw c)]) := by
  have r {A B C : sProp 𝕄} : iprop((A ∗ B) ∗ C) ⊢ iprop(A ∗ B ∗ C) := sep_assoc
  have r' {A B C : sProp 𝕄} : iprop(A ∗ B ∗ C) ⊢ iprop((A ∗ B) ∗ C) := sep_assoc'
  have one (d : Dir) (u : Fin 4) (l : List Pay) : Tr c (Kx kvf κ ιs c)
      iprop((own d c (subS 0 u) fullShare.right (filled d (blk kvf d 2 c)) ∗ ownAny d (nx d c) (subS 1 u) ∗ tok c (.send2 d u) 0 ∗ tok (nx d c) (.recv2 d u) 0) ∗ Owe c (.recv2 d u :: l))
      iprop(crd c (.send2 d u) 0 nSub ∗ Owe c l) (send2 d u (nx d c)) :=
    (send2_tr kvf κ ιs c d u l).eqs (by simp only [sepA]; exact BI.Entails.refl _) (BI.Entails.refl _)
  refine Trs.fours (E := fun n => Owe (F := F) c (pays8.drop (2 * n))) fun u => ?_
  have e : pays8.drop (2 * u.val) = .recv2 .cw u :: .recv2 .ccw u :: pays8.drop (2 * (u.val + 1)) := by
    match u with
    | 0 => rfl
    | 1 => rfl
    | 2 => rfl
    | 3 => rfl
  rw [e]
  exact (Trs.two (one .cw u _).one (one .ccw u _).one).eqs r r'

theorem recvQ_trs (qf : S16x1024x128.Idx → Elt F .f32) :
    Trs c (Kx kvf κ ιs c)
      iprop((four fun u => iprop((fun d => iprop(St2 c d u qf (fun n => blk kvf d n c) 2 ∗ crd c (.recv2 d u) 0 nSub ∗ pos c (.recv2 d u))) Dir.cw
          ∗ (fun d => iprop(St2 c d u qf (fun n => blk kvf d n c) 2 ∗ crd c (.recv2 d u) 0 nSub ∗ pos c (.recv2 d u))) Dir.ccw)) ∗ qOwn c qf ∗ Owe c [])
      iprop((four fun u => iprop((fun d => iprop(St2 c d u qf (fun n => blk kvf d n c) 3 ∗ own d c (subS 1 u) fullShare (filled d (blk kvf d 3 c)) ∗ done c (.recv2 d u))) Dir.cw
          ∗ (fun d => iprop(St2 c d u qf (fun n => blk kvf d n c) 3 ∗ own d c (subS 1 u) fullShare (filled d (blk kvf d 3 c)) ∗ done c (.recv2 d u))) Dir.ccw)) ∗ qOwn c qf ∗ Owe c [])
      ((List.finRange 4).flatMap fun u => [recv2Wait .cw u, compA .cw 1 u, recv2Wait .ccw u, compA .ccw 1 u]) := by
  have r {A B C : sProp 𝕄} : iprop((A ∗ B) ∗ C) ⊢ iprop(A ∗ B ∗ C) := sep_assoc
  have r' {A B C : sProp 𝕄} : iprop(A ∗ B ∗ C) ⊢ iprop((A ∗ B) ∗ C) := sep_assoc'
  have one (d : Dir) (u : Fin 4) : Trs c (Kx kvf κ ιs c)
      iprop((St2 c d u qf (fun n => blk kvf d n c) 2 ∗ crd c (.recv2 d u) 0 nSub ∗ pos c (.recv2 d u)) ∗ qOwn c qf ∗ Owe c [])
      iprop((St2 c d u qf (fun n => blk kvf d n c) 3 ∗ own d c (subS 1 u) fullShare (filled d (blk kvf d 3 c)) ∗ done c (.recv2 d u)) ∗ qOwn c qf ∗ Owe c [])
      ([recv2Wait d u] ++ [compA d 1 u]) :=
    Trs.append
      ((((recv2Wait_tr kvf κ ιs c d u [] (fun _ h => nomatch h)).weaken (Kx_ctx kvf κ ιs c)).one.frame iprop(St2 c d u qf (fun n => blk kvf d n c) 2 ∗ qOwn c qf)).eqs
        (by
          iintro ⟨⟨HS, Hc, Hp⟩, Hq, HO⟩
          isplitr [HS Hq]
          · isplitl [Hc]; · iexact Hc
            isplitl [Hp]; · iexact Hp
            iexact HO
          isplitl [HS]; · iexact HS
          iexact Hq)
        (BI.Entails.refl _))
      (((compA_tr c (Kx kvf κ ιs c) qf (fun n => blk kvf d n c) d 1 u (subS 1 u) (Finset.Subset.refl _) fullShare 2).one.frame iprop(done c (.recv2 d u) ∗ Owe c [])).eqs
        (by
          iintro ⟨⟨Ho, Hd, HO⟩, HS, Hq⟩
          isplitr [Hd HO]
          · isplitl [HS]; · iexact HS
            isplitl [Hq]; · iexact Hq
            iexact Ho
          isplitl [Hd]; · iexact Hd
          iexact HO)
        (by
          iintro ⟨⟨HS, Hq, Ho⟩, Hd, HO⟩
          isplitr [Hq HO]
          · isplitl [HS]; · iexact HS
            isplitl [Ho]; · iexact Ho
            iexact Hd
          isplitl [Hq]; · iexact Hq
          iexact HO))
  exact Trs.fours (E := fun _ => iprop(qOwn c qf ∗ Owe c [])) fun u => (Trs.two (one .cw u) (one .ccw u)).eqs r r'

theorem backQ_trs :
    Trs c (Kx kvf κ ιs c)
      iprop((four fun u => iprop((fun d => iprop(crd c (.send2 d u) 0 nSub ∗ pos (F := F) c (.send2 d u))) Dir.cw ∗ (fun d => iprop(crd c (.send2 d u) 0 nSub ∗ pos (F := F) c (.send2 d u))) Dir.ccw)) ∗ Owe c [])
      iprop((four fun u => iprop((fun d => iprop(own d c (subS 0 u) fullShare.right (filled d (blk kvf d 2 c)) ∗ done c (.send2 d u))) Dir.cw
        ∗ (fun d => iprop(own d c (subS 0 u) fullShare.right (filled d (blk kvf d 2 c)) ∗ done c (.send2 d u))) Dir.ccw)) ∗ Owe (F := F) c [])
      ((List.finRange 4).flatMap fun u => [send2Wait .cw u, send2Wait .ccw u]) := by
  have r {A B C : sProp 𝕄} : iprop((A ∗ B) ∗ C) ⊢ iprop(A ∗ B ∗ C) := sep_assoc
  have r' {A B C : sProp 𝕄} : iprop(A ∗ B ∗ C) ⊢ iprop((A ∗ B) ∗ C) := sep_assoc'
  have one (d : Dir) (u : Fin 4) := ((send2Wait_tr kvf κ ιs c d u [] (fun _ h => nomatch h)).weaken (Kx_ctx kvf κ ιs c)).eqs r r'
  exact Trs.fours (E := fun _ => Owe (F := F) c []) fun u => (Trs.two (one .cw u).one (one .ccw u).one).eqs r r'

/-! ## The attention over a whole slot -/

theorem sub_slot (s : Fin 2) (u : Fin 4) : subS s u ⊆ slotS s := fun x hx => by
  rw [subS, Finset.mem_filter] at hx
  rw [slotS, Finset.mem_filter]
  exact ⟨hx.1, hx.2.1⟩

theorem slotF_trs (qf : S16x1024x128.Idx → Elt F .f32) :
    Trs c (Kx kvf κ ιs c) iprop(((four fun u => Any2 (F := F) c d u) ∗ own d c (slotS 0) fullShare.left (filled d (blk kvf d 0 c))) ∗ qOwn c qf)
      iprop(((four fun u => St2 c d u qf (fun n => blk kvf d n c) 0) ∗ own d c (slotS 0) fullShare.left (filled d (blk kvf d 0 c))) ∗ qOwn c qf)
      ((List.finRange 4).map (compF d 0)) :=
  (Trs.fourM (E := iprop(qOwn c qf ∗ own d c (slotS 0) fullShare.left (filled d (blk kvf d 0 c)))) fun u =>
    compF_tr c (Kx kvf κ ιs c) qf (fun n => blk kvf d n c) d 0 u (slotS 0) (sub_slot 0 u) fullShare.left).eqs
    (by iintro ⟨⟨H1, H2⟩, H3⟩; isplitl [H1]; · iexact H1
        isplitl [H3] <;> iassumption)
    (by iintro ⟨H1, H3, H2⟩; isplitr [H3]; · isplitl [H1]; · iexact H1
                                             iexact H2
        iexact H3)
theorem slotA_trs (qf : S16x1024x128.Idx → Elt F .f32) (s : Fin 2) (n : ℕ) :
    Trs c (Kx kvf κ ιs c) iprop(((four fun u => St2 c d u qf (fun n => blk kvf d n c) n) ∗ own d c (slotS s) fullShare.left (filled d (blk kvf d (n + 1) c))) ∗ qOwn c qf)
      iprop(((four fun u => St2 c d u qf (fun n => blk kvf d n c) (n + 1)) ∗ own d c (slotS s) fullShare.left (filled d (blk kvf d (n + 1) c))) ∗ qOwn c qf)
      ((List.finRange 4).map (compA d s)) :=
  (Trs.fourM (E := iprop(qOwn c qf ∗ own d c (slotS s) fullShare.left (filled d (blk kvf d (n + 1) c)))) fun u =>
    compA_tr c (Kx kvf κ ιs c) qf (fun n => blk kvf d n c) d s u (slotS s) (sub_slot s u) fullShare.left n).eqs
    (by iintro ⟨⟨H1, H2⟩, H3⟩; isplitl [H1]; · iexact H1
        isplitl [H3] <;> iassumption)
    (by iintro ⟨H1, H3, H2⟩; isplitr [H3]; · isplitl [H1]; · iexact H1
                                             iexact H2
        iexact H3)

end Cert.KernelIdeal.Att

end
-- ==== Proof.Run.lean ====
/-
  The body's run on one device: from its buffers, its tokens and its credits to the head rows of its result.
-/
module

public import proofs.«01_k».proof.Proof.Stages

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

instance sep_assoc_eq {M : Type} [URA M] : Std.Associative (α := sProp M) BIBase.sep := ⟨fun _ _ _ => sepA _ _ _⟩
instance sep_comm_eq {M : Type} [URA M] : Std.Commutative (α := sProp M) BIBase.sep := ⟨fun _ _ => sep_comm.antisymm sep_comm⟩

theorem four_sep {M : Type} [URA M] (A B : Fin 4 → sProp M) : (four fun u => iprop(A u ∗ B u)) = iprop(four A ∗ four B) := by
  simp only [four]; ac_rfl

/-- A step for each direction, what each leaves out beside it. -/
theorem stage {c : Dev nD} {K : sProp 𝕄} [BI.Persistent K] {S S' A B X : Dir → sProp 𝕄} {Z E₀ E₁ E₂ : sProp 𝕄} {l l' : List (Pg F)}
    (h : Trs c K iprop(A .cw ∗ E₀) iprop(B .cw ∗ E₁) l) (h' : Trs c K iprop(A .ccw ∗ E₁) iprop(B .ccw ∗ E₂) l')
    (hin : ∀ d, S d = iprop(A d ∗ X d)) (hout : ∀ d, iprop(B d ∗ X d) = S' d) :
    Trs c K iprop((S .cw ∗ S .ccw) ∗ Z ∗ E₀) iprop((S' .cw ∗ S' .ccw) ∗ Z ∗ E₂) (l ++ l') := by
  rw [hin, hin, ← hout, ← hout]
  refine ((Trs.two h h').frame iprop((X .cw ∗ X .ccw) ∗ Z)).eqs (Entails.of_eq ?_) (Entails.of_eq ?_)
  · ac_rfl
  · ac_rfl

/-- The same, the two directions' steps in turns. -/
theorem stageB {c : Dev nD} {K : sProp 𝕄} [BI.Persistent K] {S S' A B X : Dir → sProp 𝕄} {Z E₀ E₁ : sProp 𝕄} {l : List (Pg F)}
    (h : Trs c K iprop((A .cw ∗ A .ccw) ∗ E₀) iprop((B .cw ∗ B .ccw) ∗ E₁) l)
    (hin : ∀ d, S d = iprop(A d ∗ X d)) (hout : ∀ d, iprop(B d ∗ X d) = S' d) :
    Trs c K iprop((S .cw ∗ S .ccw) ∗ Z ∗ E₀) iprop((S' .cw ∗ S' .ccw) ∗ Z ∗ E₁) l := by
  rw [hin, hin, ← hout, ← hout]
  refine (h.frame iprop((X .cw ∗ X .ccw) ∗ Z)).eqs (Entails.of_eq ?_) (Entails.of_eq ?_)
  · ac_rfl
  · ac_rfl

variable (kvf : Dev nD → Blk F) (κ : GSem nD τ sig → ℕ) (ιs : Key → ℕ) (c : Dev nD)

/-! ## What is used when, of one direction -/

def T1 (d : Dir) : sProp 𝕄 := iprop(tok c (.send d 0) 0 ∗ tok (nx d c) (.recv d 0) 0)
def T2 (d : Dir) : sProp 𝕄 := four fun u => Any2 (F := F) c d u
def T3 (d : Dir) : sProp 𝕄 := iprop(pos c (.send d 0) ∗ readT (F := F) c d 0)
def T4 (d : Dir) : sProp 𝕄 := tok (pv d c) (.credit d) 0
def T5 (d : Dir) : sProp 𝕄 := iprop(crd c (.recv d 0) 0 nSlot ∗ pos c (.recv d 0))
def T6 (d : Dir) : sProp 𝕄 := iprop(crd c (.credit d) 0 1 ∗ pos c (.credit d) ∗ writeT (F := F) c d 0)
def T7 (d : Dir) : sProp 𝕄 := iprop(tok c (.send d 1) 0 ∗ tok (nx d c) (.recv d 1) 0)
def T9 (d : Dir) : sProp 𝕄 := iprop(pos c (.send d 1) ∗ readT (F := F) c d 1)
def T10 (d : Dir) : sProp 𝕄 := tok (pv d c) (.credit d) 1
def T11 (d : Dir) : sProp 𝕄 := iprop(crd c (.recv d 1) 0 nSlot ∗ pos c (.recv d 1))
def T12 (d : Dir) : sProp 𝕄 := iprop(crd c (.credit d) 1 1 ∗ writeT (F := F) c d 1)
def T13 (d : Dir) : sProp 𝕄 := four fun u => iprop(tok c (.send2 d u) 0 ∗ tok (nx d c) (.recv2 d u) 0)
def T15 (d : Dir) : sProp 𝕄 := four fun u => iprop(crd c (.recv2 d u) 0 nSub ∗ pos c (.recv2 d u))
def T16 (d : Dir) : sProp 𝕄 := four fun u => pos (F := F) c (.send2 d u)

def R13 (d : Dir) : sProp 𝕄 := iprop(T13 c d ∗ T15 c d ∗ T16 c d)
def R9 (d : Dir) : sProp 𝕄 := iprop(T9 c d ∗ T10 c d ∗ T11 c d ∗ T12 c d ∗ R13 c d)
def R3 (d : Dir) : sProp 𝕄 := iprop(T3 c d ∗ T4 c d ∗ T5 c d ∗ T6 c d ∗ T7 c d ∗ R9 c d)

/-- The rows after so many blocks. -/
abbrev Q4 (qf : S16x1024x128.Idx → Elt F .f32) (n : ℕ) (d : Dir) : sProp 𝕄 := four fun u => St2 c d u qf (fun n => blk kvf d n c) n

section
variable (qf : S16x1024x128.Idx → Elt F .f32)

/-- The rounds over. -/
abbrev D1 (d : Dir) : sProp 𝕄 := iprop(done c (.send d 0) ∗ done c (.recv d 0))
abbrev D2 (d : Dir) : sProp 𝕄 := iprop(done c (.send d 1) ∗ done c (.recv d 1) ∗ done c (.credit d))

def P1 (d : Dir) : sProp 𝕄 := iprop((own d c (slotS 0) fullShare (filled d (blk kvf d 0 c)) ∗ ownAny d (nx d c) (slotS 1) ∗ T1 c d) ∗ T2 c d ∗ R3 c d)
def P2 (d : Dir) : sProp 𝕄 := iprop((own d c (slotS 0) fullShare.left (filled d (blk kvf d 0 c)) ∗ crd c (.send d 0) 0 nSlot) ∗ T2 c d ∗ R3 c d)
def P3 (d : Dir) : sProp 𝕄 := iprop((own d c (slotS 0) fullShare.left (filled d (blk kvf d 0 c)) ∗ crd c (.send d 0) 0 nSlot) ∗ Q4 kvf c qf 0 d ∗ R3 c d)
def P7 (d : Dir) : sProp 𝕄 :=
  iprop((own d c (slotS 1) fullShare (filled d (blk kvf d 1 c)) ∗ ownAny d (nx d c) (slotS 0) ∗ T7 c d) ∗ half (F := F) c d ∗ D1 c d ∗ rel c d 0 ∗ Q4 kvf c qf 0 d ∗ R9 c d)
def P8 (n : ℕ) (d : Dir) : sProp 𝕄 :=
  iprop((own d c (slotS 1) fullShare.left (filled d (blk kvf d 1 c)) ∗ crd c (.send d 1) 0 nSlot) ∗ half (F := F) c d ∗ D1 c d ∗ rel c d 0 ∗ Q4 kvf c qf n d ∗ R9 c d)
def P13 (d : Dir) : sProp 𝕄 :=
  iprop((own d c (slotS 0) fullShare (filled d (blk kvf d 2 c)) ∗ ownAny d (nx d c) (slotS 1) ∗ T13 c d) ∗ D1 c d ∗ D2 c d ∗ Q4 kvf c qf 1 d ∗ T15 c d ∗ T16 c d)
def P14 (n : ℕ) (d : Dir) : sProp 𝕄 :=
  iprop((own d c (slotS 0) fullShare.left (filled d (blk kvf d 2 c)) ∗ four fun u => crd c (.send2 d u) 0 nSub) ∗ D1 c d ∗ D2 c d ∗ Q4 kvf c qf n d ∗ T15 c d ∗ T16 c d)
def P15 (d : Dir) : sProp 𝕄 :=
  iprop((own d c (slotS 0) fullShare.left (filled d (blk kvf d 2 c)) ∗ four fun u => crd c (.send2 d u) 0 nSub) ∗ D1 c d ∗ D2 c d
    ∗ (four fun u => iprop(St2 c d u qf (fun n => blk kvf d n c) 3 ∗ own d c (subS 1 u) fullShare (filled d (blk kvf d 3 c)) ∗ done c (.recv2 d u))) ∗ T16 c d)
def P16 (d : Dir) : sProp 𝕄 :=
  iprop((four fun u => iprop(own d c (subS 0 u) fullShare.right (filled d (blk kvf d 2 c)) ∗ done c (.send2 d u))) ∗ own d c (slotS 0) fullShare.left (filled d (blk kvf d 2 c)) ∗ D1 c d ∗ D2 c d
    ∗ (four fun u => iprop(St2 c d u qf (fun n => blk kvf d n c) 3 ∗ own d c (subS 1 u) fullShare (filled d (blk kvf d 3 c)) ∗ done c (.recv2 d u))))

/-- Both directions' state, the queries, and what is owed. -/
abbrev At (P : Dir → sProp 𝕄) (l : List Pay) : sProp 𝕄 := iprop((P .cw ∗ P .ccw) ∗ qOwn c qf ∗ Owe c l)

/-- A step of each direction that pays or not. -/
theorem stageO {S S' A B X : Dir → sProp 𝕄} {l₀ l₁ l₂ : List Pay} {p : Dir → Pg F}
    (h : Tr c (Kx kvf κ ιs c) iprop(A .cw ∗ Owe c l₀) iprop(B .cw ∗ Owe c l₁) (p .cw)) (h' : Tr c (Kx kvf κ ιs c) iprop(A .ccw ∗ Owe c l₁) iprop(B .ccw ∗ Owe c l₂) (p .ccw))
    (hin : ∀ d, S d = iprop(A d ∗ X d)) (hout : ∀ d, iprop(B d ∗ X d) = S' d) : Trs c (Kx kvf κ ιs c) (At c qf S l₀) (At c qf S' l₂) [p .cw, p .ccw] :=
  stage h.one h'.one hin hout
/-- Steps of each direction that read the queries. -/
theorem stageQ {S S' A B X : Dir → sProp 𝕄} {l : List Pay} {ps : Dir → List (Pg F)}
    (h : ∀ d, Trs c (Kx kvf κ ιs c) iprop(A d ∗ qOwn c qf) iprop(B d ∗ qOwn c qf) (ps d))
    (hin : ∀ d, S d = iprop(A d ∗ X d)) (hout : ∀ d, iprop(B d ∗ X d) = S' d) : Trs c (Kx kvf κ ιs c) (At c qf S l) (At c qf S' l) (ps .cw ++ ps .ccw) :=
  (stage (Z := Owe c l) (h .cw) (h .ccw) hin hout).eqs (Entails.of_eq (by unfold At; ac_rfl)) (Entails.of_eq (by unfold At; ac_rfl))

theorem run_send0 : Trs c (Kx kvf κ ιs c) (At c qf (P1 kvf c) pays1) (At c qf (P2 kvf c) pays2) [send .cw 0 (nx .cw c), send .ccw 0 (nx .ccw c)] :=
  stageO (p := fun d => send d 0 (nx d c)) (X := fun d => iprop(T2 c d ∗ R3 c d)) kvf κ ιs c qf (sendS_tr kvf κ ιs c .cw 0 _) (sendS_tr kvf κ ιs c .ccw 0 _) (fun d => rfl) (fun d => rfl)

theorem run_comp0 : Trs c (Kx kvf κ ιs c) (At c qf (P2 kvf c) pays2) (At c qf (P3 kvf c qf) pays2) ((List.finRange 4).map (compF .cw 0) ++ (List.finRange 4).map (compF .ccw 0)) :=
  stageQ (ps := fun d => (List.finRange 4).map (compF d 0)) (A := fun d => iprop(T2 c d ∗ own d c (slotS 0) fullShare.left (filled d (blk kvf d 0 c))))
    (B := fun d => iprop(Q4 kvf c qf 0 d ∗ own d c (slotS 0) fullShare.left (filled d (blk kvf d 0 c)))) (X := fun d => iprop(crd c (.send d 0) 0 nSlot ∗ R3 c d)) kvf κ ιs c qf (fun d => slotF_trs kvf κ ιs c d qf)
    (fun d => by unfold P2; ac_rfl) (fun d => by unfold P3; ac_rfl)

def P4 (d : Dir) : sProp 𝕄 := iprop((rel c d 0 ∗ T4 c d) ∗ done c (.send d 0) ∗ Q4 kvf c qf 0 d ∗ T5 c d ∗ T6 c d ∗ T7 c d ∗ R9 c d)
def P5 (d : Dir) : sProp 𝕄 := iprop(rel c d 0 ∗ done c (.send d 0) ∗ Q4 kvf c qf 0 d ∗ T5 c d ∗ T6 c d ∗ T7 c d ∗ R9 c d)
def P6 (d : Dir) : sProp 𝕄 := iprop(own d c (slotS 1) fullShare (filled d (blk kvf d 1 c)) ∗ D1 c d ∗ rel c d 0 ∗ Q4 kvf c qf 0 d ∗ T6 c d ∗ T7 c d ∗ R9 c d)
def P10 (d : Dir) : sProp 𝕄 := iprop((rel c d 0 ∗ rel c d 1 ∗ T10 c d) ∗ done c (.send d 1) ∗ half (F := F) c d ∗ D1 c d ∗ Q4 kvf c qf 1 d ∗ T11 c d ∗ T12 c d ∗ R13 c d)
def P11 (d : Dir) : sProp 𝕄 := iprop(emp ∗ done c (.send d 1) ∗ half (F := F) c d ∗ D1 c d ∗ Q4 kvf c qf 1 d ∗ T11 c d ∗ T12 c d ∗ R13 c d)
def P12 (d : Dir) : sProp 𝕄 :=
  iprop(emp ∗ own d c (slotS 0) fullShare (filled d (blk kvf d 2 c)) ∗ done c (.recv d 1) ∗ done c (.send d 1) ∗ half (F := F) c d ∗ D1 c d ∗ Q4 kvf c qf 1 d ∗ T12 c d ∗ R13 c d)

theorem run_hop0 : Trs c (Kx kvf κ ιs c) (At c qf (P3 kvf c qf) pays2) (At c qf (P7 kvf c qf) pays4)
    ([sendWait .cw 0, sendWait .ccw 0] ++ ([credSig .cw (pv .cw c), credSig .ccw (pv .ccw c)] ++ ([recvWait .cw 0, recvWait .ccw 0] ++ [credWait .cw, credWait .ccw]))) := by
  refine Trs.append (R := At c qf (P4 kvf c qf) pays2) ?_ (Trs.append (R := At c qf (P5 kvf c qf) pays4) ?_ (Trs.append (R := At c qf (P6 kvf c qf) pays4) ?_ ?_))
  · exact stageO (p := fun d => sendWait d 0)
      (A := fun d => iprop(own d c (slotS 0) fullShare.left (filled d (blk kvf d 0 c)) ∗ crd c (.send d 0) 0 nSlot ∗ pos c (.send d 0) ∗ readT (F := F) c d 0))
      (B := fun d => iprop(rel c d 0 ∗ done c (.send d 0)))
      (X := fun d => iprop(Q4 kvf c qf 0 d ∗ T4 c d ∗ T5 c d ∗ T6 c d ∗ T7 c d ∗ R9 c d)) kvf κ ιs c qf
      (backS_tr kvf κ ιs c .cw 0 _ (by decide)) (backS_tr kvf κ ιs c .ccw 0 _ (by decide)) (fun d => by unfold P3 R3 T3; ac_rfl) (fun d => by unfold P4; ac_rfl)
  · exact stageO (p := fun d => credSig d (pv d c)) (X := fun d => iprop(done c (.send d 0) ∗ Q4 kvf c qf 0 d ∗ T5 c d ∗ T6 c d ∗ T7 c d ∗ R9 c d)) kvf κ ιs c qf
      (cred0_tr kvf κ ιs c .cw _) (cred0_tr kvf κ ιs c .ccw _) (fun d => rfl) (fun d => rfl)
  · exact stageO (p := fun d => recvWait d 0)
      (A := fun d => iprop(crd c (.recv d 0) 0 nSlot ∗ pos c (.recv d 0)))
      (B := fun d => iprop(own d c (slotS 1) fullShare (filled d (blk kvf d 1 c)) ∗ done c (.recv d 0)))
      (X := fun d => iprop(rel c d 0 ∗ done c (.send d 0) ∗ Q4 kvf c qf 0 d ∗ T6 c d ∗ T7 c d ∗ R9 c d)) kvf κ ιs c qf
      (recvS_tr kvf κ ιs c .cw 0 _ (by decide)) (recvS_tr kvf κ ιs c .ccw 0 _ (by decide)) (fun d => by unfold P5 T5; ac_rfl)
      (fun d => by unfold P6 D1; ac_rfl)
  · exact stageO (p := fun d => credWait d)
      (A := fun d => iprop(crd c (.credit d) 0 1 ∗ pos c (.credit d) ∗ writeT (F := F) c d 0)) (B := fun d => iprop(half (F := F) c d ∗ ownAny d (nx d c) (slotS 0)))
      (X := fun d => iprop(own d c (slotS 1) fullShare (filled d (blk kvf d 1 c)) ∗ D1 c d ∗ rel c d 0 ∗ Q4 kvf c qf 0 d ∗ T7 c d ∗ R9 c d)) kvf κ ιs c qf
      (got0_tr kvf κ ιs c .cw _ (by decide)) (got0_tr kvf κ ιs c .ccw _ (by decide)) (fun d => by unfold P6 T6; ac_rfl) (fun d => by unfold P7; ac_rfl)

theorem run_send1 : Trs c (Kx kvf κ ιs c) (At c qf (P7 kvf c qf) pays4) (At c qf (P8 kvf c qf 0) pays6) [send .cw 1 (nx .cw c), send .ccw 1 (nx .ccw c)] :=
  stageO (p := fun d => send d 1 (nx d c)) (X := fun d => iprop(half (F := F) c d ∗ D1 c d ∗ rel c d 0 ∗ Q4 kvf c qf 0 d ∗ R9 c d)) kvf κ ιs c qf
    (sendS_tr kvf κ ιs c .cw 1 _) (sendS_tr kvf κ ιs c .ccw 1 _) (fun d => rfl) (fun d => rfl)

theorem run_comp1 : Trs c (Kx kvf κ ιs c) (At c qf (P8 kvf c qf 0) pays6) (At c qf (P8 kvf c qf 1) pays6) ((List.finRange 4).map (compA .cw 1) ++ (List.finRange 4).map (compA .ccw 1)) :=
  stageQ (ps := fun d => (List.finRange 4).map (compA d 1)) (A := fun d => iprop(Q4 kvf c qf 0 d ∗ own d c (slotS 1) fullShare.left (filled d (blk kvf d 1 c))))
    (B := fun d => iprop(Q4 kvf c qf 1 d ∗ own d c (slotS 1) fullShare.left (filled d (blk kvf d 1 c)))) (X := fun d => iprop(crd c (.send d 1) 0 nSlot ∗ half (F := F) c d ∗ D1 c d ∗ rel c d 0 ∗ R9 c d)) kvf κ ιs c qf
    (fun d => slotA_trs kvf κ ιs c d qf 1 0) (fun d => by unfold P8; ac_rfl) (fun d => by unfold P8; ac_rfl)

theorem run_hop1 : Trs c (Kx kvf κ ιs c) (At c qf (P8 kvf c qf 1) pays6) (At c qf (P13 kvf c qf) pays8)
    ([sendWait .cw 1, sendWait .ccw 1] ++ ([credSig .cw (pv .cw c), credSig .ccw (pv .ccw c)] ++ ([recvWait .cw 1, recvWait .ccw 1] ++ [credWait .cw, credWait .ccw]))) := by
  refine Trs.append (R := At c qf (P10 kvf c qf) pays6) ?_ (Trs.append (R := At c qf (P11 kvf c qf) pays8) ?_ (Trs.append (R := At c qf (P12 kvf c qf) pays8) ?_ ?_))
  · exact stageO (p := fun d => sendWait d 1)
      (A := fun d => iprop(own d c (slotS 1) fullShare.left (filled d (blk kvf d 1 c)) ∗ crd c (.send d 1) 0 nSlot ∗ pos c (.send d 1) ∗ readT (F := F) c d 1))
      (B := fun d => iprop(rel c d 1 ∗ done c (.send d 1)))
      (X := fun d => iprop(half (F := F) c d ∗ D1 c d ∗ rel c d 0 ∗ Q4 kvf c qf 1 d ∗ T10 c d ∗ T11 c d ∗ T12 c d ∗ R13 c d)) kvf κ ιs c qf
      (backS_tr kvf κ ιs c .cw 1 _ (by decide)) (backS_tr kvf κ ιs c .ccw 1 _ (by decide))
      (fun d => by unfold P8 R9 T9; ac_rfl) (fun d => by unfold P10; ac_rfl)
  · exact stageO (p := fun d => credSig d (pv d c)) (X := fun d => iprop(done c (.send d 1) ∗ half (F := F) c d ∗ D1 c d ∗ Q4 kvf c qf 1 d ∗ T11 c d ∗ T12 c d ∗ R13 c d)) kvf κ ιs c qf
      (cred1_tr kvf κ ιs c .cw _) (cred1_tr kvf κ ιs c .ccw _) (fun d => rfl) (fun d => rfl)
  · exact stageO (p := fun d => recvWait d 1)
      (A := fun d => iprop(crd c (.recv d 1) 0 nSlot ∗ pos c (.recv d 1)))
      (B := fun d => iprop(own d c (slotS 0) fullShare (filled d (blk kvf d 2 c)) ∗ done c (.recv d 1)))
      (X := fun d => iprop(emp ∗ done c (.send d 1) ∗ half (F := F) c d ∗ D1 c d ∗ Q4 kvf c qf 1 d ∗ T12 c d ∗ R13 c d)) kvf κ ιs c qf
      (recvS_tr kvf κ ιs c .cw 1 _ (by decide)) (recvS_tr kvf κ ιs c .ccw 1 _ (by decide)) (fun d => by unfold P11 T11; ac_rfl)
      (fun d => by unfold P12; ac_rfl)
  · have h := stageO (p := fun d => credWait d)
      (A := fun d => iprop(crd c (.credit d) 1 1 ∗ half (F := F) c d ∗ writeT (F := F) c d 1)) (B := fun d => iprop(ownAny d (nx d c) (slotS 1) ∗ done c (.credit d)))
      (S := P12 kvf c qf) (S' := fun d => iprop(emp ∗ P13 kvf c qf d))
      (X := fun d => iprop(emp ∗ own d c (slotS 0) fullShare (filled d (blk kvf d 2 c)) ∗ done c (.recv d 1) ∗ done c (.send d 1) ∗ D1 c d ∗ Q4 kvf c qf 1 d ∗ R13 c d)) kvf κ ιs c qf
      (got1_tr kvf κ ιs c .cw pays8 (by decide)) (got1_tr kvf κ ιs c .ccw pays8 (by decide)) (fun d => by unfold P12 T12; ac_rfl) (fun d => by unfold P13 R13 D2; ac_rfl)
    refine h.eqs (BI.Entails.refl _) ?_
    unfold At
    iintro ⟨⟨⟨-, H1⟩, -, H2⟩, H3⟩
    isplitl [H1 H2]
    · isplitl [H1] <;> iassumption
    iexact H3

theorem run_send2 : Trs c (Kx kvf κ ιs c) (At c qf (P13 kvf c qf) pays8) (At c qf (P14 kvf c qf 1) []) ((List.finRange 4).flatMap fun u => [send2 .cw u (nx .cw c), send2 .ccw u (nx .ccw c)]) := by
  have h := (sendQ_trs kvf κ ιs c).eqs (Entails.of_eq (congrArg (fun P => iprop(P ∗ Owe c pays8)) (four_sep _ _).symm)) (Entails.of_eq (congrArg (fun P => iprop(P ∗ Owe c [])) (four_sep _ _)))
  refine (stageB (Z := qOwn c qf) (S := fun d => iprop((four fun u => iprop(own d c (subS 0 u) fullShare.right (filled d (blk kvf d 2 c)) ∗ ownAny d (nx d c) (subS 1 u) ∗ tok c (.send2 d u) 0 ∗ tok (nx d c) (.recv2 d u) 0))
      ∗ own d c (slotS 0) fullShare.left (filled d (blk kvf d 2 c)) ∗ D1 c d ∗ D2 c d ∗ Q4 kvf c qf 1 d ∗ T15 c d ∗ T16 c d)) (S' := P14 kvf c qf 1)
    (A := fun d => four fun u => iprop(own d c (subS 0 u) fullShare.right (filled d (blk kvf d 2 c)) ∗ ownAny d (nx d c) (subS 1 u) ∗ tok c (.send2 d u) 0 ∗ tok (nx d c) (.recv2 d u) 0))
    (B := fun d => four fun u => crd (F := F) c (.send2 d u) 0 nSub)
    (X := fun d => iprop(own d c (slotS 0) fullShare.left (filled d (blk kvf d 2 c)) ∗ D1 c d ∗ D2 c d ∗ Q4 kvf c qf 1 d ∗ T15 c d ∗ T16 c d)) h (fun d => rfl) (fun d => by unfold P14; ac_rfl)).eqs ?_ (BI.Entails.refl _)
  have one (d : Dir) : P13 kvf c qf d ⊢ iprop((four fun u => iprop(own d c (subS 0 u) fullShare.right (filled d (blk kvf d 2 c)) ∗ ownAny d (nx d c) (subS 1 u) ∗ tok c (.send2 d u) 0 ∗ tok (nx d c) (.recv2 d u) 0))
      ∗ own d c (slotS 0) fullShare.left (filled d (blk kvf d 2 c)) ∗ D1 c d ∗ D2 c d ∗ Q4 kvf c qf 1 d ∗ T15 c d ∗ T16 c d) := by
    unfold P13 T13
    have e : ownAny (F := F) d (nx d c) (slotS 1) ⊢ four fun u => ownAny (F := F) d (nx d c) (subS 1 u) := by
      unfold ownAny
      iintro ⟨%f, H⟩
      ihave H := (Entails.of_eq (own_slot d (nx d c) 1 fullShare f)) $$ H
      icases H with ⟨H0, H1, H2, H3⟩
      isplitl [H0]; · iexists _; iexact H0
      isplitl [H1]; · iexists _; iexact H1
      isplitl [H2]; · iexists _; iexact H2
      iexists _; iexact H3
    rw [four_sep (fun u => own d c (subS 0 u) fullShare.right (filled d (blk kvf d 2 c))) (fun u => iprop(ownAny (F := F) d (nx d c) (subS 1 u) ∗ tok c (.send2 d u) 0 ∗ tok (nx d c) (.recv2 d u) 0)),
      four_sep (fun u => ownAny (F := F) d (nx d c) (subS 1 u)) (fun u => iprop(tok c (.send2 d u) 0 ∗ tok (nx d c) (.recv2 d u) 0))]
    iintro ⟨⟨Hs, Hn, Ht⟩, Hr⟩
    ihave Hs := (Entails.of_eq (own_halves d c (slotS 0) (filled d (blk kvf d 2 c)))) $$ Hs
    icases Hs with ⟨Hl, Hs⟩
    isplitr [Hl Hr]
    · isplitl [Hs]
      · iapply (Entails.of_eq (own_slot d c 0 fullShare.right (filled d (blk kvf d 2 c)))) $$ Hs
      isplitl [Hn]
      · iapply e $$ Hn
      iexact Ht
    isplitl [Hl] <;> iassumption
  unfold At
  iintro ⟨⟨H1, H2⟩, H3⟩
  isplitl [H1 H2]
  · isplitl [H1]
    · iapply (one .cw) $$ H1
    iapply (one .ccw) $$ H2
  iexact H3

theorem run_comp2 : Trs c (Kx kvf κ ιs c) (At c qf (P14 kvf c qf 1) []) (At c qf (P14 kvf c qf 2) []) ((List.finRange 4).map (compA .cw 0) ++ (List.finRange 4).map (compA .ccw 0)) :=
  stageQ (ps := fun d => (List.finRange 4).map (compA d 0)) (A := fun d => iprop(Q4 kvf c qf 1 d ∗ own d c (slotS 0) fullShare.left (filled d (blk kvf d 2 c))))
    (B := fun d => iprop(Q4 kvf c qf 2 d ∗ own d c (slotS 0) fullShare.left (filled d (blk kvf d 2 c)))) (X := fun d => iprop((four fun u => crd c (.send2 d u) 0 nSub) ∗ D1 c d ∗ D2 c d ∗ T15 c d ∗ T16 c d)) kvf κ ιs c qf
    (fun d => slotA_trs kvf κ ιs c d qf 0 1) (fun d => by unfold P14; ac_rfl) (fun d => by unfold P14; ac_rfl)

theorem run_recv2 : Trs c (Kx kvf κ ιs c) (At c qf (P14 kvf c qf 2) []) (At c qf (P15 kvf c qf) [])
    ((List.finRange 4).flatMap fun u => [recv2Wait .cw u, compA .cw 1 u, recv2Wait .ccw u, compA .ccw 1 u]) := by
  have h := (recvQ_trs kvf κ ιs c qf).eqs (Entails.of_eq (congrArg (fun P => iprop(P ∗ qOwn c qf ∗ Owe c [])) (four_sep _ _).symm))
    (Entails.of_eq (congrArg (fun P => iprop(P ∗ qOwn c qf ∗ Owe c [])) (four_sep _ _)))
  refine (stageB (Z := iprop(emp)) (S := P14 kvf c qf 2) (S' := P15 kvf c qf)
    (A := fun d => four fun u => iprop(St2 c d u qf (fun n => blk kvf d n c) 2 ∗ crd c (.recv2 d u) 0 nSub ∗ pos c (.recv2 d u)))
    (B := fun d => four fun u => iprop(St2 c d u qf (fun n => blk kvf d n c) 3 ∗ own d c (subS 1 u) fullShare (filled d (blk kvf d 3 c)) ∗ done c (.recv2 d u)))
    (X := fun d => iprop((own d c (slotS 0) fullShare.left (filled d (blk kvf d 2 c)) ∗ four fun u => crd c (.send2 d u) 0 nSub) ∗ D1 c d ∗ D2 c d ∗ T16 c d)) h
    (fun d => by rw [four_sep (fun u => St2 c d u qf (fun n => blk kvf d n c) 2) (fun u => iprop(crd c (.recv2 d u) 0 nSub ∗ pos c (.recv2 d u)))]; unfold P14 T15 Q4; ac_rfl) (fun d => by unfold P15; ac_rfl)).eqs ?_ ?_
  · unfold At
    iintro ⟨H1, H2⟩
    isplitl [H1]; · iexact H1
    isplitr; · iempintro
    iexact H2
  · unfold At
    iintro ⟨H1, -, H2⟩
    isplitl [H1] <;> iassumption

theorem run_back2 : Trs c (Kx kvf κ ιs c) (At c qf (P15 kvf c qf) []) (At c qf (P16 kvf c qf) []) ((List.finRange 4).flatMap fun u => [send2Wait .cw u, send2Wait .ccw u]) := by
  have h := (backQ_trs kvf κ ιs c).eqs (Entails.of_eq (congrArg (fun P => iprop(P ∗ Owe c [])) (four_sep _ _).symm)) (Entails.of_eq (congrArg (fun P => iprop(P ∗ Owe c [])) (four_sep _ _)))
  exact stageB (Z := qOwn c qf) (S := P15 kvf c qf) (S' := P16 kvf c qf)
    (A := fun d => four fun u => iprop(crd c (.send2 d u) 0 nSub ∗ pos (F := F) c (.send2 d u)))
    (B := fun d => four fun u => iprop(own d c (subS 0 u) fullShare.right (filled d (blk kvf d 2 c)) ∗ done c (.send2 d u)))
    (X := fun d => iprop(own d c (slotS 0) fullShare.left (filled d (blk kvf d 2 c)) ∗ D1 c d ∗ D2 c d
      ∗ (four fun u => iprop(St2 c d u qf (fun n => blk kvf d n c) 3 ∗ own d c (subS 1 u) fullShare (filled d (blk kvf d 3 c)) ∗ done c (.recv2 d u))))) h
    (fun d => by rw [four_sep (fun u => crd (F := F) c (.send2 d u) 0 nSub) (fun u => pos (F := F) c (.send2 d u))]; unfold P15 T16; ac_rfl) (fun d => by unfold P16; ac_rfl)

/-- The steps after the start. -/
def later : List (Pg F) :=
  [send .cw 0 (nx .cw c), send .ccw 0 (nx .ccw c)]
  ++ (((List.finRange 4).map (compF .cw 0) ++ (List.finRange 4).map (compF .ccw 0))
  ++ (([sendWait .cw 0, sendWait .ccw 0] ++ ([credSig .cw (pv .cw c), credSig .ccw (pv .ccw c)] ++ ([recvWait .cw 0, recvWait .ccw 0] ++ [credWait .cw, credWait .ccw])))
  ++ ([send .cw 1 (nx .cw c), send .ccw 1 (nx .ccw c)]
  ++ (((List.finRange 4).map (compA .cw 1) ++ (List.finRange 4).map (compA .ccw 1))
  ++ (([sendWait .cw 1, sendWait .ccw 1] ++ ([credSig .cw (pv .cw c), credSig .ccw (pv .ccw c)] ++ ([recvWait .cw 1, recvWait .ccw 1] ++ [credWait .cw, credWait .ccw])))
  ++ (((List.finRange 4).flatMap fun u => [send2 .cw u (nx .cw c), send2 .ccw u (nx .ccw c)])
  ++ (((List.finRange 4).map (compA .cw 0) ++ (List.finRange 4).map (compA .ccw 0))
  ++ (((List.finRange 4).flatMap fun u => [recv2Wait .cw u, compA .cw 1 u, recv2Wait .ccw u, compA .ccw 1 u])
  ++ ((List.finRange 4).flatMap fun u => [send2Wait .cw u, send2Wait .ccw u])))))))))

theorem run_later : Trs c (Kx kvf κ ιs c) (At c qf (P1 kvf c) pays1) (At c qf (P16 kvf c qf) []) (later c) :=
  (run_send0 kvf κ ιs c qf).append <| (run_comp0 kvf κ ιs c qf).append <| (run_hop0 kvf κ ιs c qf).append <| (run_send1 kvf κ ιs c qf).append <|
    (run_comp1 kvf κ ιs c qf).append <| (run_hop1 kvf κ ιs c qf).append <| (run_send2 kvf κ ιs c qf).append <| (run_comp2 kvf κ ιs c qf).append <|
      (run_recv2 kvf κ ιs c qf).append (run_back2 kvf κ ιs c qf)
end

theorem steps_later : steps (F := F) c = (quads ldStart ++ ([barSig (pv .cw c)] ++ [barSig (pv .ccw c)])) ++ ([barWait] ++ (quads ldWait ++ later c)) := by
  have h4 : List.finRange 4 = [0, 1, 2, 3] := by decide
  simp only [steps, later, quads, h4, List.flatMap_cons, List.flatMap_nil, List.map_cons, List.map_nil, List.cons_append, List.nil_append, List.append_nil]

end Cert.KernelIdeal.Att

end
-- ==== Proof.Body.lean ====
/-
  The whole body on one device.
-/
module

public import proofs.«01_k».proof.Proof.Run

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen
open Idealize.ShloMosaic.ValueIdx (ix3)

variable {F : FTy → Type} [FloatOps F]

local notation "𝕄" => MT nD τ sig (Fin 2) (Elt F) ℕ UU ℕ

variable (kvf : Dev nD → Blk F) (κ : GSem nD τ sig → ℕ) (ιs : Key → ℕ) (c : Dev nD)

/-! ## The start -/

/-- The arrays a direction's heads are read from. -/
def Src (d : Dir) : sProp 𝕄 := four fun u => iprop(srcOwn 0 c (pairS d u) (kvf c 0) ∗ srcOwn 1 c (pairS d u) (kvf c 1))
def TL (d : Dir) : sProp 𝕄 := four fun u => iprop(tok (F := F) c (.load d u 0) 0 ∗ tok c (.load d u 1) 0)
def PL (d : Dir) : sProp 𝕄 := four fun u => iprop(pos (F := F) c (.load d u 0) ∗ pos c (.load d u 1))
def DL (d : Dir) : sProp 𝕄 := four fun u => iprop(done (F := F) c (.load d u 0) ∗ done c (.load d u 1))
def CL (d : Dir) : sProp 𝕄 := four fun u => iprop(crd (F := F) c (.load d u 0) 0 nLoad ∗ crd c (.load d u 1) 0 nLoad)
def InA (d : Dir) : sProp 𝕄 := four fun u => iprop(ownAny (F := F) d c (inS u 0) ∗ ownAny d c (inS u 1))

theorem quad_sep {M : Type} [URA M] (A B : Fin 4 → Fin 2 → sProp M) :
    (four fun u => iprop((A u 0 ∗ B u 0) ∗ (A u 1 ∗ B u 1))) = iprop((four fun u => iprop(A u 0 ∗ A u 1)) ∗ four fun u => iprop(B u 0 ∗ B u 1)) := by
  simp only [four]; ac_rfl

theorem sepE {M : Type} [URA M] (P : sProp M) : iprop(P ∗ emp) = P := sep_emp_elim.antisymm sep_emp_intro

/-- A direction's eight pieces. -/
def quadOf (A : Dir → Fin 4 → Fin 2 → sProp 𝕄) (d : Dir) : sProp 𝕄 := four fun u => iprop(A d u 0 ∗ A d u 1)

theorem quadsB {K : sProp 𝕄} [BI.Persistent K] {A B : Dir → Fin 4 → Fin 2 → sProp 𝕄} {E : sProp 𝕄} {f : Dir → Fin 4 → Fin 2 → Pg F}
    (h : ∀ d u kv, Tr c K iprop(A d u kv ∗ E) iprop(B d u kv ∗ E) (f d u kv)) :
    Trs c K iprop((quadOf A Dir.cw ∗ quadOf A Dir.ccw) ∗ E)
      iprop((quadOf B Dir.cw ∗ quadOf B Dir.ccw) ∗ E) (quads f) :=
  (Trs.quads h).eqs (Entails.of_eq (by unfold quadOf; rw [four_sep (fun u => iprop(A .cw u 0 ∗ A .cw u 1)) (fun u => iprop(A .ccw u 0 ∗ A .ccw u 1))]))
    (Entails.of_eq (by unfold quadOf; rw [four_sep (fun u => iprop(B .cw u 0 ∗ B .cw u 1)) (fun u => iprop(B .ccw u 0 ∗ B .ccw u 1))]))

section
variable (qf : S16x1024x128.Idx → Elt F .f32)

def N0 (d : Dir) : sProp 𝕄 := iprop((InA c d ∗ Src kvf c d ∗ TL c d) ∗ ownAny (F := F) d c (slotS 1) ∗ tok (pv d c) .bar (fDir d) ∗ PL c d)
def N1 (d : Dir) : sProp 𝕄 := iprop((ownAny (F := F) d c (slotS 1) ∗ tok (pv d c) .bar (fDir d)) ∗ CL c d ∗ PL c d)
def N2 (d : Dir) : sProp 𝕄 := iprop(CL (F := F) c d ∗ PL c d)
def N3 (d : Dir) : sProp 𝕄 := iprop(own d c (slotS 0) fullShare (filled d (kvf c)) ∗ Src kvf c d ∗ DL c d)

theorem ldStart_all (Z : sProp 𝕄) (l : List Pay) : Trs c (Ctx kvf κ ιs c) iprop((N0 kvf c .cw ∗ N0 kvf c .ccw) ∗ Z ∗ Owe c l) iprop((N1 c .cw ∗ N1 c .ccw) ∗ Z ∗ Owe c l) (quads ldStart) :=
  stageB (S := N0 kvf c) (S' := N1 c) (A := quadOf (fun d u kv => iprop(ownAny d c (inS u kv) ∗ srcOwn kv c (pairS d u) (kvf c kv) ∗ tok c (.load d u kv) 0)))
    (B := quadOf (fun d u kv => crd (F := F) c (.load d u kv) 0 nLoad))
    (X := fun d => iprop(ownAny (F := F) d c (slotS 1) ∗ tok (pv d c) .bar (fDir d) ∗ PL c d))
    (quadsB c (A := fun d u kv => iprop(ownAny d c (inS u kv) ∗ srcOwn kv c (pairS d u) (kvf c kv) ∗ tok c (.load d u kv) 0)) (B := fun d u kv => crd (F := F) c (.load d u kv) 0 nLoad)
      (E := Owe c l) fun d u kv => (ldStart_tr kvf κ ιs c d u kv).frame (Owe c l))
    (fun d => by
      unfold quadOf
      rw [quad_sep (fun u kv => ownAny (F := F) d c (inS u kv)) (fun u kv => iprop(srcOwn kv c (pairS d u) (kvf c kv) ∗ tok c (.load d u kv) 0)),
        quad_sep (fun u kv => srcOwn kv c (pairS d u) (kvf c kv)) (fun u kv => tok (F := F) c (.load d u kv) 0)]
      rfl)
    (fun d => by
      show iprop(CL c d ∗ _) = _
      unfold N1; ac_rfl)

theorem ldWait_all (Z : sProp 𝕄) (l : List Pay) (hl : ∀ p ∈ l, 0 < p.lvl) :
    Trs c (Kx kvf κ ιs c) iprop((N2 (F := F) c .cw ∗ N2 c .ccw) ∗ Z ∗ Owe c l) iprop((N3 kvf c .cw ∗ N3 kvf c .ccw) ∗ Z ∗ Owe c l) (quads ldWait) :=
  stageB (S := N2 c) (S' := N3 kvf c) (A := quadOf (fun d u kv => iprop(crd (F := F) c (.load d u kv) 0 nLoad ∗ pos c (.load d u kv))))
    (B := quadOf (fun d u kv => iprop((own d c (inS u kv) fullShare (filled d (kvf c)) ∗ srcOwn kv c (pairS d u) (kvf c kv)) ∗ done c (.load d u kv)))) (X := fun _ => iprop(emp))
    (quadsB c (A := fun d u kv => iprop(crd (F := F) c (.load d u kv) 0 nLoad ∗ pos c (.load d u kv)))
      (B := fun d u kv => iprop((own d c (inS u kv) fullShare (filled d (kvf c)) ∗ srcOwn kv c (pairS d u) (kvf c kv)) ∗ done c (.load d u kv)))
      (E := Owe c l) fun d u kv => ((ldWait_tr kvf κ ιs c d u kv l hl).weaken (Kx_ctx kvf κ ιs c)).eqs sep_assoc sep_assoc')
    (fun d => by
      unfold quadOf
      rw [quad_sep (fun u kv => crd (F := F) c (.load d u kv) 0 nLoad) (fun u kv => pos (F := F) c (.load d u kv))]
      exact (sepE _).symm)
    (fun d => by
      unfold quadOf
      rw [quad_sep (fun u kv => iprop(own d c (inS u kv) fullShare (filled d (kvf c)) ∗ srcOwn kv c (pairS d u) (kvf c kv))) (fun u kv => done (F := F) c (.load d u kv)),
        quad_sep (fun u kv => own d c (inS u kv) fullShare (filled d (kvf c))) (fun u kv => srcOwn kv c (pairS d u) (kvf c kv)), sepE]
      unfold N3 Src DL
      rw [own_slot]; simp only [own_sub]
      ac_rfl)

theorem bar_start (Z : sProp 𝕄) : Trs c (Ctx kvf κ ιs c) iprop((N1 (F := F) c .cw ∗ N1 c .ccw) ∗ Z ∗ Owe c pays) iprop((N2 (F := F) c .cw ∗ N2 c .ccw) ∗ Z ∗ Owe c pays1)
    ([barSig (pv .cw c)] ++ [barSig (pv .ccw c)]) := by
  have one (d : Dir) (l : List Pay) : Tr c (Ctx kvf κ ιs c) iprop((ownAny (F := F) d c (slotS 1) ∗ tok (pv d c) .bar (fDir d)) ∗ Owe c (.bar d :: l)) iprop(emp ∗ Owe c l) (barSig (pv d c)) :=
    (barSig_tr kvf κ ιs c d l).eqs sep_assoc emp_sep_intro
  exact stage (S := N1 c) (S' := N2 c) (A := fun d => iprop(ownAny (F := F) d c (slotS 1) ∗ tok (pv d c) .bar (fDir d))) (B := fun _ => iprop(emp)) (X := fun d => N2 c d)
    (one .cw _).one (one .ccw _).one (fun d => rfl) (fun d => (sep_comm.antisymm sep_comm).trans (sepE _))

/-- All a direction's run needs beside the start. -/
def Rest (d : Dir) : sProp 𝕄 := iprop(T1 (F := F) c d ∗ T2 c d ∗ R3 c d)

theorem run_steps : Trs c (Ctx kvf κ ιs c)
    iprop((N0 kvf c .cw ∗ N0 kvf c .ccw) ∗ ((crd c .bar 0 2 ∗ pos c .bar) ∗ (Rest c .cw ∗ Rest c .ccw) ∗ qOwn c qf) ∗ Owe c pays)
    iprop(At c qf (P16 kvf c qf) [] ∗ (Src kvf c .cw ∗ DL c .cw) ∗ (Src kvf c .ccw ∗ DL c .ccw) ∗ done c .bar) (steps c) := by
  rw [steps_later]
  refine Trs.append ((ldStart_all kvf κ ιs c _ pays).append (bar_start kvf κ ιs c _)) (Trs.learn (K' := Nb c)
    (R := iprop((N2 (F := F) c .cw ∗ N2 c .ccw) ∗ ((ownAny .cw (nx .cw c) (slotS 1) ∗ ownAny .ccw (nx .ccw c) (slotS 1)) ∗ done c .bar ∗ (Rest c .cw ∗ Rest c .ccw) ∗ qOwn c qf) ∗ Owe c pays1)) ?_
    (Trs.append (ldWait_all kvf κ ιs c _ pays1 (by decide)) ?_))
  · refine ((barWait_tr kvf κ ιs c pays1 (by decide)).one.frame iprop((N2 (F := F) c .cw ∗ N2 c .ccw) ∗ (Rest c .cw ∗ Rest c .ccw) ∗ qOwn c qf)).eqs (Entails.of_eq ?_) (Entails.of_eq ?_)
    · ac_rfl
    · ac_rfl
  · refine ((run_later kvf κ ιs c qf).frame iprop((Src kvf c .cw ∗ DL c .cw) ∗ (Src kvf c .ccw ∗ DL c .ccw) ∗ done c .bar)).eqs (Entails.of_eq ?_) (BI.Entails.refl _)
    unfold N3 At P1 Rest
    rw [show filled .cw (kvf c) = filled .cw (blk kvf .cw 0 c) from rfl, show filled .ccw (kvf c) = filled .ccw (blk kvf .ccw 0 c) from rfl]
    ac_rfl

/-! ## The end -/

/-- The direction a head goes. -/
def dirH (h : Fin 16) : Dir := if h.val < 8 then .cw else .ccw
theorem dirH_hd (d : Dir) (u : Fin 4) (i : Fin 2) : dirH (hd d u i) = d := by revert d u i; decide

def fO (h : Fin 16) : Vec F S1x1024x128 .f32 := accO qf (fun n => blk kvf (dirH h) n c) h 3
def fL (h : Fin 16) : Vec F S1x1024x1 .f32 := accL qf (fun n => blk kvf (dirH h) n c) h 3
/-- What the device's body leaves in its result. -/
def outF : S16x1024x128.Idx → Elt F .f32 := fun x => k0_pay1 (fO kvf c qf (r128 x)) (fL kvf c qf (r128 x)) (ix3 (0 : Fin 1) (x 1) (x 2))

theorem St2_eq (d : Dir) (u : Fin 4) : St2 c d u qf (fun n => blk kvf d n c) 3
    = iprop(St c (hd d u 0) (fO kvf c qf (hd d u 0)) (fL kvf c qf (hd d u 0)) ∗ St c (hd d u 1) (fO kvf c qf (hd d u 1)) (fL kvf c qf (hd d u 1))) := by
  unfold fO fL St2
  rw [dirH_hd, dirH_hd]

theorem rows_o (g : Fin 16 → S16x1024x128.Idx → Elt F .f32) : (bigSep Finset.univ fun h => oOwn c (rowS r128 h) (g h)) = oOwn c Finset.univ (fun x => g (r128 x) x) := by
  have e (h : Fin 16) : oOwn c (rowS r128 h) (g h) = oOwn c (rowS r128 h) (fun x => g (r128 x) x) := by
    unfold oOwn
    exact pointsTo_congr fun x hx => by rw [(Finset.mem_filter.mp hx).2]
  rw [bigSep_congr fun h _ => e h, ← rows_univ r128]
  exact (pointsTo_biUnion (ℓ := oM.view.loc (c : Thread nD τ)) Finset.univ (rowS r128) (fun b _ b' _ h => rows_disjoint r128 h)).symm
theorem rows_l (g : Fin 16 → S16x1024x1.Idx → Elt F .f32) : (bigSep Finset.univ fun h => lOwn c (rowS r1 h) (g h)) = lOwn c Finset.univ (fun x => g (r1 x) x) := by
  have e (h : Fin 16) : lOwn c (rowS r1 h) (g h) = lOwn c (rowS r1 h) (fun x => g (r1 x) x) := by
    unfold lOwn
    exact pointsTo_congr fun x hx => by rw [(Finset.mem_filter.mp hx).2]
  rw [bigSep_congr fun h _ => e h, ← rows_univ r1]
  exact (pointsTo_biUnion (ℓ := lM.view.loc (c : Thread nD τ)) Finset.univ (rowS r1) (fun b _ b' _ h => rows_disjoint r1 h)).symm

/-- The rounds of a direction's cells, over. -/
def DoneD (d : Dir) : sProp 𝕄 :=
  iprop(DL (F := F) c d ∗ D1 c d ∗ D2 c d ∗ (four fun u => done c (.send2 d u)) ∗ four fun u => done c (.recv2 d u))

/-- What the body leaves. -/
def End : sProp 𝕄 :=
  iprop(oOwn c Finset.univ (outF kvf c qf) ∗ (∃ f, lOwn (F := F) c Finset.univ f) ∗ qOwn c qf ∗ (ownAny .cw c Finset.univ ∗ ownAny .ccw c Finset.univ)
    ∗ (Src kvf c .cw ∗ Src kvf c .ccw) ∗ (DoneD c .cw ∗ DoneD c .ccw) ∗ done c .bar ∗ Owe c [])

theorem slots_back (d : Dir) : iprop(own d c (slotS 0) fullShare.left (filled d (blk kvf d 2 c)) ∗ (four fun u => own d c (subS 0 u) fullShare.right (filled d (blk kvf d 2 c)))
    ∗ four fun u => own d c (subS 1 u) fullShare (filled d (blk kvf d 3 c))) ⊢ ownAny d c Finset.univ := by
  unfold ownAny
  rw [← own_slot, ← own_slot, ← sepA, ← own_halves]
  iintro ⟨H0, H1⟩
  iexists fun x => if c0 x = 0 then filled d (blk kvf d 2 c) x else filled d (blk kvf d 3 c) x
  iapply (Entails.of_eq (own_whole d c fullShare _).symm)
  isplitl [H0]
  · iapply (Entails.of_eq (own_congr d c (S := slotS 0) fullShare (f := filled d (blk kvf d 2 c)) fun x hx => (if_pos (Finset.mem_filter.mp hx).2).symm)) $$ H0
  iapply (Entails.of_eq (own_congr d c (S := slotS 1) fullShare (f := filled d (blk kvf d 3 c)) fun x hx => (if_neg (fun h => by rw [(Finset.mem_filter.mp hx).2] at h; exact absurd h (by decide))).symm)) $$ H1

theorem P16_split (d : Dir) : P16 kvf c qf d ⊢ iprop((four fun u => St2 c d u qf (fun n => blk kvf d n c) 3) ∗ ownAny d c Finset.univ
    ∗ D1 c d ∗ D2 c d ∗ (four fun u => done c (.send2 d u)) ∗ four fun u => done c (.recv2 d u)) := by
  unfold P16
  rw [four_sep (fun u => own d c (subS 0 u) fullShare.right (filled d (blk kvf d 2 c))) (fun u => done c (.send2 d u)),
    four_sep (fun u => St2 c d u qf (fun n => blk kvf d n c) 3) (fun u => iprop(own d c (subS 1 u) fullShare (filled d (blk kvf d 3 c)) ∗ done c (.recv2 d u))),
    four_sep (fun u => own d c (subS 1 u) fullShare (filled d (blk kvf d 3 c))) (fun u => done c (.recv2 d u))]
  iintro ⟨⟨H0, Hd⟩, Hl, H1, H2, HS, Hs, Hr⟩
  isplitl [HS]; · iexact HS
  isplitl [H0 Hl Hs]
  · iapply (slots_back kvf c d)
    isplitl [Hl]; · iexact Hl
    isplitl [H0]; · iexact H0
    iexact Hs
  isplitl [H1]; · iexact H1
  isplitl [H2]; · iexact H2
  isplitl [Hd]; · iexact Hd
  iexact Hr

/-- What the body starts from, beside what is open. -/
def Beg : sProp 𝕄 :=
  iprop((N0 kvf c .cw ∗ N0 kvf c .ccw) ∗ ((crd c .bar 0 2 ∗ pos c .bar) ∗ (Rest c .cw ∗ Rest c .ccw) ∗ qOwn c qf) ∗ Owe c pays)

theorem lift_dev {α : Type} (k : Dev nD → Prog (TpuEff nD τ sig (Elt F) Λ₀ .tc) α) : (Prog.lift .deviceId >>= k) = Prog.op .deviceId k := rfl
theorem dev_step {α : Type} (k : Dev nD → Prog (TpuEff nD τ sig (Elt F) Λ₀ .tc) α) (Φ : α → sProp 𝕄) {P : sProp 𝕄} (h : P ⊢ Wp c (k c) Φ) : P ⊢ Wp c (Prog.op .deviceId k) Φ :=
  h.trans (Entails.of_eq (wp_deviceId ..).symm)

theorem body_run (t : Fin cfg0.N) (Φ : PUnit → sProp 𝕄) :
    iprop(Ctx kvf κ ιs c ∗ Beg kvf c qf ∗ (End kvf c qf -∗ Φ ⟨⟩)) ⊢ Wp c (bodyAt0 t) Φ := by
  rw [body_eq]
  rw [lift_dev]
  refine dev_step c (fun d0 => seqs (steps d0) norm) Φ ?_
  iintro ⟨#HK, HB, Hk⟩
  iapply ((run_steps kvf κ ιs c qf).run norm Φ)
  isplitr; · iexact HK
  isplitl [HB]; · unfold Beg; iexact HB
  unfold At
  iintro ⟨⟨⟨Ha, Hb⟩, Hq, HO⟩, ⟨Hsa, Hda⟩, ⟨Hsb, Hdb⟩, Hbar⟩
  ihave Ha := (P16_split kvf c qf .cw) $$ Ha
  ihave Hb := (P16_split kvf c qf .ccw) $$ Hb
  icases Ha with ⟨HSa, Hwa, Hxa⟩
  icases Hb with ⟨HSb, Hwb, Hxb⟩
  iapply (norm_tr c (fO kvf c qf) (fL kvf c qf) Φ)
  isplitl [HSa HSb]
  · iapply (Entails.of_eq (bigSep_heads (fun h => St c h (fO kvf c qf h) (fL kvf c qf h))).symm)
    isplitl [HSa]
    · iapply (Entails.of_eq (show (four fun u => St2 c .cw u qf (fun n => blk kvf .cw n c) 3) = _ by simp only [four, St2_eq])) $$ HSa
    iapply (Entails.of_eq (show (four fun u => St2 c .ccw u qf (fun n => blk kvf .ccw n c) 3) = _ by simp only [four, St2_eq])) $$ HSb
  iintro HS
  iapply (pure_intro c)
  iapply Hk
  have e : (bigSep Finset.univ fun h => St c h (k0_pay1 (fO kvf c qf h) (fL kvf c qf h)) (fL kvf c qf h))
      ⊢ iprop(oOwn c Finset.univ (outF kvf c qf) ∗ ∃ f, lOwn (F := F) c Finset.univ f) := by
    simp only [St]
    rw [bigSep_sep', rows_o, rows_l]
    iintro ⟨H1, H2⟩
    isplitl [H1]; · iexact H1
    iexists _; iexact H2
  ihave HS := e $$ HS
  icases HS with ⟨Ho, Hl⟩
  unfold End DoneD
  isplitl [Ho]; · iexact Ho
  isplitl [Hl]; · iexact Hl
  isplitl [Hq]; · iexact Hq
  isplitl [Hwa Hwb]; · isplitl [Hwa] <;> iassumption
  isplitl [Hsa Hsb]; · isplitl [Hsa] <;> iassumption
  isplitl [Hda Hxa Hdb Hxb]
  · isplitl [Hda Hxa]
    · isplitl [Hda] <;> iassumption
    isplitl [Hdb] <;> iassumption
  isplitl [Hbar]; · iexact Hbar
  iexact HO
end
end Cert.KernelIdeal.Att

end
-- ==== Proof.Math.lean ====
/-
  A weighted mean over real scores: shifting every score by one real number and dividing each weight by the
  weights' sum gives the same mean as dividing once at the end.
-/
module

public import Idealize.ShloMosaic.Lib.Pointwise

@[expose] public section

noncomputable section

namespace Cert.Softmax

open Idealize.ShloMosaic

/-- The sum of reals, taken in the extended reals. -/
theorem coe_total {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real goes into a sum of extended reals. -/
theorem total_mul {ι : Type} (s : Finset ι) (f : ι → EReal) {a : ℝ} (ha : 0 ≤ a) :
    (∑ k ∈ s, f k) * (a : EReal) = ∑ k ∈ s, f k * (a : EReal) := by
  classical
  induction s using Finset.induction_on with
  | empty => simp
  | insert b s hb ih =>
    rw [Finset.sum_insert hb, Finset.sum_insert hb, ← ih]
    exact EReal.right_distrib_of_nonneg_of_ne_top (by exact_mod_cast ha) (EReal.coe_ne_top a) _ _

theorem exp_real (r : ℝ) : Ideal.exp (r : EReal) = ((Real.exp r : ℝ) : EReal) := rfl

/-- The mean with shifted scores and each weight divided is the mean divided at the end. -/
theorem mean_shift {ι : Type} [Fintype ι] [Nonempty ι] (s : ι → ℝ) (v : ι → EReal) (M : ℝ) :
    ∑ k, v k * Ideal.div (Ideal.exp ((s k : EReal) - (M : EReal))) (∑ k', Ideal.exp ((s k' : EReal) - (M : EReal)))
      = Ideal.div (∑ k, Ideal.exp (s k : EReal) * v k) (∑ k, Ideal.exp (s k : EReal)) := by
  have hL : 0 < ∑ k, Real.exp (s k) := Finset.sum_pos (fun k _ => Real.exp_pos _) Finset.univ_nonempty
  have hM : ∑ k, Real.exp (s k - M) = (∑ k, Real.exp (s k)) / Real.exp M := by
    rw [Finset.sum_div]; exact Finset.sum_congr rfl fun k _ => Real.exp_sub _ _
  have e1 : (∑ k, Ideal.exp ((s k : EReal) - (M : EReal))) = ((∑ k, Real.exp (s k - M) : ℝ) : EReal) := by
    rw [coe_total]; exact Finset.sum_congr rfl fun k _ => by rw [← EReal.coe_sub, exp_real]
  have e2 : (∑ k, Ideal.exp (s k : EReal)) = ((∑ k, Real.exp (s k) : ℝ) : EReal) := by
    rw [coe_total]; exact Finset.sum_congr rfl fun k _ => exp_real _
  have hL' : ∑ k, Real.exp (s k - M) ≠ 0 := by
    rw [hM]; exact (div_pos hL (Real.exp_pos M)).ne'
  rw [e1, e2, Ideal.div_coe hL.ne', total_mul _ _ (one_div_pos.mpr hL).le]
  refine Finset.sum_congr rfl fun k _ => ?_
  rw [Ideal.div_coe hL', ← EReal.coe_sub, exp_real, exp_real, mul_comm ((Real.exp (s k) : ℝ) : EReal) (v k), mul_assoc,
    ← EReal.coe_mul, ← EReal.coe_mul]
  congr 2
  rw [hM, Real.exp_sub]
  have := (Real.exp_pos M).ne'
  field_simp

/-- The largest of finitely many reals, from nothing, is real. -/
theorem top_real {ι : Type} [Fintype ι] [Nonempty ι] (s : ι → ℝ) :
    ∃ M : ℝ, (Finset.univ : Finset ι).fold max (⊥ : EReal) (fun k => (s k : EReal)) = (M : EReal) := by
  obtain ⟨k₀⟩ := (inferInstance : Nonempty ι)
  have h1 : (Finset.univ : Finset ι).fold max (⊥ : EReal) (fun k => (s k : EReal)) ≠ ⊤ :=
    ((Finset.fold_max_lt (c := (⊤ : EReal))).mpr ⟨bot_lt_top, fun k _ => EReal.coe_lt_top _⟩).ne
  have h2 : (Finset.univ : Finset ι).fold max (⊥ : EReal) (fun k => (s k : EReal)) ≠ ⊥ :=
    ((Finset.lt_fold_max (c := (⊥ : EReal))).mpr (Or.inr ⟨k₀, Finset.mem_univ _, EReal.bot_lt_coe _⟩)).ne'
  exact ⟨_, (EReal.coe_toReal h1 h2).symm⟩

end Cert.Softmax

end
-- ==== Proof.Weights.lean ====
/-
  A device's result, one element at a time, as sums over the four blocks.
-/
module

public import proofs.«01_k».proof.Proof.Body
public import proofs.«01_k».proof.Proof.Math
public import Idealize.ShloMosaic.Lib.Pointwise.IndexBridge

@[expose] public section

noncomputable section

namespace Cert.KernelIdeal.Att

open Idealize.ShloMosaic
open Cert.KernelIdeal.Gen

/-- The scores' scale. -/
abbrev scale : EReal := Ideal.ofBits .f32 0x3DB504F3#32

/-- The score of query `i` against key `j` of a block, in head `h`. -/
def score (q k : S16x1024x128.Idx → EReal) (h : Fin 16) (i j : Fin 1024) : EReal :=
  ∑ d : Fin 128, q (ix3 h i d) * scale * k (ix3 h j d)

variable (q : S16x1024x128.Idx → EReal) (h : Fin 16)

theorem pay2_at (k : S16x1024x128.Idx → EReal) (i j : Fin 1024) :
    k0_pay2 (F := Ideal) (row128 h q) (rowB h k) (ix2 i j) = Ideal.exp (score q k h i j) := by
  pointwise [k0_pay2, row128, rowB]
  rfl

theorem pay3_at (k v : S16x1024x128.Idx → EReal) (a : S1x1024x128.Idx → EReal) (i : Fin 1024) (d : Fin 128) :
    k0_pay3 (F := Ideal) (row128 h q) (rowB h k) (rowB h v) a (ix3 (0 : Fin 1) i d)
      = a (ix3 (0 : Fin 1) i d) + ∑ j : Fin 1024, Ideal.exp (score q k h i j) * v (ix3 h j d) := by
  pointwise [k0_pay3, rowB]
  exact congrArg (_ + ·) (Finset.sum_congr rfl fun j _ => congrArg₂ (· * ·) (pay2_at q h k i j) rfl)

theorem pay75_at (k v : S16x1024x128.Idx → EReal) (i : Fin 1024) (d : Fin 128) :
    k0_pay75 (F := Ideal) (row128 h q) (rowB h k) (rowB h v) (ix3 (0 : Fin 1) i d)
      = ∑ j : Fin 1024, Ideal.exp (score q k h i j) * v (ix3 h j d) := by
  pointwise [k0_pay75, show k0_pay74 (F := Ideal) = k0_pay2 from rfl, rowB]
  exact Finset.sum_congr rfl fun j _ => congrArg₂ (· * ·) (pay2_at q h k i j) rfl

theorem pay4_at (k : S16x1024x128.Idx → EReal) (a : S1x1024x1.Idx → EReal) (i : Fin 1024) :
    k0_pay98 (k0_pay4 (F := Ideal) (row128 h q) (rowB h k) a) (ix3 (0 : Fin 1) i (0 : Fin 1))
      = a (ix3 (0 : Fin 1) i (0 : Fin 1)) + ∑ j : Fin 1024, Ideal.exp (score q k h i j) := by
  pointwise [k0_pay98, k0_pay4]
  exact congrArg (_ + ·) (Finset.sum_congr rfl fun j _ => pay2_at q h k i j)

theorem pay76_at (k : S16x1024x128.Idx → EReal) (i : Fin 1024) :
    k0_pay76 (F := Ideal) (row128 h q) (rowB h k) (ix3 (0 : Fin 1) i (0 : Fin 1)) = ∑ j : Fin 1024, Ideal.exp (score q k h i j) := by
  pointwise [k0_pay76, show k0_pay74 (F := Ideal) = k0_pay2 from rfl]
  exact Finset.sum_congr rfl fun j _ => pay2_at q h k i j

theorem pay1_at (o : S1x1024x128.Idx → EReal) (l : S1x1024x1.Idx → EReal) (i : Fin 1024) (d : Fin 128) :
    k0_pay1 (F := Ideal) o l (ix3 (0 : Fin 1) i d) = Ideal.div (o (ix3 (0 : Fin 1) i d)) (l (ix3 (0 : Fin 1) i (0 : Fin 1))) := by
  pointwise [k0_pay1]

/-- A head's sums after `n + 1` blocks. -/
theorem accO_at (bs : ℕ → Blk Ideal) (n : ℕ) (i : Fin 1024) (d : Fin 128) : accO q bs h n (ix3 (0 : Fin 1) i d)
    = ∑ b ∈ Finset.range (n + 1), ∑ j : Fin 1024, Ideal.exp (score q (bs b 0) h i j) * bs b 1 (ix3 h j d) := by
  induction n with
  | zero => rw [zero_add, Finset.sum_range_one]; exact pay75_at q h _ _ i d
  | succ n ih => rw [Finset.sum_range_succ, ← ih]; exact pay3_at q h _ _ _ i d
theorem accL_at (bs : ℕ → Blk Ideal) (n : ℕ) (i : Fin 1024) : accL q bs h n (ix3 (0 : Fin 1) i (0 : Fin 1))
    = ∑ b ∈ Finset.range (n + 1), ∑ j : Fin 1024, Ideal.exp (score q (bs b 0) h i j) := by
  induction n with
  | zero => rw [zero_add, Finset.sum_range_one]; exact pay76_at q h _ i
  | succ n ih => rw [Finset.sum_range_succ, ← ih]; exact pay4_at q h _ _ i

theorem outF_at (kvf : Dev nD → Blk Ideal) (c : Dev nD) (i : Fin 1024) (d : Fin 128) : outF kvf c q (ix3 h i d)
    = Ideal.div (∑ b ∈ Finset.range 4, ∑ j : Fin 1024, Ideal.exp (score q (blk kvf (dirH h) b c 0) h i j) * blk kvf (dirH h) b c 1 (ix3 h j d))
        (∑ b ∈ Finset.range 4, ∑ j : Fin 1024, Ideal.exp (score q (blk kvf (dirH h) b c 0) h i j)) := by
  show k0_pay1 (F := Ideal) (fO kvf c q h) (fL kvf c q h) (ValueIdx.ix3 (0 : Fin 1) i d) = _
  rw [← ix3_eq_valueIdx, pay1_at]
  unfold fO fL
  rw [accO_at, accL_at]

/-! ## The four blocks are the four along the ring -/

/-- A device's place along the axis that is exchanged over. -/
def zc (c : Dev nD) : Fin 4 := ⟨c.val % 4, Nat.mod_lt _ (by decide)⟩

theorem ring_places (d : Dir) (c : Dev nD) : Function.Bijective fun b : Fin 4 => zc ((pv d)^[b.val] c) := by
  revert d c; decide +kernel

theorem ring_sum (g : Fin 4 → EReal) (d : Dir) (c : Dev nD) : ∑ b ∈ Finset.range 4, g (zc ((pv d)^[b] c)) = ∑ z, g z := by
  rw [Finset.sum_range, (ring_places d c).sum_comp g]

end Cert.KernelIdeal.Att

end
-- ==== Proof.Deal.lean ====
/-
  What each device holds at the start of the exchange, and how it is dealt out.
-/
module

public import proofs.«01_k».proof.Proof.Body

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

/-! ## A device's cells one by one -/

/-- One of each of a direction's roles. -/
def grp {M : Type} [URA M] (Φ : Role → sProp M) (d : Dir) : sProp M :=
  iprop((four fun u => iprop(Φ (.load d u 0) ∗ Φ (.load d u 1))) ∗ (Φ (.send d 0) ∗ Φ (.send d 1)) ∗ (Φ (.recv d 0) ∗ Φ (.recv d 1))
    ∗ (four fun u => Φ (.send2 d u)) ∗ (four fun u => Φ (.recv2 d u)) ∗ Φ (.credit d))

theorem bigSep_dir {M : Type} [URA M] (Φ : Dir → sProp M) : bigSep Finset.univ Φ = iprop(Φ .cw ∗ Φ .ccw) := by
  rw [bigSep_univ_eq_bigSepL [.cw, .ccw] (by ext x; cases x <;> simp) (by decide)]; rfl

theorem bigSep_one {M : Type} [URA M] (Φ : Unit → sProp M) : bigSep Finset.univ Φ = Φ () := by
  rw [show (Finset.univ : Finset Unit) = {()} from rfl, bigSep_singleton]

theorem all_roles {M : Type} [URA M] (Φ : Role → sProp M) : (bigSep Finset.univ fun o : Own => Φ (role o)) = iprop(grp Φ .cw ∗ grp Φ .ccw) := by
  have h (d : Dir) : (bigSep Finset.univ fun x : OwnD => Φ (roleD d x)) = grp Φ d := by
    unfold OwnD
    rw [bigSep_univ_sum, bigSep_univ_sum, bigSep_univ_sum, bigSep_univ_sum, bigSep_univ_sum, bigSep_univ_prod, bigSep_four, bigSep_four, bigSep_four, bigSep_two, bigSep_two,
      bigSep_one]
    simp only [bigSep_two]
    rfl
  unfold Own
  rw [bigSep_univ_prod, bigSep_dir]
  exact congrArg₂ _ (h .cw) (h .ccw)

/-! ## What is dealt -/

section
variable (c : Dev nD) (d : Dir)

/-- The tokens a device keeps, those the device before it uses, and those the device after it uses. -/
def TokS : sProp 𝕄 := iprop(TL (F := F) c d ∗ (tok c (.send d 0) 0 ∗ tok c (.send d 1) 0) ∗ four fun u => tok c (.send2 d u) 0)
def TokN : sProp 𝕄 := iprop((tok (F := F) c (.recv d 0) 0 ∗ tok c (.recv d 1) 0) ∗ four fun u => tok c (.recv2 d u) 0)
def TokP : sProp 𝕄 := iprop(tok (F := F) c (.credit d) 0 ∗ tok c (.credit d) 1 ∗ tok c .bar (fDir d))
def TokW : sProp 𝕄 := iprop(Release.writeTok (ES (F := F)) (c, d, 0) 1 ∗ Release.writeTok (ES (F := F)) (c, d, 1) 1)
def TokR : sProp 𝕄 := iprop(Release.readerAt (ES (F := F)) (c, d, 0) 0 ∗ Release.readerAt (ES (F := F)) (c, d, 1) 0)
def Crd : sProp 𝕄 :=
  iprop((crd (F := F) c (.recv d 0) 0 nSlot ∗ crd c (.recv d 1) 0 nSlot) ∗ (four fun u => crd c (.recv2 d u) 0 nSub) ∗ crd c (.credit d) 0 1 ∗ crd c (.credit d) 1 1)

/-- What a device holds of the exchange in one direction, its positions apart. -/
def Lin : sProp 𝕄 := iprop((TokS (F := F) c d ∗ TokN (nx d c) d ∗ TokP (pv d c) d) ∗ (TokW (nx d c) d ∗ TokR c d) ∗ Crd c d)

theorem beg_eq (kvf : Dev nD → Blk F) : iprop((grp (pos (F := F) c) d ∗ Lin c d) ∗ (InA c d ∗ Src kvf c d ∗ ownAny d c (slotS 1)) ∗ T2 c d) = iprop(N0 kvf c d ∗ Rest c d) := by
  unfold grp Lin N0 Rest R3 R9 R13 TokS TokN TokP TokW TokR Crd T1 T3 T4 T5 T6 T7 T9 T10 T11 T12 T13 T15 T16 PL writeT readT
  rw [four_sep (fun u => tok (F := F) c (.send2 d u) 0) (fun u => tok (nx d c) (.recv2 d u) 0), four_sep (fun u => crd (F := F) c (.recv2 d u) 0 nSub) (fun u => pos c (.recv2 d u))]
  ac_rfl

theorem done_eq : DoneD (F := F) c d = grp (done c) d := by
  unfold DoneD grp DL D1 D2
  ac_rfl
end

theorem beg_all (kvf : Dev nD → Blk F) (qf : S16x1024x128.Idx → Elt F .f32) (c : Dev nD) :
    iprop(((grp (pos (F := F) c) .cw ∗ Lin c .cw) ∗ (InA c .cw ∗ Src kvf c .cw ∗ ownAny .cw c (slotS 1)) ∗ T2 c .cw)
      ∗ ((grp (pos (F := F) c) .ccw ∗ Lin c .ccw) ∗ (InA c .ccw ∗ Src kvf c .ccw ∗ ownAny .ccw c (slotS 1)) ∗ T2 c .ccw) ∗ crd c .bar 0 2 ∗ pos c .bar ∗ qOwn c qf ∗ Owe c pays)
      = Beg kvf c qf := by
  rw [beg_eq, beg_eq]
  unfold Beg
  ac_rfl

/-! ## Between neighbours -/

def nxE (d : Dir) : Dev nD ≃ Dev nD := ⟨nx d, pv d, pv_nx d, nx_pv d⟩

theorem bigSep_nx {M : Type} [URA M] (d : Dir) (Φ : Dev nD → sProp M) : bigSep Finset.univ Φ = bigSep Finset.univ fun c => Φ (nx d c) := bigSep_univ_equiv (nxE d) Φ
theorem bigSep_pv {M : Type} [URA M] (d : Dir) (Φ : Dev nD → sProp M) : bigSep Finset.univ Φ = bigSep Finset.univ fun c => Φ (pv d c) := bigSep_univ_equiv (nxE d).symm Φ

theorem around (d : Dir) : (bigSep Finset.univ fun c => iprop((TokS (F := F) c d ∗ TokN c d ∗ TokP c d) ∗ (TokW c d ∗ TokR c d) ∗ Crd c d)) = bigSep Finset.univ fun c => Lin c d := by
  unfold Lin
  simp only [bigSep_sep']
  rw [← bigSep_nx d (fun c => TokN (F := F) c d), ← bigSep_pv d (fun c => TokP (F := F) c d), ← bigSep_nx d (fun c => TokW (F := F) c d)]

/-! ## The cells and tokens of the launch -/

abbrev TokIx : Type := Own ⊕ (Dir ⊕ Dir)
def tokRole : TokIx → Role
  | .inl o => role o
  | .inr (.inl d) => .credit d
  | .inr (.inr _) => .bar
def tokIx : TokIx → Fin 2
  | .inl _ => 0
  | .inr (.inl _) => 1
  | .inr (.inr d) => fDir d
theorem role_ne_bar (o : Own) : role o ≠ .bar := by
  obtain ⟨d, (x | h | h | u | u | _)⟩ := o <;> simp [role, roleD]
theorem fDir_inj : Function.Injective fDir := fun a b h => by rw [← dirF_fDir a, h, dirF_fDir]
theorem tok_inj : Function.Injective (fun x : TokIx => (tokRole x, tokIx x)) := by
  rintro (o | d | d) (o' | d' | d') h <;> simp only [tokRole, tokIx, Prod.mk.injEq] at h
  · rw [role_inj h.1]
  · exact absurd h.2 (by decide)
  · exact absurd h.1 (role_ne_bar o)
  · exact absurd h.2 (by decide)
  · rw [Role.credit.inj h.1]
  · exact absurd h.1 (by simp)
  · exact absurd h.1.symm (role_ne_bar o')
  · exact absurd h.1 (by simp)
  · rw [fDir_inj h.2]

def barEmb : Dev nD ↪ GSem nD τ sig := ⟨fun c => cell c .bar, fun _ _ h => (cell_inj h).1⟩
def ownEmb : Dev nD × Own ↪ GSem nD τ sig := ⟨fun x => cell x.1 (role x.2), fun _ _ h => Prod.ext (cell_inj h).1 (role_inj (cell_inj h).2)⟩
def tokEmb : Dev nD × TokIx ↪ GSem nD τ sig × ℕ × Fin 2 := ⟨fun x => (cell x.1 (tokRole x.2), 0, tokIx x.2), fun x y h => by
  have h1 := cell_inj (congrArg Prod.fst h)
  exact Prod.ext h1.1 (tok_inj (Prod.ext h1.2 (congrArg (fun t => t.2.2) h)))⟩
abbrev barCells : Finset (GSem nD τ sig) := Finset.univ.map barEmb
abbrev ownCells : Finset (GSem nD τ sig) := Finset.univ.map ownEmb
def allToks : Finset (GSem nD τ sig × ℕ × Fin 2) := Finset.univ.map tokEmb

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact role_ne_bar _ (cell_inj h).2

theorem toks_eq : bigSep allToks (fun x => (dutyTok (ER (F := F)) x.1 x.2.1 x.2.2 : sProp 𝕄))
    = bigSep Finset.univ fun c : Dev nD => iprop((TokS c .cw ∗ TokN c .cw ∗ TokP c .cw) ∗ (TokS c .ccw ∗ TokN c .ccw ∗ TokP c .ccw)) := by
  unfold allToks
  rw [bigSep_map, bigSep_univ_prod]
  refine bigSep_congr fun c _ => ?_
  rw [bigSep_univ_sum, bigSep_univ_sum, bigSep_dir, bigSep_dir]
  refine (congrArg₂ (fun a b : sProp 𝕄 => iprop(a ∗ b)) (all_roles (fun ρ => tok (F := F) c ρ 0)) (Eq.refl iprop((tok (F := F) c (.credit .cw) 1 ∗ tok c (.credit .ccw) 1) ∗ tok c .bar 0 ∗ tok c .bar 1))).trans ?_
  unfold grp TokS TokN TokP TL
  beta_reduce
  rw [show fDir .cw = 0 from rfl, show fDir .ccw = 1 from rfl]
  ac_rfl

/-! ## The slots' counts at the launch -/

theorem keys_eq {M : Type} [URA M] (Φ : Key → sProp M) :
    bigSep Finset.univ Φ = bigSep Finset.univ fun c : Dev nD => iprop((Φ (c, .cw, 0) ∗ Φ (c, .cw, 1)) ∗ (Φ (c, .ccw, 0) ∗ Φ (c, .ccw, 1))) := by
  unfold Key
  rw [bigSep_univ_prod]
  refine bigSep_congr fun c _ => ?_
  rw [bigSep_univ_prod, bigSep_dir, bigSep_two, bigSep_two]

theorem writes_eq : bigSep ((Finset.univ : Finset Key) ×ˢ Finset.range 1) (fun x => (Release.writeTok (ES (F := F)) x.1 (x.2 + 1) : sProp 𝕄))
    = bigSep Finset.univ fun c : Dev nD => iprop(TokW c .cw ∗ TokW c .ccw) := by
  rw [Finset.range_one, Finset.product_singleton, bigSep_map]
  exact keys_eq (fun k => (Release.writeTok (ES (F := F)) k 1 : sProp 𝕄))

theorem reads_eq : bigSep (Finset.univ : Finset Key) (fun k => (Release.readerAt (ES (F := F)) k 0 : sProp 𝕄)) = bigSep Finset.univ fun c : Dev nD => iprop(TokR c .cw ∗ TokR c .ccw) :=
  keys_eq (fun k => (Release.readerAt (ES (F := F)) k 0 : sProp 𝕄))

/-! ## What the others owe a device -/

def Pay.src (c : Dev nD) : Pay → Dev nD
  | .bar d | .credit d _ => nx d c
  | .recv d _ | .recv2 d _ => pv d c
theorem Pay.dev_src (p : Pay) (d c : Dev nD) : p.dev d = c ↔ d = p.src c := by
  cases p <;> (constructor <;> rintro rfl <;> simp only [Pay.dev, Pay.src, nx_pv, pv_nx])

def times (l : List Pay) (ρ : Role) (i : Fin 2) : ℕ := l.countP fun p => decide (p.role = ρ ∧ p.ix = i)

theorem tally_sum (p : Pay) (c : Dev nD) (ρ : Role) (i : Fin 2) : ∑ d, p.tally d (cell c ρ) i = if p.role = ρ ∧ p.ix = i then ramt ρ else 0 := by
  have h (d : Dev nD) : p.tally d (cell c ρ) i = if d = p.src c then (if p.role = ρ ∧ p.ix = i then ramt ρ else 0) else 0 := by
    unfold Pay.tally
    rw [tallyAt_apply]
    by_cases h1 : p.role = ρ ∧ p.ix = i
    · obtain ⟨rfl, rfl⟩ := h1
      by_cases h2 : d = p.src c
      · rw [if_pos ⟨by rw [(p.dev_src d c).mpr h2], rfl⟩, if_pos h2, if_pos ⟨rfl, rfl⟩]
      · rw [if_neg (fun h => h2 ((p.dev_src d c).mp (cell_inj h.1).1.symm)), if_neg h2]
    · rw [if_neg (fun h => h1 ⟨(cell_inj h.1).2.symm, h.2.symm⟩), if_neg h1, ite_self]
  rw [Finset.sum_congr rfl fun d _ => h d, Finset.sum_ite_eq' Finset.univ (p.src c) fun _ => _, if_pos (Finset.mem_univ _)]

theorem owed_sum (l : List Pay) (c : Dev nD) (ρ : Role) (i : Fin 2) : ∑ d, owed d l (cell c ρ) i = times l ρ i * ramt ρ := by
  induction l with
  | nil => simp [owed, times]
  | cons p l ih =>
    have h (d : Dev nD) : owed d (p :: l) (cell c ρ) i = owed d l (cell c ρ) i + p.tally d (cell c ρ) i := rfl
    rw [Finset.sum_congr rfl fun d _ => h d, Finset.sum_add_distrib, ih, tally_sum]
    generalize ramt ρ = n
    unfold times
    rw [List.countP_cons, Nat.add_mul]
    by_cases hp : p.role = ρ ∧ p.ix = i
    · rw [if_pos hp, if_pos (decide_eq_true hp), Nat.one_mul]
    · rw [if_neg hp, if_neg (by simpa using hp), Nat.zero_mul]

/-- What is owed at the start. -/
def O₀ (c : Dev nD) : CellTallies nD τ sig (Fin 2) := owed c pays

theorem launch_at (c : Dev nD) (ρ : Role) : (tallyOn (cell c ρ) (launchCredit (Pipeline.owing O₀) 0 (cell c ρ)) : CellTallies nD τ sig (Fin 2))
    = tallyAt (cell c ρ) 0 (times pays ρ 0 * ramt ρ) + tallyAt (cell c ρ) 1 (times pays ρ 1 * ramt ρ) := by
  unfold tallyAt
  rw [← tallyOn_add]
  refine congrArg _ (Finsupp.ext fun i => ?_)
  rw [Pipeline.launchCredit_owing, show (∑ d, O₀ d (cell c ρ) i) = _ from owed_sum pays c ρ i, Finsupp.add_apply]
  fin_cases i <;> simp

/-- What a device is owed at one of its cells. -/
def want (c : Dev nD) : Role → sProp 𝕄
  | .bar => crd c .bar 0 2
  | .recv d h => crd c (.recv d h) 0 nSlot
  | .recv2 d u => crd c (.recv2 d u) 0 nSub
  | .credit d => iprop(crd c (.credit d) 0 1 ∗ crd c (.credit d) 1 1)
  | _ => iprop(emp)

theorem times_recv (d : Dir) (h : Fin 2) : times pays (.recv d h) 0 = 1 := by cases d <;> revert h <;> decide
theorem times_recv2 (d : Dir) (u : Fin 4) : times pays (.recv2 d u) 0 = 1 := by cases d <;> revert u <;> decide
theorem times_credit (d : Dir) (i : Fin 2) : times pays (.credit d) i = 1 := by cases d <;> revert i <;> decide
theorem times_bar : times pays .bar 0 * ramt .bar = 2 := by decide

theorem cred_two (c : Dev nD) (ρ : Role) : (cred (tallyAt (cell c ρ) 0 (times pays ρ 0 * ramt ρ) + tallyAt (cell c ρ) 1 (times pays ρ 1 * ramt ρ)) : sProp 𝕄) ⊢ want c ρ := by
  have h1 (a b : ℕ) (ha : times pays ρ 0 * ramt ρ = a) (hb : times pays ρ 1 * ramt ρ = b) :
      (cred (tallyAt (cell c ρ) 0 (times pays ρ 0 * ramt ρ) + tallyAt (cell c ρ) 1 (times pays ρ 1 * ramt ρ)) : sProp 𝕄) ⊢ iprop(crd c ρ 0 a ∗ crd c ρ 1 b) := by
    rw [ha, hb]; exact (cred_add _ _).1
  have h2 (a : ℕ) (ha : times pays ρ 0 * ramt ρ = a) :
      (cred (tallyAt (cell c ρ) 0 (times pays ρ 0 * ramt ρ) + tallyAt (cell c ρ) 1 (times pays ρ 1 * ramt ρ)) : sProp 𝕄) ⊢ crd c ρ 0 a :=
    (h1 a _ ha rfl).trans (by iintro ⟨H, -⟩; iexact H)
  cases ρ with
  | bar => exact h2 2 times_bar
  | load d u kv => unfold want; iintro -; iempintro
  | send d h => unfold want; iintro -; iempintro
  | send2 d u => unfold want; iintro -; iempintro
  | recv d h =>
    exact h2 nSlot (by rw [times_recv, Nat.one_mul]; rfl)
  | recv2 d u =>
    exact h2 nSub (by rw [times_recv2, Nat.one_mul]; rfl)
  | credit d =>
    exact h1 1 1 (by rw [times_credit, Nat.one_mul]; rfl) (by rw [times_credit, Nat.one_mul]; rfl)

theorem creds (c : Dev nD) : (Pipeline.launchCred O₀ c : sProp 𝕄) ⊢ iprop(crd c .bar 0 2 ∗ Crd c .cw ∗ Crd c .ccw) := by
  let e : Own ⊕ Unit ↪ SemLoc sig := ⟨fun | .inl o => sem (role o) | .inr _ => sem .bar, by
    rintro (o | _) (o' | _) h
    · rw [role_inj (sem_inj h)]
    · exact absurd (sem_inj h) (role_ne_bar o)
    · exact absurd (sem_inj h).symm (role_ne_bar o')
    · rfl⟩
  have h (ρ : Role) : (cred (tallyOn (cell c ρ) (launchCredit (Pipeline.owing O₀) 0 (cell c ρ))) : sProp 𝕄) ⊢ want c ρ := by rw [launch_at]; exact cred_two c ρ
  unfold Pipeline.launchCred
  refine (bigSep_subset (Finset.subset_univ (Finset.univ.map e))).trans ?_
  rw [bigSep_map, bigSep_univ_sum, bigSep_one]
  refine (BI.sep_mono (bigSep_mono fun o _ => h (role o)) (h .bar)).trans ?_
  show iprop((bigSep Finset.univ fun o : Own => want c (role o)) ∗ want c .bar) ⊢ _
  rw [all_roles]
  unfold grp Crd
  dsimp only [want]
  iintro ⟨⟨⟨-, -, ⟨H1, H2⟩, -, H3, H4⟩, ⟨-, -, ⟨K1, K2⟩, -, K3, K4⟩⟩, HB⟩
  isplitl [HB]; · iexact HB
  isplitl [H1 H2 H3 H4]
  · isplitl [H1 H2]; · isplitl [H1]; · iexact H1
                       iexact H2
    isplitl [H3]; · iexact H3
    iexact H4
  · isplitl [K1 K2]; · isplitl [K1]; · iexact K1
                       iexact K2
    isplitl [K3]; · iexact K3
    iexact K4

end Cert.KernelIdeal.Att

end
-- ==== Proof.Exch.lean ====
/-
  The whole exchange on a device, from its buffers and what it holds at the start to its buffers and its counters at the end.
-/
module

public import proofs.«01_k».proof.Proof.Deal

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

variable (kvf : Dev nD → Blk F) (κ : GSem nD τ sig → ℕ) (ιs : Key → ℕ) (c : Dev nD) (qf : S16x1024x128.Idx → Elt F .f32)

/-! ## The buffers in their pieces -/

theorem any_rows : iprop((∃ f, oOwn (F := F) c Finset.univ f) ∗ ∃ f, lOwn (F := F) c Finset.univ f) ⊢ iprop(T2 (F := F) c .cw ∗ T2 c .ccw) := by
  iintro ⟨⟨%f, Ho⟩, ⟨%g, Hl⟩⟩
  ihave Ho := (Entails.of_eq (rows_o c (fun _ => f)).symm) $$ Ho
  ihave Hl := (Entails.of_eq (rows_l c (fun _ => g)).symm) $$ Hl
  have h : iprop((bigSep Finset.univ fun h => oOwn (F := F) c (rowS r128 h) f) ∗ bigSep Finset.univ fun h => lOwn (F := F) c (rowS r1 h) g) ⊢ iprop(T2 (F := F) c .cw ∗ T2 c .ccw) := by
    rw [← bigSep_sep']
    refine (bigSep_mono (Ψ := fun h => Any (F := F) c h) fun h _ => ?_).trans (Entails.of_eq ((bigSep_heads _).trans ?_))
    · unfold Any
      show iprop(oOwn c (rowS r128 h) f ∗ lOwn c (rowS r1 h) g) ⊢ iprop((∃ f, oOwn c (rowS r128 h) f) ∗ ∃ f, lOwn c (rowS r1 h) f)
      iintro ⟨Ho, Hl⟩
      isplitl [Ho]
      · iexists f; iexact Ho
      · iexists g; iexact Hl
    · unfold T2 Any2; rfl
  iapply h
  isplitl [Ho] <;> iassumption

theorem four_mono {M : Type} [URA M] {A B : Fin 4 → sProp M} (h : ∀ u, A u ⊢ B u) : four A ⊢ four B := by
  rw [← bigSep_four, ← bigSep_four]; exact bigSep_mono fun u _ => h u

theorem any_slots (d : Dir) : ownAny (F := F) d c Finset.univ ⊢ iprop(InA c d ∗ ownAny d c (slotS 1)) := by
  have h (f : S6.Idx → Elt F .bf16) : own d c (slotS 0) fullShare f ⊢ InA c d := by
    rw [own_slot]
    unfold InA
    refine four_mono fun u => ?_
    rw [own_sub]
    unfold ownAny
    iintro ⟨H0, H1⟩
    isplitl [H0]
    · iexists f; iexact H0
    · iexists f; iexact H1
  unfold ownAny
  iintro ⟨%f, H⟩
  ihave H := (Entails.of_eq (own_whole d c fullShare f)) $$ H
  icases H with ⟨H0, H1⟩
  isplitl [H0]
  · iapply (h f) $$ H0
  · iexists f; iexact H1

theorem srcs_eq : iprop(srcOwn 0 c Finset.univ (kvf c 0) ∗ srcOwn 1 c Finset.univ (kvf c 1)) = iprop(Src kvf c .cw ∗ Src kvf c .ccw) := by
  unfold Src
  rw [src_whole, src_whole, four_sep (fun u => srcOwn 0 c (pairS .cw u) (kvf c 0)) (fun u => srcOwn 1 c (pairS .cw u) (kvf c 1)),
    four_sep (fun u => srcOwn 0 c (pairS .ccw u) (kvf c 0)) (fun u => srcOwn 1 c (pairS .ccw u) (kvf c 1))]
  ac_rfl

/-! ## Before and after -/

/-- What a device holds of the exchange once its cells are open. -/
def Hold : sProp 𝕄 := iprop((grp (pos (F := F) c) .cw ∗ grp (pos c) .ccw) ∗ (Lin c .cw ∗ Lin c .ccw) ∗ crd c .bar 0 2 ∗ pos c .bar)
/-- Its buffers before. -/
def MemIn : sProp 𝕄 :=
  iprop((∃ f, oOwn (F := F) c Finset.univ f) ∗ (∃ f, lOwn (F := F) c Finset.univ f) ∗ qOwn c qf ∗ (ownAny .cw c Finset.univ ∗ ownAny .ccw c Finset.univ)
    ∗ srcOwn 0 c Finset.univ (kvf c 0) ∗ srcOwn 1 c Finset.univ (kvf c 1))
/-- Its buffers after. -/
def MemOut : sProp 𝕄 :=
  iprop(oOwn c Finset.univ (outF kvf c qf) ∗ (∃ f, lOwn (F := F) c Finset.univ f) ∗ qOwn c qf ∗ (ownAny .cw c Finset.univ ∗ ownAny .ccw c Finset.univ)
    ∗ srcOwn 0 c Finset.univ (kvf c 0) ∗ srcOwn 1 c Finset.univ (kvf c 1))

theorem beg_intro : iprop(Hold c ∗ MemIn kvf c qf ∗ Owe c pays) ⊢ Beg kvf c qf := by
  refine .trans ?_ (Entails.of_eq (beg_all kvf qf c))
  unfold Hold MemIn
  iintro ⟨⟨⟨Hp, Hp'⟩, ⟨Hl, Hl'⟩, Hc, Hb⟩, ⟨Ho, Hn, Hq, ⟨Hs, Hs'⟩, Hk, Hv⟩, HO⟩
  ihave Hrows := (any_rows (F := F) c) $$ [Ho Hn]
  · isplitl [Ho] <;> iassumption
  icases Hrows with ⟨Hr, Hr'⟩
  ihave Hs := (any_slots (F := F) c .cw) $$ Hs
  icases Hs with ⟨Hi, Hj⟩
  ihave Hs' := (any_slots (F := F) c .ccw) $$ Hs'
  icases Hs' with ⟨Hi', Hj'⟩
  ihave Hsrc := (Entails.of_eq (srcs_eq kvf c)) $$ [Hk Hv]
  · isplitl [Hk] <;> iassumption
  icases Hsrc with ⟨Hk, Hk'⟩
  isplitl [Hp Hl Hi Hk Hj Hr]
  · isplitl [Hp Hl]
    · isplitl [Hp] <;> iassumption
    isplitr [Hr]
    · isplitl [Hi]; · iexact Hi
      isplitl [Hk] <;> iassumption
    iexact Hr
  isplitl [Hp' Hl' Hi' Hk' Hj' Hr']
  · isplitl [Hp' Hl']
    · isplitl [Hp'] <;> iassumption
    isplitr [Hr']
    · isplitl [Hi']; · iexact Hi'
      isplitl [Hk'] <;> iassumption
    iexact Hr'
  isplitl [Hc]; · iexact Hc
  isplitl [Hb]; · iexact Hb
  isplitl [Hq]; · iexact Hq
  iexact HO

/-- The counters back at zero. -/
def Zeros : sProp 𝕄 := iprop((bigSep Finset.univ fun o : Own => semVal (cell c (role o)) 0) ∗ semVal (cell c .bar) 0)

theorem close_own (o : Own) : iprop(Rec kvf κ ιs ∗ done c (role o)) ⊢ |={Set.univ}=> semVal (cell c (role o)) 0 := by
  refine (BI.Laws.sep_mono_left (Rec_own kvf κ ιs c o)).trans ?_
  exact Rounds.cell_close ER (Rd kvf) (Set.mem_univ _) (fun h => h) (R := 1) (duties_later kvf _)
theorem close_bar : iprop(Rec kvf κ ιs ∗ done c .bar) ⊢ |={Set.univ}=> semVal (cell c .bar) 0 := by
  have h : Rec kvf κ ιs ⊢ cellInv (ER (F := F)) (Rd kvf) (κ (cell c .bar)) (cell c .bar) := by
    iintro H
    ihave H := (Rec_bar kvf κ ιs c) $$ H
    icases H with ⟨H, -⟩
    iexact H
  refine (BI.Laws.sep_mono_left h).trans ?_
  exact Rounds.cell_close ER (Rd kvf) (Set.mem_univ _) (fun h => h) (R := 1) (duties_later kvf _)

/-- A persistent fact beside each. -/
theorem with_each {I : Type} [DecidableEq I] (S : Finset I) (R : sProp 𝕄) [BI.Persistent R] {Φ Ψ : I → sProp 𝕄} (h : ∀ i ∈ S, iprop(R ∗ Φ i) ⊢ Ψ i) :
    iprop(R ∗ bigSep S Φ) ⊢ bigSep S Ψ :=
  (BI.Laws.sep_mono_left (BI.bigSep_of_persistent S R)).trans (by rw [← bigSep_sep']; exact bigSep_mono h)

theorem close_all : iprop(Rec kvf κ ιs ∗ (DoneD c .cw ∗ DoneD c .ccw) ∗ done c .bar) ⊢ |={Set.univ}=> Zeros c := by
  classical
  have h : iprop(Rec kvf κ ιs ∗ bigSep Finset.univ fun o : Own => done (F := F) c (role o)) ⊢ |={Set.univ}=> bigSep Finset.univ fun o : Own => semVal (cell c (role o)) 0 :=
    (with_each Finset.univ (Rec kvf κ ιs) (fun o _ => close_own kvf κ ιs c o)).trans (BI.bigSep_fupd _ _)
  rw [done_eq, done_eq, ← all_roles]
  unfold Zeros
  iintro ⟨#HR, Hd, Hb⟩
  imod h $$ [Hd] with Hz
  · isplitr; · iexact HR
    iexact Hd
  imod (close_bar kvf κ ιs c) $$ [Hb] with Hzb
  · isplitr; · iexact HR
    iexact Hb
  imodintro
  isplitl [Hz] <;> iassumption

theorem exch_run (t : Fin cfg0.N) : iprop((Rec kvf κ ιs ∗ opens c) ∗ Hold c ∗ MemIn kvf c qf ∗ Owe c pays) ⊢ Wp c (bodyAt0 t) fun _ => iprop(MemOut kvf c qf ∗ Zeros c ∗ Owe c []) := by
  refine .trans ?_ (Sem.wp_fupd _ _ _ _ _)
  iintro ⟨⟨#HR, #Hop⟩, HB⟩
  ihave HB := (beg_intro kvf c qf) $$ HB
  iapply (body_run kvf κ ιs c qf t (fun _ => iprop(|={Set.univ}=> (MemOut kvf c qf ∗ Zeros c ∗ Owe c []))))
  isplitr
  · unfold Ctx
    isplitr; · iexact HR
    iexact Hop
  isplitl [HB]; · iexact HB
  unfold End MemOut
  iintro ⟨Ho, Hl, Hq, Hs, Hsrc, Hd, Hb, HO⟩
  imod (close_all kvf κ ιs c) $$ [Hd Hb] with Hz
  · isplitr; · iexact HR
    isplitl [Hd] <;> iassumption
  imodintro
  isplitr [Hz HO]
  · isplitl [Ho]; · iexact Ho
    isplitl [Hl]; · iexact Hl
    isplitl [Hq]; · iexact Hq
    isplitl [Hs]; · iexact Hs
    iapply (Entails.of_eq (srcs_eq kvf c).symm) $$ Hsrc
  isplitl [Hz] <;> iassumption

end Cert.KernelIdeal.Att

end
-- ==== Proof.Launch.lean ====
/-
  The device's program as the launch runs it: the arrays' preparation, the exchange, and the result's last shape.
-/
module

public import proofs.«01_k».proof.Proof.Exch
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.RegionTalk

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

variable (m : (ℓ : Loc nD τ sig) → Buf (Elt F) ℓ) (ρ : Dev nD → PrngReg)

/-! ## What the exchange finds and leaves -/

/-- A device's keys and values as the exchange finds them, -/
def kvf (c : Dev nD) : Blk F := fun kv => match kv with | 0 => V m c main_v5 | 1 => V m c main_v8
/-- its queries, -/
def qf (c : Dev nD) : S16x1024x128.Idx → Elt F .f32 := V m c main_v2
/-- and what it computes. -/
def Res (c : Dev nD) : S16x1024x128.Idx → Elt F .f32 := outF (kvf m) c (qf m c)

/-! ## The windows are whole arrays -/

theorem winIn_emb (t : Fin cfg0.N) (x) : ((cfg0.win 0).blk t).view.emb x = x := by
  funext a
  apply Fin.ext
  show (((cfg0.win 0).rect t).emb x a).val = _
  rw [Rect.emb_apply]
  show 0 * _ + 1 * _ = _
  rw [Nat.zero_mul, Nat.zero_add, Nat.one_mul]
theorem winOut_emb (t : Fin cfg0.N) (x) : ((cfg0.win 1).blk t).view.emb x = x := by
  funext a
  apply Fin.ext
  show (((cfg0.win 1).rect t).emb x a).val = _
  rw [Rect.emb_apply]
  show 0 * _ + 1 * _ = _
  rw [Nat.zero_mul, Nat.zero_add, Nat.one_mul]
theorem winIn_read (t : Fin cfg0.N) (f : S16x1024x128.Idx → Elt F .f32) : ((cfg0.win 0).blk t).view.read (Elt F) f = f := by
  funext x
  rw [View.read_apply, winIn_emb]
  rfl
theorem winOut_write (t : Fin cfg0.N) (f g : S16x1024x128.Idx → Elt F .f32) : ((cfg0.win 1).blk t).view.write (Elt F) f g Finset.univ = g := by
  funext x
  have h := View.write_emb_of_mem (Val := Elt F) (v := ((cfg0.win 1).blk t).view) f g (M := Finset.univ) (x := x) (Finset.mem_univ _)
  rw [winOut_emb] at h
  exact h

/-! ## The region's data -/

/-- The scratch buffers. -/
def Scr (c : Dev nD) : sProp 𝕄 := iprop(ownAny (F := F) .cw c Finset.univ ∗ ownAny .ccw c Finset.univ ∗ ∃ f, lOwn c Finset.univ f)
/-- The keys and values in place. -/
def Kv (c : Dev nD) : sProp 𝕄 := iprop(srcOwn 0 c Finset.univ (kvf m c 0) ∗ srcOwn 1 c Finset.univ (kvf m c 1))
/-- The cells opened, and what the device holds. -/
def Xk (c : Dev nD) : sProp 𝕄 := iprop((∃ κ ιs, Rec (kvf m) κ ιs ∗ opens c) ∗ Hold c)

def dat (c : Dev nD) : Pipeline.Dat τ (Elt F) (Fin 2) ℕ UU ℕ cfg0 c where
  A w := V m c (Pipeline.arrRef spec0 w)
  after w _ := match w with
    | ⟨0, _⟩ => qf m c
    | ⟨1, _⟩ => Res m c
  Φ t := if t.val = 0 then iprop(Xk m c ∗ Kv m c ∗ Scr c ∗ ∃ r, prngReg c r) else iprop(Zeros c ∗ Kv m c ∗ Scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) (Fin 2) ℕ UU ℕ (Pipeline.pin (pcfgs (F := F)) adm p) c
  | 0 => dat m

theorem scr_eq (c : Dev nD) : (Pipeline.scopedRest (Ix := Fin 2) (Name := ℕ) (U := UU) (Lvl := ℕ) (Val := Elt F) (Pipeline.pin (pcfgs (F := F)) adm 0).spec c : sProp 𝕄) = Scr c :=
  (scopedRest0_eq c).trans rfl

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if (0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owed_next (c : Dev nD) : (dat m c).owed t0_0.succ = owed c [] := by
  show (if (t0_0.succ : Fin (cfg0.N + 1)).val = 0 then O₀ c else 0) = _
  rw [if_neg (show (t0_0.succ : Fin (cfg0.N + 1)).val ≠ 0 from Nat.succ_ne_zero _)]; rfl

theorem owes_in (c : Dev nD) (t : Fin (cfg0.N + 1)) (l : List Pay) (h : (dat m c).owed t = owed c l) : (dat m c).owesAt (0 : Fin 2) t ⊢ Owe (F := F) c l := by
  unfold Pipeline.Dat.owesAt Pipeline.owesWithin Owe
  rw [h]
  iintro ⟨%W, -, H⟩
  iexists W
  iexact H
theorem owes_out (c : Dev nD) (t : Fin (cfg0.N + 1)) (l : List Pay) (h : (dat m c).owed t = owed c l) : Owe (F := F) c l ⊢ (dat m c).owesAt (0 : Fin 2) t := by
  unfold Pipeline.Dat.owesAt Pipeline.owesWithin Pipeline.Dat.bound Owe
  rw [h]
  iintro ⟨%W, H⟩
  iexists W
  isplitr
  · ipureintro; exact fun _ _ => Or.inl trivial
  iexact H

theorem before_in (c : Dev nD) (t : Fin cfg0.N) (d) : (dat m c).before (0 : Fin 2) t d = qf m c := by
  unfold Pipeline.Dat.before
  rw [if_pos (fetch0_0 t)]
  exact winIn_read t (qf m c)

theorem body_core (c : Dev nD) :
    iprop((Xk m c ∗ Kv m c ∗ Scr c ∗ ∃ r, prngReg c r) ∗ Owe c pays ∗ qOwn c (qf m c) ∗ ∃ f, oOwn c Finset.univ f)
      ⊢ Wp c (bodyAt0 t0_0) fun _ => iprop((Zeros c ∗ Kv m c ∗ Scr c ∗ ∃ r, prngReg c r) ∗ Owe c [] ∗ qOwn c (qf m c) ∗ oOwn c Finset.univ (Res m c)) := by
  unfold Xk
  iintro ⟨⟨⟨⟨%κ, %ιs, HR⟩, HX⟩, Hkv, Hs, Hp⟩, HO, Hq, Ho⟩
  have h : iprop(((Rec (kvf m) κ ιs ∗ opens c) ∗ Hold c ∗ MemIn (kvf m) c (qf m c) ∗ Owe c pays) ∗ ∃ r, prngReg c r)
      ⊢ Wp c (bodyAt0 t0_0) fun _ => iprop((Zeros c ∗ Kv m c ∗ Scr c ∗ ∃ r, prngReg c r) ∗ Owe c [] ∗ qOwn c (qf m c) ∗ oOwn c Finset.univ (Res m c)) := by
    refine (BI.Laws.sep_mono_left (exch_run (kvf m) κ ιs c (qf m c) t0_0)).trans ?_
    refine (Sem.wp_frame_r _ _ _).trans (Sem.wp_mono _ _ _ fun _ => ?_)
    unfold MemOut Kv Scr Res
    iintro ⟨⟨⟨Ho, Hl, Hq, ⟨Hs, Hs'⟩, Hk, Hv⟩, Hz, HO⟩, Hp⟩
    isplitl [Hz Hk Hv Hs Hs' Hl Hp]
    · isplitl [Hz]; · iexact Hz
      isplitl [Hk Hv]
      · isplitl [Hk] <;> iassumption
      isplitr [Hp]
      · isplitl [Hs]; · iexact Hs
        isplitl [Hs'] <;> iassumption
      iexact Hp
    isplitl [HO]; · iexact HO
    isplitl [Hq] <;> iassumption
  iapply h
  unfold MemIn Kv Scr
  icases Hkv with ⟨Hk, Hv⟩
  icases Hs with ⟨Hs, Hs', Hl⟩
  isplitr [Hp]
  · isplitl [HR]; · iexact HR
    isplitl [HX]; · iexact HX
    isplitr [HO]
    · isplitl [Ho]; · iexact Ho
      isplitl [Hl]; · iexact Hl
      isplitl [Hq]; · iexact Hq
      isplitl [Hs Hs']
      · isplitl [Hs] <;> iassumption
      isplitl [Hk] <;> iassumption
    iexact HO
  iexact Hp

theorem body (c : Dev nD) : Pipeline.BodyObligation (pdats m 0 c) (defs₀ (F := F)) 𝒱₀ (0 : Fin 2) Set.univ := fun t => by
  rw [fin_N0 t, bigSep_W0, bigSep_W0]
  show iprop((Xk m c ∗ Kv m c ∗ Scr c ∗ ∃ r, prngReg c r) ∗ (dat m c).owesAt (0 : Fin 2) t0_0.castSucc
      ∗ (∃ d, owns (c : Thread nD τ) (Memref.whole cc0_stg0_0) fullShare ((dat m c).before (0 : Fin 2) t0_0 d))
      ∗ (∃ d, owns (c : Thread nD τ) (Memref.whole cc0_stg1_0) fullShare ((dat m c).before (1 : Fin 2) t0_0 d)))
    ⊢ Wp c (bodyAt0 t0_0) fun _ => iprop((Zeros c ∗ Kv m c ∗ Scr c ∗ ∃ r, prngReg c r) ∗ (dat m c).owesAt (0 : Fin 2) t0_0.succ
      ∗ owns (c : Thread nD τ) (Memref.whole cc0_stg0_0) fullShare (qf m c) ∗ owns (c : Thread nD τ) (Memref.whole cc0_stg1_0) fullShare (Res m c))
  simp only [before_in, owns_whole]
  have h : iprop((Xk m c ∗ Kv m c ∗ Scr c ∗ ∃ r, prngReg c r) ∗ (dat m c).owesAt (0 : Fin 2) t0_0.castSucc
      ∗ qOwn c (qf m c) ∗ ∃ f, oOwn c Finset.univ f)
    ⊢ Wp c (bodyAt0 t0_0) fun _ => iprop((Zeros c ∗ Kv m c ∗ Scr c ∗ ∃ r, prngReg c r) ∗ (dat m c).owesAt (0 : Fin 2) t0_0.succ ∗ qOwn c (qf m c) ∗ oOwn c Finset.univ (Res m c)) := by
    refine .trans ?_ ((body_core m c).trans (Sem.wp_mono _ _ _ fun _ => ?_))
    · exact BI.sep_mono (BI.Entails.refl _) (BI.sep_mono (owes_in m c _ pays (owed_first m c)) (BI.Entails.refl _))
    · exact BI.sep_mono (BI.Entails.refl _) (BI.sep_mono (owes_out m c _ [] (owed_next m c)) (BI.Entails.refl _))
  refine .trans ?_ h
  iintro ⟨HX, HO, ⟨%d, Hq⟩, ⟨%d', Ho⟩⟩
  isplitl [HX]; · iexact HX
  isplitl [HO]; · iexact HO
  isplitl [Hq]
  · iapply (show iprop(((c : Thread nD τ).loc cc0_stg0_0) ↦{fullShare} qf m c) ⊢ qOwn c (qf m c) from BI.Entails.refl _) $$ Hq
  iexists (dat m c).before (1 : Fin 2) t0_0 d'
  iapply (show iprop(((c : Thread nD τ).loc cc0_stg1_0) ↦{fullShare} (dat m c).before (1 : Fin 2) t0_0 d') ⊢ oOwn c Finset.univ ((dat m c).before (1 : Fin 2) t0_0 d') from BI.Entails.refl _) $$ Ho

/-! ## The region -/

/-- A device's own semaphores. -/
def osem (o : Own) : SemLoc sig := sem (role o)

theorem osem_facts : Pipeline.OwnSemFacts spec0 osem where
  isScoped := by decide
  inj := fun a b h => role_inj (sem_inj h)
  disj := by decide

abbrev Vw (c : Dev nD) : Valuation τ sig (Elt F) := V0 m c
/-- The buffers after the region. -/
def Vx (c : Dev nD) : Valuation τ sig (Elt F) := Function.update (V0 m c) (Proc.devRef .tc main_v9) (Res m c)

/-- The buffers a device's program names. -/
abbrev bufs : Finset (DevRef τ sig) := Pipeline.ucRefs τ sig
abbrev arrs : Finset (DevRef τ sig) := Pipeline.arrRefs (τ := τ) spec0
abbrev Hs : Finset (DevRef τ sig) := {Proc.devRef .tc main_v5, Proc.devRef .tc main_v8}
abbrev Sr : Finset (DevRef τ sig) := bufs \ arrs

theorem arrs_eq : arrs = {Proc.devRef .tc main_v2, Proc.devRef .tc main_v9} := by decide
theorem arrs_sub : arrs ⊆ bufs := Pipeline.arrRefs_sub_ucRefs spec0 (by decide)
theorem Hs_sub : Hs ⊆ Sr := by decide

theorem Vx_ne (c : Dev nD) (b : DevRef τ sig) (h : b ≠ Proc.devRef .tc main_v9) : Vx m c b = V0 m c b := Function.update_of_ne h _ _

theorem kv_eq (c : Dev nD) (W : Valuation τ sig (Elt F)) (h5 : W (Proc.devRef .tc main_v5) = kvf m c 0) (h8 : W (Proc.devRef .tc main_v8) = kvf m c 1) :
    (StableHlo.held (c.tc : Thread nD τ) Hs W : sProp 𝕄) = Kv m c := by
  unfold StableHlo.held Hs
  rw [bigSep_insert (by decide), bigSep_singleton, h5, h8]
  rfl

def Tk (c : Dev nD) : sProp 𝕄 :=
  iprop((∃ κ ιs, Rec (kvf m) κ ιs) ∗ (bigSep Finset.univ fun o : Own => openTok (ER (F := F)) (cell c (role o))) ∗ (Lin c .cw ∗ Lin c .ccw) ∗ crd c .bar 0 2 ∗ pos c .bar)
def Yk (c : Dev nD) : sProp 𝕄 := semVal (cell c .bar) 0

theorem own_sems (c : Dev nD) : (Pipeline.ownSems0 osem c : sProp 𝕄) = bigSep Finset.univ fun o : Own => semVal (cell c (role o)) 0 := rfl

theorem open_one (κ : GSem nD τ sig → ℕ) (ιs : Key → ℕ) (c : Dev nD) (o : Own) :
    iprop(Rec (kvf m) κ ιs ∗ (openTok (ER (F := F)) (cell c (role o)) ∗ semVal (cell c (role o)) 0))
      ⊢ |={Set.univ}=> iprop(pos c (role o) ∗ reached (ER (F := F)) (cell c (role o)) 0) :=
  (BI.Laws.sep_mono_left (Rec_own (kvf m) κ ιs c o)).trans (Rounds.cell_open ER (Rd (kvf m)) (Set.mem_univ _))

theorem enter (c : Dev nD) : iprop(Tk m c ∗ Pipeline.ownSems0 osem c ∗ levAts L lv) ⊢ (|={Set.univ}=> Xk m c : sProp 𝕄) := by
  classical
  rw [own_sems]
  have h (κ : GSem nD τ sig → ℕ) (ιs : Key → ℕ) :
      iprop(Rec (kvf m) κ ιs ∗ (bigSep Finset.univ fun o : Own => openTok (ER (F := F)) (cell c (role o))) ∗ bigSep Finset.univ fun o : Own => semVal (cell c (role o)) 0)
        ⊢ |={Set.univ}=> iprop((grp (pos (F := F) c) .cw ∗ grp (pos c) .ccw) ∗ opens c) := by
    rw [← bigSep_sep']
    refine ((with_each Finset.univ (Rec (kvf m) κ ιs) fun o _ => open_one m κ ιs c o).trans (BI.bigSep_fupd _ _)).trans ?_
    rw [bigSep_sep', all_roles (pos (F := F) c)]
    exact BI.Entails.refl _
  unfold Tk Xk Hold
  iintro ⟨⟨⟨%κ, %ιs, #HR⟩, Ho, Hl, Hc, Hb⟩, Hs, -⟩
  imod (h κ ιs) $$ [Ho Hs] with ⟨Hp, Hop⟩
  · isplitr; · iexact HR
    isplitl [Ho] <;> iassumption
  imodintro
  isplitl [Hop]
  · iexists κ; iexists ιs
    isplitr; · iexact HR
    iexact Hop
  isplitl [Hp]; · iexact Hp
  isplitl [Hl]; · iexact Hl
  isplitl [Hc] <;> iassumption

theorem region_in (c : Dev nD) : iprop(Pipeline.scopedRest (Pipeline.pin (pcfgs (F := F)) adm 0).spec c ∗ (∃ r, prngReg c r) ∗ StableHlo.held (c.tc : Thread nD τ) Hs (Vw m c) ∗ Xk m c)
    ⊢ (pdats m 0 c).Φ 0 := by
  rw [show (pdats m 0 c).Φ 0 = iprop(Xk m c ∗ Kv m c ∗ Scr c ∗ ∃ r, prngReg c r) from rfl, scr_eq, kv_eq m c (Vw m c) rfl rfl]
  iintro ⟨Hs, Hp, Hk, HX⟩
  isplitl [HX]; · iexact HX
  isplitl [Hk]; · iexact Hk
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Vx m c) ∗ Pipeline.ownSems0 osem c ∗ Yk c) := by
  rw [show (pdats m 0 c).Φ (Fin.last _) = iprop(Zeros c ∗ Kv m c ∗ Scr c ∗ ∃ r, prngReg c r) from rfl, scr_eq, own_sems,
    kv_eq m c (Vx m c) (Vx_ne m c _ (by decide)) (Vx_ne m c _ (by decide))]
  unfold Zeros Yk
  iintro ⟨⟨Hz, Hb⟩, Hk, Hs, Hp⟩
  isplitl [Hs]; · iexact Hs
  isplitl [Hp]; · iexact Hp
  isplitl [Hk]; · iexact Hk
  isplitl [Hz] <;> iassumption

theorem cut (c : Dev nD) (t : Fin ((Pipeline.pin (pcfgs (F := F)) adm 0).N + 1)) (g : GSem nD τ sig) (i : Fin 2) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨p, -, rfl, rfl⟩ := owed_pos c pays g i h
    refine ⟨?_, ?_⟩
    · exact L_tc _ _ _
    · rw [lv_cell]; cases p <;> simp only [Pay.role, Pay.ix, level] <;> omega
  · exact absurd h (Nat.lt_irrefl 0)

theorem stage_lv (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) 0 ≤ 0 := by
  have h : ∀ (w : Fin 2) (s : Fin (spec0 w).nbuf), roleOf (.dma ((spec0 w).sem s)) = none := by decide
  have h' := h w s
  show (match roleOf (.dma ((spec0 w).sem s)) with | some ρ => level ρ 0 | none => 0) ≤ 0
  rw [h']

theorem arr_first (c : Dev nD) (w : Fin (Pipeline.pin (pcfgs (F := F)) adm 0).W) :
    (pdats m 0 c).arrAt w 0 = Vw m c (Proc.devRef .tc (Pipeline.arrRef (Pipeline.pin (pcfgs (F := F)) adm 0).spec w)) := rfl

theorem arr_last (c : Dev nD) (w : Fin (Pipeline.pin (pcfgs (F := F)) adm 0).W) :
    (pdats m 0 c).arrAt w (Pipeline.pin (pcfgs (F := F)) adm 0).N = Vx m c (Proc.devRef .tc (Pipeline.arrRef (Pipeline.pin (pcfgs (F := F)) adm 0).spec w)) := by
  match w with
  | ⟨0, _⟩ =>
    refine ((dat m c).arrAt_in (0 : Fin 2) rfl _).trans ?_
    exact (Vx_ne m c (Proc.devRef .tc main_v2) (by decide)).symm
  | ⟨1, _⟩ =>
    refine .trans (b := Res m c) ?_ (Function.update_self (Proc.devRef .tc main_v9) (Res m c) (V0 m c)).symm
    show (dat m c).arrAt (1 : Fin 2) (0 + 1) = _
    unfold Pipeline.Dat.arrAt
    rw [dif_pos (show 0 < cfg0.N by rw [show cfg0.N = 1 from N_0]; decide), if_pos (flush0_1 _)]
    exact winOut_write _ _ _

theorem kitP : Pipeline.PLaunchFacts (nD := nD) (τ := τ) (pcfgs (F := F)) 0 := launch0.toP

set_option backward.isDefEq.respectTransparency.types false in
def reg : Pipeline.RegionSeg (pcfgs (F := F)) adm (pdats m) (0 : Fin 2) defs₀ 𝒱₀ L lv 0 :=
  Pipeline.RegionSeg.ofTalk (pcfgs (F := F)) adm (pdats m) (0 : Fin 2) defs₀ 𝒱₀ L lv 0 osem osem_facts
    Hs Sr Hs_sub kitP rfl (fun c => (body m c).loose)
    (fun _ => 0) O₀ (fun c => (owed_zero m c).trans (zero_add _).symm) (owed_last m) (fun _ => rfl) (fun _ w => by unfold Pipeline.Dat.share; split <;> rfl)
    (Vw m) (Vx m) (fun c b hb => Vx_ne m c b fun h => by
      subst h; exact absurd hb (by decide))
    (Tk m) Yk (Xk m) Yk (enter m) (region_in m) (region_out m)
    (fun c => by iintro H; imodintro; iexact H)
    (fun _ => 0)
    ⟨fun c w s => L_tc _ _ _, stage_lv, fun c t g i h => cut m c t g i h⟩
    (fun _ => iprop(emp))
    (arr_first m) (arr_last m)

end Cert.KernelIdeal.Att

end
-- ==== Proof.Whole.lean ====
/-
  The whole program: every device's run from the launch, and what it leaves.
-/
module

public import proofs.«01_k».proof.Proof.Launch

@[expose] public section

noncomputable section

namespace Cert.KernelIdeal.Att

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig (Fin 2) (Elt F) ℕ UU ℕ

variable (m : (ℓ : Loc nD τ sig) → Buf (Elt F) ℓ) (ρ : Dev nD → PrngReg)

/-! ## The pieces of a device's program -/

/-- What rides along the preparation. -/
def Ride (c : Dev nD) : sProp 𝕄 := iprop(Tk m c ∗ (∃ r, prngReg c r) ∗ ∃ W, owes (c : Thread nD τ) (O₀ c) W)
/-- What rides along the last shape. -/
def Ride' (c : Dev nD) : sProp 𝕄 := iprop(semVal (cell c .bar) 0 ∗ ∃ W, owes (c : Thread nD τ) (0 : CellTallies nD τ sig (Fin 2)) W)

/-- The buffers at the end. -/
def Vn (c : Dev nD) : Valuation τ sig (Elt F) := StableHlo.after hostOps1 (Vx m c)

def seg0 : Pipeline.HostSeg (Ix := Fin 2) (Name := ℕ) (U := UU) (Lvl := ℕ) (pcfgs (F := F)) defs₀ 𝒱₀ L lv :=
  Pipeline.HostSeg.ofOps _ _ _ _ _ bufs hostOps0 (fun op h => Pipeline.sub_ucRefs op (List.forall_iff_forall_mem.mp hostOps0_sub op h))
    (List.forall_iff_forall_mem.mp hostOps0_fresh) (fun c b => m (c, b)) (Ride m)
def seg1 : Pipeline.HostSeg (Ix := Fin 2) (Name := ℕ) (U := UU) (Lvl := ℕ) (pcfgs (F := F)) defs₀ 𝒱₀ L lv :=
  Pipeline.HostSeg.ofOps _ _ _ _ _ bufs hostOps1 (fun op h => Pipeline.sub_ucRefs op (List.forall_iff_forall_mem.mp hostOps1_sub op h))
    (List.forall_iff_forall_mem.mp hostOps1_fresh) (Vx m) Ride'

def segs : List (Pipeline.Seg (pcfgs (F := F)) adm (pdats m) (0 : Fin 2) defs₀ 𝒱₀ L lv) := [.host (seg0 m), .region (reg m), .host (seg1 m)]

theorem main_eq (c : Dev nD) : main (F := F) c = Pipeline.Seg.run (segs m) :=
  main_segs adm (pdats m) (0 : Fin 2) 𝒱₀ L lv (seg0 m) (seg1 m) (reg m) rfl rfl c

theorem V0_eq (c : Dev nD) : StableHlo.after hostOps0 (fun b => m (c, b)) = V0 m c := by
  unfold V0
  rw [List.flatten_cons, List.flatten_nil, List.append_nil]

theorem reg_pre (c : Dev nD) : iprop(StableHlo.held (c : Thread nD τ) bufs (StableHlo.after hostOps0 fun b => m (c, b)) ∗ Ride m c) ⊢ (reg m).pre c := by
  show _ ⊢ iprop(StableHlo.held (c.tc : Thread nD τ) arrs (Vw m c) ∗ (∃ r, prngReg c r)
    ∗ (StableHlo.held (c.tc : Thread nD τ) Sr (Vw m c) ∗ emp) ∗ Tk m c ∗ ∃ Wd, owes (c : Thread nD τ) (0 + O₀ c) Wd)
  rw [V0_eq, StableHlo.held_sub_split (c : Thread nD τ) arrs_sub (V0 m c), zero_add]
  unfold Ride
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) bufs (Vx m c) ∗ Ride' c) := by
  show iprop(StableHlo.held (c.tc : Thread nD τ) arrs (Vx m c) ∗ (∃ r, prngReg c r)
    ∗ (StableHlo.held (c.tc : Thread nD τ) Sr (Vx m c) ∗ emp) ∗ Yk c ∗ ∃ Wd, owes (c : Thread nD τ) (0 : CellTallies nD τ sig (Fin 2)) Wd) ⊢ _
  rw [StableHlo.held_sub_split (c : Thread nD τ) arrs_sub (Vx m c)]
  unfold Ride' Yk
  iintro ⟨Ha, -, ⟨Hr, -⟩, Hb, HO⟩
  isplitl [Ha Hr]
  · isplitl [Ha] <;> iassumption
  isplitl [Hb] <;> iassumption

/-! ## The launch -/

abbrev Uw : Type := UT
/-- What the exchange's records start from. -/
def uT : UT := (launchOf barCells ownCells allToks, Release.initSlots (Finset.univ : Finset Key) 1)
theorem stages_inj : Function.Injective (Pipeline.cellOf (nD := nD) (τ := τ) (Pipeline.pin (pcfgs (F := F)) adm)) := Gen.cellOf_inj
def u₀ : UU := (initOf (Pipeline.cells (Pipeline.pin (pcfgs (F := F)) adm) stages_inj) (Pipeline.launchToks (Pipeline.pin (pcfgs (F := F)) adm) stages_inj), uT)

/-- All of it beside the first device until it is dealt. -/
def G (c : Dev nD) : sProp 𝕄 := if c = 0 then BI.own ((embR : Emb UT 𝕄) uT) else iprop(emp)
theorem G_all : bigSep Finset.univ (G (F := F)) = BI.own ((embR : Emb UT 𝕄) uT) := by
  have h : bigSep (Finset.univ.erase (0 : Dev nD)) (G (F := F)) = (BI.emp : sProp 𝕄) :=
    (bigSep_congr (Ψ := fun _ => (BI.emp : sProp 𝕄)) fun c hc => if_neg (Finset.ne_of_mem_erase hc)).trans (BI.bigSep_emp_const _)
  rw [bigSep_univ_at _ (0 : Dev nD), h]
  exact (BI.equiv_iff.mp sep_emp).trans (if_pos rfl)

theorem sems_eq (c : Dev nD) : (unscopedSems0 c : sProp 𝕄) = semVal (cell c .bar) 0 := by
  unfold unscopedSems0
  rw [show (Finset.univ.filter fun sm : SemLoc sig => ¬ sm.isScoped .tc) = {sem .bar} from by decide, bigSep_singleton]

abbrev T₀ (c : Dev nD) : sProp 𝕄 := iprop(StableHlo.held (c : Thread nD τ) bufs (fun b => m (c, b)) ∗ Ride m c)
abbrev Tₙ (c : Dev nD) : sProp 𝕄 := iprop(StableHlo.held (c : Thread nD τ) bufs (Vn m c) ∗ semVal (cell c .bar) 0)

/-- What a device has at the launch that is not the exchange's. -/
def Plain (c : Dev nD) : sProp 𝕄 :=
  iprop(StableHlo.held (c : Thread nD τ) bufs (fun b => m (c, b)) ∗ owes (c : Thread nD τ) (O₀ c) ∅ ∗ (∃ r, prngReg c r) ∗ crd c .bar 0 2)

theorem sort_one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Plain m c ∗ (Crd c .cw ∗ Crd c .ccw) ∗ semVal (cell c .bar) 0 ∗ G c) : sProp 𝕄) := by
  rw [show (unscopedBufs c (fun b => m ((c : Thread nD τ).loc b)) : sProp 𝕄) = StableHlo.held (c : Thread nD τ) bufs (fun b => m (c, b)) from
      Pipeline.unscopedBufs_held c (fun b => m (c, b)), sems_eq]
  unfold Plain
  iintro ⟨Hh, Hs, HO, Hc, Hp, HG⟩
  ihave Hc := (creds (F := F) c) $$ Hc
  icases Hc with ⟨Hb, Hc⟩
  isplitl [Hh HO Hp Hb]
  · isplitl [Hh]; · iexact Hh
    isplitl [HO]; · iexact HO
    isplitl [Hp]; · iexists (ρ c); iexact Hp
    iexact Hb
  isplitl [Hc]; · iexact Hc
  isplitl [Hs] <;> iassumption

/-- A device's tokens, counts and credits of both directions, taken from the devices' they name. -/
theorem lin_all : iprop((bigSep Finset.univ fun c : Dev nD => iprop((TokS (F := F) c .cw ∗ TokN c .cw ∗ TokP c .cw) ∗ (TokS c .ccw ∗ TokN c .ccw ∗ TokP c .ccw)))
      ∗ (bigSep Finset.univ fun c : Dev nD => iprop(TokW (F := F) c .cw ∗ TokW c .ccw)) ∗ (bigSep Finset.univ fun c : Dev nD => iprop(TokR (F := F) c .cw ∗ TokR c .ccw))
      ∗ bigSep Finset.univ fun c : Dev nD => iprop(Crd (F := F) c .cw ∗ Crd c .ccw))
    = bigSep Finset.univ fun c => iprop(Lin (F := F) c .cw ∗ Lin c .ccw) := by
  rw [bigSep_sep' (Φ := fun c => Lin (F := F) c .cw), ← around, ← around]
  simp only [bigSep_sep']
  ac_rfl

theorem rec_intro (κ : GSem nD τ sig → ℕ) (ιs : Key → ℕ) :
    iprop((bigSep (barCells ∪ ownCells) fun g => cellInv (ER (F := F)) (Rd (kvf m)) (κ g) g) ∗ (bigSep barCells fun g => reached (ER (F := F)) g 0)
      ∗ (bigSep (Finset.univ : Finset Key) fun k => Release.slotInv (ES (F := F)) (ιs k) k (slotOf k)) ∗ levAts L lv) ⊢ Rec (kvf m) κ ιs := by
  classical
  have h1 : (bigSep (barCells ∪ ownCells) fun g => (cellInv (ER (F := F)) (Rd (kvf m)) (κ g) g : sProp 𝕄))
      ⊢ iprop((bigSep Finset.univ fun p : Dev nD => cellInv (ER (F := F)) (Rd (kvf m)) (κ (cell p .bar)) (cell p .bar))
        ∗ bigSep Finset.univ fun x : Dev nD × Own => cellInv (ER (F := F)) (Rd (kvf m)) (κ (cell x.1 (role x.2))) (cell x.1 (role x.2))) := by
    rw [bigSep_union cells_disjoint, bigSep_map, bigSep_map]
    exact BI.Entails.refl _
  have h2 : (bigSep barCells fun g => (reached (ER (F := F)) g 0 : sProp 𝕄)) ⊢ bigSep Finset.univ fun p : Dev nD => reached (ER (F := F)) (cell p .bar) 0 := by
    rw [bigSep_map]; exact BI.Entails.refl _
  unfold Rec
  rw [bigSep_sep']
  iintro ⟨H, Hr, Hs, Hl⟩
  ihave H := h1 $$ H
  icases H with ⟨Hb, Ho⟩
  ihave Hr := h2 $$ Hr
  isplitl [Ho]; · iexact Ho
  isplitl [Hb Hr]
  · isplitl [Hb] <;> iassumption
  isplitl [Hs] <;> iassumption

theorem start_one (κ : GSem nD τ sig → ℕ) (ιs : Key → ℕ) (c : Dev nD) :
    iprop(Rec (kvf m) κ ιs ∗ (Plain m c ∗ (Lin c .cw ∗ Lin c .ccw) ∗ pos c .bar ∗ bigSep Finset.univ fun o : Own => openTok (ER (F := F)) (cell c (role o)))) ⊢ T₀ m c := by
  unfold Plain T₀ Ride Tk
  iintro ⟨#HR, ⟨Hh, HO, Hp, Hc⟩, Hl, Hb, Ho⟩
  isplitl [Hh]; · iexact Hh
  isplitl [Hc Hl Hb Ho]
  · isplitr
    · iexists κ; iexists ιs; iexact HR
    isplitl [Ho]; · iexact Ho
    isplitl [Hl]; · iexact Hl
    isplitl [Hc] <;> iassumption
  isplitl [Hp]; · iexact Hp
  iexists ∅; iexact HO

/-- Every device's start, from the launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  classical
  have hsort : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (Plain m)) ∗ (bigSep Finset.univ fun c : Dev nD => iprop(Crd (F := F) c .cw ∗ Crd c .ccw))
        ∗ (bigSep barCells fun g => semVal g 0) ∗ BI.own ((embR : Emb UT 𝕄) uT)) : sProp 𝕄) := by
    refine (bigSep_mono fun c _ => sort_one m ρ c).trans ?_
    rw [bigSep_sep', bigSep_sep', bigSep_sep', bigSep_sep', G_all, bigSep_map]
    exact BI.Entails.refl _
  have hu : (BI.own ((embR : Emb UT 𝕄) uT) : sProp 𝕄)
      ⊢ iprop(BI.own ((ER (F := F)) (launchOf barCells ownCells allToks)) ∗ BI.own ((ES (F := F)) (Release.initSlots (Finset.univ : Finset Key) 1))) :=
    own_pair_emb _ _ _
  have hat : bigSep barCells (fun g => (atPos (ER (F := F)) g 0 ∅ 0 : sProp 𝕄)) ⊢ bigSep Finset.univ (fun c : Dev nD => pos (F := F) c .bar) := by
    rw [bigSep_map]; exact BI.Entails.refl _
  have hop : bigSep ownCells (fun g => (openTok (ER (F := F)) g : sProp 𝕄))
      ⊢ bigSep Finset.univ (fun c : Dev nD => bigSep Finset.univ fun o : Own => openTok (ER (F := F)) (cell c (role o))) := by
    rw [bigSep_map, bigSep_univ_prod]; exact BI.Entails.refl _
  iintro ⟨H, #HL⟩
  ihave H := hsort $$ H
  icases H with ⟨HP, HC, Hv, Hu⟩
  ihave Hu := hu $$ Hu
  icases Hu with ⟨Hu, Hw⟩
  imod (Rounds.fund_launch (ER (F := F)) (Rd (kvf m)) cells_disjoint (fun g _ h => h) allToks) $$ [Hv Hu] with ⟨%κ, -, #Hinv, #Hr, Hat, Hopen, Htok⟩
  · isplitl [Hv] <;> iassumption
  imod (Release.slots_init (ES (F := F)) (Finset.univ : Finset Key) 1 slotOf) $$ Hw with ⟨%ιs, -, #Hslot, Hread, Hwrite⟩
  imodintro
  ihave Htok := (Entails.of_eq (toks_eq (F := F))) $$ Htok
  ihave Hread := (Entails.of_eq (reads_eq (F := F))) $$ Hread
  ihave Hwrite := (Entails.of_eq (writes_eq (F := F))) $$ Hwrite
  ihave Hl := (Entails.of_eq (lin_all (F := F))) $$ [Htok Hread Hwrite HC]
  · isplitl [Htok]; · iexact Htok
    isplitl [Hwrite]; · iexact Hwrite
    isplitl [Hread] <;> iassumption
  ihave Hat := hat $$ Hat
  ihave Hopen := hop $$ Hopen
  have hend : iprop(Rec (kvf m) κ ιs ∗ (bigSep Finset.univ (Plain m) ∗ (bigSep Finset.univ fun c => iprop(Lin (F := F) c .cw ∗ Lin c .ccw))
      ∗ bigSep Finset.univ (fun c : Dev nD => pos (F := F) c .bar) ∗ bigSep Finset.univ (fun c : Dev nD => bigSep Finset.univ fun o : Own => openTok (ER (F := F)) (cell c (role o)))))
      ⊢ bigSep Finset.univ (T₀ m) := by
    rw [← bigSep_sep', ← bigSep_sep', ← bigSep_sep']
    exact with_each Finset.univ (Rec (kvf m) κ ιs) fun c _ => start_one m κ ιs c
  iapply hend
  isplitr
  · iapply (rec_intro m κ ιs)
    isplitr; · iexact Hinv
    isplitr; · iexact Hr
    isplitr; · iexact Hslot
    iexact HL
  isplitl [HP]; · iexact HP
  isplitl [Hl]; · iexact Hl
  isplitl [Hat] <;> iassumption

/-! ## The run -/

theorem unscoped_eq : ∀ sm : SemLoc sig, sm.isScoped .tc = false → sm = sem .bar := by decide

/-- The buffers a claim reads. -/
abbrev reads : Finset (DevRef τ sig) := {Proc.devRef .tc main_arg0, Proc.devRef .tc main_arg1, Proc.devRef .tc main_arg2, Proc.devRef .tc main_v11}
theorem reads_sub : reads ⊆ bufs := by decide

set_option backward.isDefEq.respectTransparency.types false in
/-- From any memory, every device's program ends with these buffers as computed and every counter at zero. -/
theorem run_vals : θ_run defs (onTc (τ := τ) (main (F := F))) ⟨m, fun _ => 0, ρ⟩
    (fun r => (∀ c : Dev nD, r.2.mem ((c : Thread nD τ).loc main_arg0) = Vn m c (Proc.devRef .tc main_arg0) ∧ r.2.mem ((c : Thread nD τ).loc main_arg1) = Vn m c (Proc.devRef .tc main_arg1)
        ∧ r.2.mem ((c : Thread nD τ).loc main_arg2) = Vn m c (Proc.devRef .tc main_arg2) ∧ r.2.mem ((c : Thread nD τ).loc main_v11) = Vn m c (Proc.devRef .tc main_v11))
      ∧ r.2.sem = fun _ => 0) :=
  Pipeline.θ_run_regions_kit_sems (pcfgs (F := F)) adm (pdats m) (0 : Fin 2) stages_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀
      iintro Hu
      ihave H := (ownU_pair (Val := Elt F) _ uT) $$ Hu
      icases H with ⟨HP, HX⟩
      imodintro
      isplitl [HP]; · iexact HP
      rw [G_all (F := F)]; iexact HX)
    (T₀ := T₀ m) (Tₙ := Tₙ m)
    (hch := ⟨fun c => .rfl, fun c => reg_pre m c, fun c => reg_post m c, fun c => by
      show iprop(StableHlo.held (c : Thread nD τ) bufs (Vn m c) ∗ Ride' c) ⊢ iprop(Tₙ m c ∗ ∃ W, owes (c : Thread nD τ) (0 : CellTallies nD τ sig (Fin 2)) W)
      unfold Ride'
      iintro ⟨Hh, Hb, HO⟩
      isplitr [HO]
      · isplitl [Hh] <;> iassumption
      · iexact HO⟩)
    (hinit := init m ρ)
    (QY := fun c s => (s.mem ((c : Thread nD τ).loc main_arg0) = Vn m c (Proc.devRef .tc main_arg0) ∧ s.mem ((c : Thread nD τ).loc main_arg1) = Vn m c (Proc.devRef .tc main_arg1)
        ∧ s.mem ((c : Thread nD τ).loc main_arg2) = Vn m c (Proc.devRef .tc main_arg2) ∧ s.mem ((c : Thread nD τ).loc main_v11) = Vn m c (Proc.devRef .tc main_v11))
      ∧ s.sem (cell c .bar) = 0)
    (hfin := fun c s' => by
      dsimp only [Tₙ]
      rw [StableHlo.held_sub_split (c : Thread nD τ) reads_sub (Vn m c)]
      rw [show (StableHlo.held (c : Thread nD τ) reads (Vn m c) : sProp 𝕄)
          = iprop((((c : Thread nD τ).loc main_arg0) ↦{fullShare} (Vn m c (Proc.devRef .tc main_arg0))) ∗ (((c : Thread nD τ).loc main_arg1) ↦{fullShare} (Vn m c (Proc.devRef .tc main_arg1)))
            ∗ (((c : Thread nD τ).loc main_arg2) ↦{fullShare} (Vn m c (Proc.devRef .tc main_arg2))) ∗ (((c : Thread nD τ).loc main_v11) ↦{fullShare} (Vn m c (Proc.devRef .tc main_v11)))) from by
        unfold StableHlo.held reads
        rw [bigSep_insert (by decide), bigSep_insert (by decide), bigSep_insert (by decide), bigSep_singleton]
        rfl]
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => (h c).1, sem_eq_zero hs fun c sm hsm => by
        obtain rfl := unscoped_eq sm hsm
        exact (h c).2⟩)

end Cert.KernelIdeal.Att

end
-- ==== Proof.Reads.lean ====
/-
  What a device's program prepares from its arguments, and what it makes of its result, one element at a time.
-/
module

public import proofs.«01_k».proof.Proof.Weights
public import proofs.«01_k».proof.Proof.Whole

@[expose] public section

noncomputable section

namespace Cert.KernelIdeal.Att

open Idealize.ShloMosaic
open Cert.KernelIdeal.Gen

variable (m : (ℓ : Loc nD τ sig) → Buf (Elt Ideal) ℓ) (c : Dev nD)

theorem q_at (h : Fin 16) (j : Fin 1024) (d : Fin 128) :
    qf m c (ix3 h j d) = (m (c.tc.loc main_arg0) : S1x1024x16x128.Idx → EReal) (ix4 (0 : Fin 1) j h d) := by
  unfold qf
  simp only [V, V0, hostOps0, List.flatten_cons, List.flatten_nil, List.append_nil]
  after_results
  pointwise

theorem k_at (h : Fin 16) (j : Fin 1024) (d : Fin 128) :
    kvf m c 0 (ix3 h j d) = (m (c.tc.loc main_arg1) : S1x1024x16x128.Idx → EReal) (ix4 (0 : Fin 1) j h d) := by
  unfold kvf
  simp only [V, V0, hostOps0, List.flatten_cons, List.flatten_nil, List.append_nil]
  after_results
  pointwise

theorem v_at (h : Fin 16) (j : Fin 1024) (d : Fin 128) :
    kvf m c 1 (ix3 h j d) = (m (c.tc.loc main_arg2) : S1x1024x16x128.Idx → EReal) (ix4 (0 : Fin 1) j h d) := by
  unfold kvf
  simp only [V, V0, hostOps0, List.flatten_cons, List.flatten_nil, List.append_nil]
  after_results
  pointwise

theorem res_at (h : Fin 16) (j : Fin 1024) (d : Fin 128) :
    (Vn m c (Proc.devRef .tc main_v11) : S1x1024x16x128.Idx → EReal) (ix4 (0 : Fin 1) j h d) = Res m c (ix3 h j d) := by
  unfold Vn
  after_results
  pointwise
  unfold Vx; rw [Function.update_self]

end Cert.KernelIdeal.Att

end
-- ==== Proof.RefValue.lean ====
/-
  The reference's result, one element at a time.
-/
module

public import proofs.«01_k».proof.Proof.Gen.ReferenceIdeal.Run
public import proofs.«01_k».proof.Proof.Math

@[expose] public section

noncomputable section

namespace Cert.ReferenceIdeal.Ref

open Idealize.ShloMosaic Idealize.ShloMosaic.TcCoe Idealize.SL.Sem
open Cert.ReferenceIdeal.Gen

/-- The whole arrays. -/
abbrev Arr : Type := FVec Ideal S1x4096x16x128 .f32

/-- Every query's score against every key. -/
def scores (Q K : Arr) : FVec Ideal S1x16x4096x4096 .f32 :=
  mulf (Host.dotGeneral dot_S1x4096x16x128_S1x4096x16x128_S1x16x4096x4096_3_3_1_1_02_02 none Q K)
    (broadcastInDim S1x16x4096x4096 ![] bcast_S_S1x16x4096x4096 (constant S_ .f32 0x3DB504F3#32))
/-- One number for each query, given to all its keys. -/
def each (v : FVec Ideal S1x16x4096 .f32) : FVec Ideal S1x16x4096x4096 .f32 :=
  broadcastInDim S1x16x4096x4096 ![0, 1, 2, 3] bcast_S1x16x4096x1_S1x16x4096x4096_0_1_2_3
    (broadcastInDim S1x16x4096x1 ![0, 1, 2] bcast_S1x16x4096_S1x16x4096x1_0_1_2 v)
/-- A query's largest score. -/
def peak (s : FVec Ideal S1x16x4096x4096 .f32) : FVec Ideal S1x16x4096 .f32 :=
  Host.reduce FloatOps.maximumf s (constant S_ .f32 0xFF800000#32) reducesTo_S1x16x4096x4096_S1x16x4096_d3 h_S_
/-- The exponentials, before they are divided by their sum. -/
def expo (s : FVec Ideal S1x16x4096x4096 .f32) : FVec Ideal S1x16x4096x4096 .f32 := Host.exp (subf s (each (peak s)))
/-- A query's sum. -/
def total (e : FVec Ideal S1x16x4096x4096 .f32) : FVec Ideal S1x16x4096 .f32 :=
  Host.reduceAdd e (constant S_ .f32 0x00000000#32) reducesTo_S1x16x4096x4096_S1x16x4096_d3 h_S_
/-- The result, from the exponentials. -/
def mean (e : FVec Ideal S1x16x4096x4096 .f32) (V : Arr) : Arr :=
  transpose S1x4096x16x128 [0, 3, 1, 2] (Host.dotGeneral dot_S1x4096x16x128_S1x16x4096x4096_S1x16x128x4096_1_3_3_2_02_01 none V
    (Host.divf e (each (total e)))) transposes_S1x16x128x4096_S1x4096x16x128_0_3_1_2
/-- The reference's result. -/
def out (Q K V : Arr) : Arr := mean (expo (scores Q K)) V

variable (h : Fin 16)

theorem scores_at (Q K : Arr) (i j : Fin 4096) : scores Q K (ix4 (0 : Fin 1) h i j)
    = (∑ d : Fin 128, Q (ix4 (0 : Fin 1) i h d) * K (ix4 (0 : Fin 1) j h d)) * Ideal.ofBits .f32 0x3DB504F3#32 := by
  pointwise [scores]

theorem least : Ideal.ofBits .f32 0xFF800000#32 = (⊥ : EReal) := by simp [Ideal.ofBits, Ideal.ieee]

theorem expo_at (s : FVec Ideal S1x16x4096x4096 .f32) (i j : Fin 4096) : expo s (ix4 (0 : Fin 1) h i j)
    = Ideal.exp (s (ix4 (0 : Fin 1) h i j) - (Finset.univ : Finset (Fin 4096)).fold max (⊥ : EReal) (fun k => s (ix4 (0 : Fin 1) h i k))) := by
  pointwise [expo, each, peak]
  rw [least]

theorem mean_at (e : FVec Ideal S1x16x4096x4096 .f32) (V : Arr) (i : Fin 4096) (d : Fin 128) : mean e V (ix4 (0 : Fin 1) i h d)
    = ∑ k : Fin 4096, V (ix4 (0 : Fin 1) k h d) * Ideal.div (e (ix4 (0 : Fin 1) h i k)) (∑ k' : Fin 4096, e (ix4 (0 : Fin 1) h i k')) := by
  pointwise [mean, each, total]

/-- The scale is real. -/
theorem scale_real : ∃ r : ℝ, Ideal.ofBits .f32 0x3DB504F3#32 = (r : EReal) := by
  simp only [Ideal.ofBits, Ideal.ieee]
  rw [if_neg (by decide), if_neg (by decide)]
  exact ⟨_, rfl⟩

theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.Ref

end
-- ==== Proof.Same.lean ====
/-
  Where queries and keys are real, a device's result is its block of the reference's.
-/
module

public import proofs.«01_k».proof.Proof.Reads
public import proofs.«01_k».proof.Proof.RefValue
public import Idealize.ShloMosaic.Lib.Layout

@[expose] public section

noncomputable section

namespace Cert.Proof

open Idealize.ShloMosaic
open Cert.KernelIdeal.Att (scale score zc)
open Cert.ReferenceIdeal.Ref (Arr)

/-! ## The reference's result, divided at the end -/

section
variable (Q K V : Arr)

/-- The score of query `i` against key `j`. -/
def sc (h : Fin 16) (i j : Fin 4096) : EReal := ∑ d : Fin 128, Q (ix4 (0 : Fin 1) i h d) * scale * K (ix4 (0 : Fin 1) j h d)

variable (hQ : ∀ x, ∃ r : ℝ, Q x = (r : EReal)) (hK : ∀ x, ∃ r : ℝ, K x = (r : EReal))
include hQ hK

/-- It is real, and the reference's. -/
theorem sc_real (h : Fin 16) (i j : Fin 4096) : ∃ r : ℝ, sc Q K h i j = (r : EReal)
    ∧ Cert.ReferenceIdeal.Ref.scores Q K (ix4 (0 : Fin 1) h i j) = (r : EReal) := by
  choose q hq using hQ
  choose k hk using hK
  obtain ⟨t, ht⟩ := Cert.ReferenceIdeal.Ref.scale_real
  refine ⟨∑ d : Fin 128, q (ix4 (0 : Fin 1) i h d) * t * k (ix4 (0 : Fin 1) j h d), ?_, ?_⟩
  · unfold sc scale
    rw [Cert.Softmax.coe_total]
    refine Finset.sum_congr rfl fun d _ => ?_
    rw [hq, hk, ht, EReal.coe_mul, EReal.coe_mul]
  · rw [Cert.ReferenceIdeal.Ref.scores_at, ht]
    have e : (∑ d : Fin 128, Q (ix4 (0 : Fin 1) i h d) * K (ix4 (0 : Fin 1) j h d))
        = ((∑ d : Fin 128, q (ix4 (0 : Fin 1) i h d) * k (ix4 (0 : Fin 1) j h d) : ℝ) : EReal) := by
      rw [Cert.Softmax.coe_total]
      refine Finset.sum_congr rfl fun d _ => ?_
      rw [hq, hk, EReal.coe_mul]
    rw [e, ← EReal.coe_mul, Finset.sum_mul]
    exact congrArg _ (Finset.sum_congr rfl fun d _ => by ring)

theorem out_at (i : Fin 4096) (h : Fin 16) (d : Fin 128) : Cert.ReferenceIdeal.Ref.out Q K V (ix4 (0 : Fin 1) i h d)
    = Ideal.div (∑ k : Fin 4096, Ideal.exp (sc Q K h i k) * V (ix4 (0 : Fin 1) k h d)) (∑ k : Fin 4096, Ideal.exp (sc Q K h i k)) := by
  choose s hs hr using fun k => sc_real Q K hQ hK h i k
  obtain ⟨M, hM⟩ := Cert.Softmax.top_real s
  have e (k : Fin 4096) : Cert.ReferenceIdeal.Ref.expo (Cert.ReferenceIdeal.Ref.scores Q K) (ix4 (0 : Fin 1) h i k) = Ideal.exp ((s k : EReal) - (M : EReal)) := by
    rw [Cert.ReferenceIdeal.Ref.expo_at]
    simp only [hr]
    rw [hM]
  unfold Cert.ReferenceIdeal.Ref.out
  rw [Cert.ReferenceIdeal.Ref.mean_at]
  simp only [e, hs]
  exact Cert.Softmax.mean_shift s (fun k => V (ix4 (0 : Fin 1) k h d)) M

end

/-! ## The blocks -/

/-- The row of the whole array that is row `j` of block `z`. -/
def rowOf (z : Fin 4) (j : Fin 1024) : Fin 4096 := ⟨z.val * 1024 + j.val, by omega⟩

/-- What device `c` holds of an array. -/
abbrev part (c : Dev Cert.KernelIdeal.nD) (v : Arr) : Cert.KernelIdeal.S1x1024x16x128.Idx → EReal :=
  Layout.blockN ⟨4, ![1, 1024, 16, 128]⟩ ⟨4, ![1, 4096, 16, 128]⟩ (Layout.meshBlock [2, 4, 4] ![[], [2], [], []] c) v

theorem part_at (c : Dev Cert.KernelIdeal.nD) (v : Arr) (j : Fin 1024) (h : Fin 16) (d : Fin 128) :
    part c v (ix4 (0 : Fin 1) j h d) = v (ix4 (0 : Fin 1) (rowOf (zc c) j) h d) := by
  unfold part
  rw [Layout.blockN_apply]
  congr 1
  funext a
  apply Fin.ext
  rw [Layout.TilesN.idx_val]
  match a with
  | ⟨0, _⟩ => simp [ix4, Layout.meshLin]
  | ⟨1, _⟩ => simp [ix4, Layout.meshLin, Layout.meshCoord, Layout.cutSize, rowOf, zc]
  | ⟨2, _⟩ => simp [ix4, Layout.meshLin]
  | ⟨3, _⟩ => simp [ix4, Layout.meshLin]

/-- An index by its coordinates. -/
theorem coords {n : ℕ} (x : (⟨4, ![1, n, 16, 128]⟩ : Shape).Idx) : ∃ (i : Fin n) (h : Fin 16) (d : Fin 128), x = ix4 (0 : Fin 1) i h d := by
  refine ⟨x 1, x 2, x 3, ?_⟩
  conv_lhs => rw [eq_ix4 x]
  congr 1
  exact Fin.eq_zero (x 0 : Fin 1)

/-- An array all of whose parts are real is real. -/
theorem whole_real (v : Arr) (hv : ∀ (c : Dev Cert.KernelIdeal.nD) (x), ∃ r : ℝ, part c v x = (r : EReal)) (x : Cert.ReferenceIdeal.S1x4096x16x128.Idx) :
    ∃ r : ℝ, v x = (r : EReal) := by
  obtain ⟨i, h, d, rfl⟩ := coords (n := 4096) x
  have hz : i.val / 1024 < 32 := by omega
  have key := hv (⟨i.val / 1024, hz⟩ : Fin 32) (ix4 (0 : Fin 1) (⟨i.val % 1024, Nat.mod_lt _ (by decide)⟩ : Fin 1024) h d)
  rw [part_at] at key
  have e : rowOf (zc (⟨i.val / 1024, hz⟩ : Fin 32)) ⟨i.val % 1024, Nat.mod_lt _ (by decide)⟩ = i := by
    apply Fin.ext
    show i.val / 1024 % 4 * 1024 + i.val % 1024 = i.val
    omega
  rwa [e] at key

/-- A sum over every row is a sum over the blocks, each over its rows. -/
theorem sum_rows (f : Fin 4096 → EReal) : ∑ k, f k = ∑ z : Fin 4, ∑ j : Fin 1024, f (rowOf z j) :=
  Fin.sum_univ_tiles 4 1024 rfl f

/-! ## The two results -/

section
open Cert.KernelIdeal Cert.KernelIdeal.Att

variable (m : (ℓ : Loc nD τ sig) → Buf (Elt Ideal) ℓ) (Q K V : Arr)
  (hq : ∀ c : Dev nD, m (c.tc.loc main_arg0) = part c Q) (hk : ∀ c : Dev nD, m (c.tc.loc main_arg1) = part c K)
  (hv : ∀ c : Dev nD, m (c.tc.loc main_arg2) = part c V)
include hq hk hv

theorem score_eq (c c' : Dev nD) (h : Fin 16) (i j : Fin 1024) :
    score (qf m c) (kvf m c' 0) h i j = sc Q K h (rowOf (zc c) i) (rowOf (zc c') j) := by
  unfold score sc
  refine Finset.sum_congr rfl fun d _ => ?_
  rw [q_at, k_at, hq, hk, part_at, part_at]

theorem Res_eq (hQ : ∀ x, ∃ r : ℝ, Q x = (r : EReal)) (hK : ∀ x, ∃ r : ℝ, K x = (r : EReal)) (c : Dev nD) (h : Fin 16) (i : Fin 1024) (d : Fin 128) :
    Res m c (ix3 h i d) = Cert.ReferenceIdeal.Ref.out Q K V (ix4 (0 : Fin 1) (rowOf (zc c) i) h d) := by
  rw [out_at Q K V hQ hK, sum_rows, sum_rows]
  unfold Res
  rw [outF_at]
  unfold blk
  have e (b : ℕ) (j : Fin 1024) : kvf m ((pv (dirH h))^[b] c) 1 (ix3 h j d) = V (ix4 (0 : Fin 1) (rowOf (zc ((pv (dirH h))^[b] c)) j) h d) := by
    rw [v_at, hv, part_at]
  simp only [score_eq m Q K V hq hk hv, e]
  rw [ring_sum (fun z => ∑ j, Ideal.exp (sc Q K h (rowOf (zc c) i) (rowOf z j)) * V (ix4 (0 : Fin 1) (rowOf z j) h d)) (dirH h) c,
    ring_sum (fun z => ∑ j, Ideal.exp (sc Q K h (rowOf (zc c) i) (rowOf z j))) (dirH h) c]

theorem end_eq (hQ : ∀ x, ∃ r : ℝ, Q x = (r : EReal)) (hK : ∀ x, ∃ r : ℝ, K x = (r : EReal)) (c : Dev nD) :
    (Vn m c (Proc.devRef .tc main_v11) : S1x1024x16x128.Idx → EReal) = part c (Cert.ReferenceIdeal.Ref.out Q K V) := by
  refine funext fun (x : (⟨4, ![1, 1024, 16, 128]⟩ : Shape).Idx) => ?_
  obtain ⟨i, h, d, rfl⟩ := coords x
  exact (res_at m c h i d).trans ((Res_eq m Q K V hq hk hv hQ hK c h i d).trans (part_at c _ i h d).symm)

end

end Cert.Proof

end
-- ==== Proof.Real.lean ====
/-
  The precondition read: every query and key is a real number.
-/
module

public import proofs.«01_k».proof.Defs
public import Idealize.ShloMosaic.Lib.Pointwise
public import Idealize.ShloMosaic.Lib.ReduceAll
public import Idealize.ShloMosaic.Lib.Decide

@[expose] public section

noncomputable section

namespace Cert.Proof

open Idealize.ShloMosaic

theorem pre_facts_kernel : Cert.Pre_finite_KernelIdeal.Facts where
  bcast_S_S1x1024x16x128 := by decide
  reducesTo_S1x1024x16x128_S_d0_1_2_3 := by decide
  h_S_ := by decide
theorem pre_facts_reference : Cert.Pre_finite_ReferenceIdeal.Facts := by
  constructor <;> decide

instance : Cert.Pre_finite_KernelIdeal.Facts := pre_facts_kernel

theorem infinite : Ideal.ofBits .f32 0x7F800000#32 = (⊤ : EReal) := by simp [Ideal.ofBits, Ideal.ieee]

theorem bit_true (p : Bool) : BitVec.ofBool p = 1#1 → p = true := by cases p <;> decide
theorem both_true (a b : BitVec 1) : a &&& b = 1#1 → a = 1#1 ∧ b = 1#1 := by revert a b; decide

/-- What lies below the infinities is real. -/
theorem real_of_abs (x : EReal) (h : max x (-x) < ⊤) : ∃ r : ℝ, x = (r : EReal) := by
  induction x with
  | bot => simp at h
  | top => simp at h
  | coe r => exact ⟨r, rfl⟩

/-- One array's test. -/
theorem real_of_test (a : FVec Ideal Cert.Pre_finite_KernelIdeal.S1x1024x16x128 .f32) (i : Cert.Pre_finite_KernelIdeal.S1x1024x16x128.Idx)
    (h : cmpf .olt (Host.absf a) (broadcastInDim Cert.Pre_finite_KernelIdeal.S1x1024x16x128 ![] Cert.Pre_finite_KernelIdeal.Facts.bcast_S_S1x1024x16x128
      (constant (F := Ideal) Cert.Pre_finite_KernelIdeal.S_ .f32 0x7F800000#32)) i = 1#1) : ∃ r : ℝ, a i = (r : EReal) := by
  refine real_of_abs _ ?_
  rw [← infinite]
  exact of_decide_eq_true (bit_true _ h)

theorem real_of_pre (q k v : FVec Ideal Cert.Pre_finite_KernelIdeal.S1x1024x16x128 .f32)
    (h : Cert.Pre_finite_KernelIdeal.fn (F := Ideal) q k v = fun _ => 1#1) :
    (∀ i, ∃ r : ℝ, q i = (r : EReal)) ∧ ∀ i, ∃ r : ℝ, k i = (r : EReal) := by
  have h0 := congrFun h ix0
  obtain ⟨hq, hk⟩ := both_true _ _ h0
  have : Subsingleton Cert.Pre_finite_KernelIdeal.S_.Idx := ⟨fun a b => funext fun j => j.elim0⟩
  exact ⟨fun i => real_of_test q i (Host.reduce_andi_all _ _ _ _ _ hq i), fun i => real_of_test k i (Host.reduce_andi_all _ _ _ _ _ hk i)⟩

end Cert.Proof

end
-- ==== Proof.Ends.lean ====
/-
  What the program leaves: its arguments as they were, its result as computed.
-/
module

public import proofs.«01_k».proof.Proof.Whole

@[expose] public section

noncomputable section

namespace Cert.KernelIdeal.Att

open Idealize.ShloMosaic Idealize.ShloMosaic.TcCoe Idealize.SL Idealize.SL.Sem
open Cert.KernelIdeal.Gen

variable {F : FTy → Type} [FloatOps F]
variable (m : (ℓ : Loc nD τ sig) → Buf (Elt F) ℓ) (ρ : Dev nD → PrngReg)

/-- The last shape writes two buffers, the region one, and the preparation none of the arguments. -/
theorem Vn_other (c : Dev nD) (b : Ref sig .tc) (h9 : b ≠ main_v9) (h10 : b ≠ main_v10) (h11 : b ≠ main_v11) :
    Vn m c (Proc.devRef .tc b) = V m c b := by
  refine (StableHlo.after_of_forall_not_mem (b := Proc.devRef .tc b) _ _ (List.forall_iff_forall_mem.mp ?_)).trans
    (Vx_ne m c _ (StableHlo.devRef_ne_of_ne h9))
  simp only [hostOps1, List.Forall, StableHlo.unary_writes, Finset.mem_singleton]
  exact ⟨StableHlo.devRef_ne_of_ne h10, StableHlo.devRef_ne_of_ne h11⟩

/-- From any memory the program ends with its arguments unchanged, its result as computed, and every counter at zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v11) = Vn m c (Proc.devRef .tc main_v11))
      ∧ r.2.sem = fun _ => 0) :=
  (θ_run _ _ _).mono (fun r ⟨h, hs⟩ => ⟨fun c => by
    obtain ⟨h0, h1, h2, h3⟩ := h c
    refine ⟨⟨h0.trans ?_, h1.trans ?_, h2.trans ?_⟩, h3⟩
    · exact (Vn_other m c main_arg0 (by decide) (by decide) (by decide)).trans (V_main_arg0 m c)
    · exact (Vn_other m c main_arg1 (by decide) (by decide) (by decide)).trans (V_main_arg1 m c)
    · exact (Vn_other m c main_arg2 (by decide) (by decide) (by decide)).trans (V_main_arg2 m c), hs⟩) (run_vals m ρ)

end Cert.KernelIdeal.Att

end
-- ==== Proof.Frames.lean ====
/-
  The programs run, leave their arguments alone, and end with every counter at zero.
-/
module

public import proofs.«01_k».proof.Defs
public import proofs.«01_k».proof.Proof.Ends
public import proofs.«01_k».proof.Proof.Gen.Kernel
public import proofs.«01_k».proof.Proof.Gen.ReferenceIdeal.Run

@[expose] public section

set_option maxRecDepth 65536

noncomputable section

namespace Cert.Proof

open Idealize.ShloMosaic Idealize.SL.Sem

/-- The kernel and its idealization have the same text. -/
theorem table_same [Cert.KernelIdeal.Facts] [Cert.Kernel.Facts] :
    Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

theorem defs_same [Cert.KernelIdeal.Facts] [Cert.Kernel.Facts] :
    Cert.Kernel.defs (F := Bits) = Cert.KernelIdeal.defs (F := Bits) :=
  congrArg (Pipeline.defs (Cert.KernelIdeal.pcfgs (F := Bits))) table_same

/-- So one run serves for both. -/
theorem frame_kernel : Cert.quiescent_Kernel := fun m ρ _ => by
  rw [defs_same]
  exact (θ_run Cert.KernelIdeal.defs _ _).mono (fun _ h => ⟨fun c => (h.1 c).1, h.2⟩) (Cert.KernelIdeal.Att.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Att.run_main (F := Ideal) m ρ)

/-- The reference names no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Value.lean ====
/-
  The claim of equal values: from parts of one set of arrays, every device ends holding its part of the
  reference's result.
-/
module

public import proofs.«01_k».proof.Proof.Same
public import proofs.«01_k».proof.Proof.Real
public import proofs.«01_k».proof.Proof.Frames

@[expose] public section

noncomputable section

namespace Cert.Proof

open Idealize.ShloMosaic Idealize.SL.Sem
open Cert.ReferenceIdeal.Ref (Arr)

theorem frame_ideal_pre : Cert.quiescent_KernelIdeal_pre_finite_KernelIdeal := fun m ρ _ => frame_ideal m ρ trivial

theorem frame_reference_pre : Cert.quiescent_ReferenceIdeal_pre_finite_ReferenceIdeal (hPre_finite_ReferenceIdeal := pre_facts_reference) :=
  fun m ρ _ => frame_reference m ρ trivial

theorem values : Cert.algebraic_KernelIdeal_ReferenceIdeal_pre_finite_KernelIdeal := by
  intro m g m' g' hpre hargs
  let Q : Arr := m' (((0 : Dev Cert.ReferenceIdeal.nD).tc : Thread Cert.ReferenceIdeal.nD Cert.ReferenceIdeal.τ).loc Cert.ReferenceIdeal.main_arg0)
  let K : Arr := m' (((0 : Dev Cert.ReferenceIdeal.nD).tc : Thread Cert.ReferenceIdeal.nD Cert.ReferenceIdeal.τ).loc Cert.ReferenceIdeal.main_arg1)
  let V : Arr := m' (((0 : Dev Cert.ReferenceIdeal.nD).tc : Thread Cert.ReferenceIdeal.nD Cert.ReferenceIdeal.τ).loc Cert.ReferenceIdeal.main_arg2)
  have hq (c : Dev Cert.KernelIdeal.nD) : m (c.tc.loc Cert.KernelIdeal.main_arg0) = part c Q := (hargs c).1
  have hk (c : Dev Cert.KernelIdeal.nD) : m (c.tc.loc Cert.KernelIdeal.main_arg1) = part c K := (hargs c).2.1
  have hv (c : Dev Cert.KernelIdeal.nD) : m (c.tc.loc Cert.KernelIdeal.main_arg2) = part c V := (hargs c).2.2
  have hQ : ∀ x, ∃ r : ℝ, Q x = (r : EReal) := whole_real Q fun c x => by rw [← hq c]; exact (real_of_pre _ _ _ (hpre c)).1 x
  have hK : ∀ x, ∃ r : ℝ, K x = (r : EReal) := whole_real K fun c x => by rw [← hk c]; exact (real_of_pre _ _ _ (hpre c)).2 x
  refine ⟨Cert.ReferenceIdeal.Ref.out Q K V, ?_, ?_⟩
  · exact (θ_run Cert.KernelIdeal.defs _ _).mono (fun _ h c => ⟨((h.1 c).2).trans (end_eq m Q K V hq hk hv hQ hK c), (h.1 c).1⟩)
      (Cert.KernelIdeal.Att.run_main (F := Ideal) m g)
  · exact (θ_run Cert.ReferenceIdeal.defs _ _).mono (fun _ h => h 0) (Cert.ReferenceIdeal.Ref.run_out m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_facts_kernel, pre_facts_reference,
  frame_kernel, frame_ideal, frame_ideal_pre, frame_reference, frame_reference_pre, trivial, values⟩

end Cert.Proof

end
